-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S4096x1408 : Shape := ⟨2, ![4096, 1408]⟩
abbrev S4096x1280 : Shape := ⟨2, ![4096, 1280]⟩
abbrev S2048x1024 : Shape := ⟨2, ![2048, 1024]⟩
abbrev S2x512x1024 : Shape := ⟨3, ![2, 512, 1024]⟩
abbrev S5 : Shape := ⟨1, ![5]⟩
abbrev S2 : Shape := ⟨1, ![2]⟩
abbrev S3x3 : Shape := ⟨2, ![3, 3]⟩
abbrev S3x2 : Shape := ⟨2, ![3, 2]⟩
abbrev S3x4 : Shape := ⟨2, ![3, 4]⟩
abbrev S_ : Shape := ⟨0, ![]⟩
abbrev S512x1408 : Shape := ⟨2, ![512, 1408]⟩
abbrev S512x1280 : Shape := ⟨2, ![512, 1280]⟩
abbrev S1x1 : Shape := ⟨2, ![1, 1]⟩
abbrev S1408x1024 : Shape := ⟨2, ![1408, 1024]⟩
abbrev S512x1024 : Shape := ⟨2, ![512, 1024]⟩
abbrev S1280x1024 : Shape := ⟨2, ![1280, 1024]⟩
abbrev S1x512x1024 : Shape := ⟨3, ![1, 512, 1024]⟩

abbrev nBuf : Space → Nat
  | .hbm => 5
  | .vmem => 8
  | .smem => 2
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S4096x1408, .fp8e4m3⟩
  | .local _ .vmem, ⟨1, _⟩ => ⟨S4096x1408, .fp8e4m3⟩
  | .local _ .vmem, ⟨2, _⟩ => ⟨S4096x1280, .fp8e4m3⟩
  | .local _ .vmem, ⟨3, _⟩ => ⟨S512x4096, .f32⟩
  | .local _ .vmem, ⟨4, _⟩ => ⟨S2048x1024, .f32⟩
  | .local _ .vmem, ⟨5, _⟩ => ⟨S4096x1024, .fp8e4m3⟩
  | .local _ .vmem, ⟨6, _⟩ => ⟨S4096x1024, .f32⟩
  | .local _ .vmem, ⟨7, _⟩ => ⟨S2x512x1024, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v16 : BitVec 32 := Scalar.xori v2 c1_i32_11
  let c1_i32_13 : BitVec 32 := 1#32
  let v17 : BitVec 32 := Scalar.muli v16 c1_i32_13
  let v18 : BitVec 32 := Scalar.addi c0_i32_14 v17
  v18.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 32 := Scalar.xori v2 c3_i32
  let c1_i32_16 : BitVec 32 := 1#32
  let v20 : BitVec 32 := Scalar.muli v19 c1_i32_16
  let v21 : BitVec 32 := Scalar.addi c0_i32_17 v20
  v21.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.xori v2 c4_i32
  let c1_i32_19 : BitVec 32 := 1#32
  let v23 : BitVec 32 := Scalar.muli v22 c1_i32_19
  let v24 : BitVec 32 := Scalar.addi c0_i32_20 v23
  v24.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v37 : BitVec 32 := Scalar.xori v2 c1_i32_32
  let c1_i32_37 : BitVec 32 := 1#32
  let v38 : BitVec 32 := Scalar.muli v37 c1_i32_37
  let v39 : BitVec 32 := Scalar.addi c0_i32_38 v38
  v39.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v55 : BitVec 32 := Scalar.xori v2 c3_i32_50
  let c1_i32_55 : BitVec 32 := 1#32
  let v56 : BitVec 32 := Scalar.muli v55 c1_i32_55
  let v57 : BitVec 32 := Scalar.addi c0_i32_56 v56
  v57.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v73 : BitVec 32 := Scalar.xori v2 c4_i32_69
  let c1_i32_74 : BitVec 32 := 1#32
  let v74 : BitVec 32 := Scalar.muli v73 c1_i32_74
  let v75 : BitVec 32 := Scalar.addi c0_i32_75 v74
  v75.toNat
def k0_off1 (d0 : Dev nD) (c0_i32_125 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.xori v2 c0_i32_125
  let c512_i32_126 : BitVec 32 := 512#32
  let v132 : BitVec 32 := Scalar.muli v131 c512_i32_126
  let c0_i32_132 : BitVec 32 := 0#32
  ![v132.toNat, 0]
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v151 : BitVec 32 := Scalar.xori v2 c1_i32_154
  let c1_i32_159 : BitVec 32 := 1#32
  let v152 : BitVec 32 := Scalar.muli v151 c1_i32_159
  let v153 : BitVec 32 := Scalar.addi c0_i32_160 v152
  v153.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_164 : BitVec 32 := 1#32
  let v160 : BitVec 32 := Scalar.xori v2 c1_i32_164
  let c1_i32_169 : BitVec 32 := 1#32
  let v161 : BitVec 32 := Scalar.muli v160 c1_i32_169
  let v162 : BitVec 32 := Scalar.addi c0_i32_170 v161
  v162.toNat
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v179 : BitVec 32 := Scalar.xori v2 c3_i32_193
  let c1_i32_198 : BitVec 32 := 1#32
  let v180 : BitVec 32 := Scalar.muli v179 c1_i32_198
  let v181 : BitVec 32 := Scalar.addi c0_i32_199 v180
  v181.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_204 : BitVec 32 := 3#32
  let v188 : BitVec 32 := Scalar.xori v2 c3_i32_204
  let c1_i32_209 : BitVec 32 := 1#32
  let v189 : BitVec 32 := Scalar.muli v188 c1_i32_209
  let v190 : BitVec 32 := Scalar.addi c0_i32_210 v189
  v190.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v207 : BitVec 32 := Scalar.xori v2 c4_i32_234
  let c1_i32_239 : BitVec 32 := 1#32
  let v208 : BitVec 32 := Scalar.muli v207 c1_i32_239
  let v209 : BitVec 32 := Scalar.addi c0_i32_240 v208
  v209.toNat
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v216 : BitVec 32 := Scalar.xori v2 c4_i32_245
  let c1_i32_250 : BitVec 32 := 1#32
  let v217 : BitVec 32 := Scalar.muli v216 c1_i32_250
  let v218 : BitVec 32 := Scalar.addi c0_i32_251 v217
  v218.toNat
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_313 : BitVec 32 := 3#32
  let v263 : BitVec 32 := Scalar.xori v2 c3_i32_313
  let c1_i32_318 : BitVec 32 := 1#32
  let v264 : BitVec 32 := Scalar.muli v263 c1_i32_318
  let v265 : BitVec 32 := Scalar.addi c0_i32_319 v264
  v265.toNat
def k0_dev14 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_324 : BitVec 32 := 3#32
  let v272 : BitVec 32 := Scalar.xori v2 c3_i32_324
  let c1_i32_329 : BitVec 32 := 1#32
  let v273 : BitVec 32 := Scalar.muli v272 c1_i32_329
  let v274 : BitVec 32 := Scalar.addi c0_i32_330 v273
  v274.toNat
def k0_dev15 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_334 : BitVec 32 := 3#32
  let v281 : BitVec 32 := Scalar.xori v2 c3_i32_334
  let c1_i32_339 : BitVec 32 := 1#32
  let v282 : BitVec 32 := Scalar.muli v281 c1_i32_339
  let v283 : BitVec 32 := Scalar.addi c0_i32_340 v282
  v283.toNat
def k0_dev16 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_344 : BitVec 32 := 3#32
  let v290 : BitVec 32 := Scalar.xori v2 c3_i32_344
  let c1_i32_349 : BitVec 32 := 1#32
  let v291 : BitVec 32 := Scalar.muli v290 c1_i32_349
  let v292 : BitVec 32 := Scalar.addi c0_i32_350 v291
  v292.toNat
def k0_dev17 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_392 : BitVec 32 := 4#32
  let v319 : BitVec 32 := Scalar.xori v2 c4_i32_392
  let c1_i32_397 : BitVec 32 := 1#32
  let v320 : BitVec 32 := Scalar.muli v319 c1_i32_397
  let v321 : BitVec 32 := Scalar.addi c0_i32_398 v320
  v321.toNat
def k0_dev18 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_403 : BitVec 32 := 4#32
  let v328 : BitVec 32 := Scalar.xori v2 c4_i32_403
  let c1_i32_408 : BitVec 32 := 1#32
  let v329 : BitVec 32 := Scalar.muli v328 c1_i32_408
  let v330 : BitVec 32 := Scalar.addi c0_i32_409 v329
  v330.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_414 : BitVec 32 := 4#32
  let v337 : BitVec 32 := Scalar.xori v2 c4_i32_414
  let c1_i32_419 : BitVec 32 := 1#32
  let v338 : BitVec 32 := Scalar.muli v337 c1_i32_419
  let v339 : BitVec 32 := Scalar.addi c0_i32_420 v338
  v339.toNat
def k0_dev20 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_425 : BitVec 32 := 4#32
  let v346 : BitVec 32 := Scalar.xori v2 c4_i32_425
  let c1_i32_430 : BitVec 32 := 1#32
  let v347 : BitVec 32 := Scalar.muli v346 c1_i32_430
  let v348 : BitVec 32 := Scalar.addi c0_i32_431 v347
  v348.toNat
def k0_dev21 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_474 : BitVec 32 := 1#32
  let v375 : BitVec 32 := Scalar.xori v2 c1_i32_474
  let c1_i32_479 : BitVec 32 := 1#32
  let v376 : BitVec 32 := Scalar.muli v375 c1_i32_479
  let v377 : BitVec 32 := Scalar.addi c0_i32_480 v376
  v377.toNat
def k0_dev22 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v384 : BitVec 32 := Scalar.xori v2 c1_i32_485
  let c1_i32_490 : BitVec 32 := 1#32
  let v385 : BitVec 32 := Scalar.muli v384 c1_i32_490
  let v386 : BitVec 32 := Scalar.addi c0_i32_491 v385
  v386.toNat
def k0_dev23 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_496 : BitVec 32 := 1#32
  let v393 : BitVec 32 := Scalar.xori v2 c1_i32_496
  let c1_i32_501 : BitVec 32 := 1#32
  let v394 : BitVec 32 := Scalar.muli v393 c1_i32_501
  let v395 : BitVec 32 := Scalar.addi c0_i32_502 v394
  v395.toNat
def k0_dev24 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_507 : BitVec 32 := 1#32
  let v402 : BitVec 32 := Scalar.xori v2 c1_i32_507
  let c1_i32_512 : BitVec 32 := 1#32
  let v403 : BitVec 32 := Scalar.muli v402 c1_i32_512
  let v404 : BitVec 32 := Scalar.addi c0_i32_513 v403
  v404.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Memref
public import Idealize.ShloMosaic.Lib.MemrefSat
public import Idealize.ShloMosaic.Lib.Tactic

/-! The protocol of the kernel: cells, tables, contents, schedule, levels. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

/-! ## The resource algebra -/

/-- The rounds' own copy (duties numbered below four) and the counters of the local copies. -/
abbrev UB : Type := URounds (GSem nD τ sig) (Fin 4)
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev E2 : Emb (UB × Counters) (MT nD τ sig ℕ (Elt F) ℕ UU ℕ) := embR

abbrev ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb

/-- The counters of the local copies. -/
abbrev EC : UEmb Counters (MT nD τ sig ℕ (Elt F) ℕ UU ℕ) := countersEmb

abbrev 𝒱₀ : Variants := Variants.none

/-- The weakest precondition of a program of device `c`. -/
abbrev wpk {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The hypercube -/

/-- The device whose number is `c`'s exclusive-or `k`. -/
def xo (c : Dev nD) (k : ℕ) : Dev nD := ⟨(c.val ^^^ k) % 8, Nat.mod_lt _ (by decide)⟩

theorem xo_zero (c : Dev nD) : xo c 0 = c := by revert c; decide
theorem xo_xo_1 (c : Dev nD) : xo (xo c 1) 1 = c := by revert c; decide
theorem xo_xo_3 (c : Dev nD) : xo (xo c 3) 3 = c := by revert c; decide
theorem xo_xo_4 (c : Dev nD) : xo (xo c 4) 4 = c := by revert c; decide
theorem dev1_eq (c : Dev nD) : (⟨k0_dev1 c, k0_dev1_lt c⟩ : Dev nD) = xo c 1 := by revert c; decide +kernel
theorem dev2_eq (c : Dev nD) : (⟨k0_dev2 c, k0_dev2_lt c⟩ : Dev nD) = xo c 3 := by revert c; decide +kernel
theorem dev3_eq (c : Dev nD) : (⟨k0_dev3 c, k0_dev3_lt c⟩ : Dev nD) = xo c 4 := by revert c; decide +kernel
theorem dev4_eq (c : Dev nD) : (⟨k0_dev4 c, k0_dev4_lt c⟩ : Dev nD) = xo c 1 := by revert c; decide +kernel
theorem dev5_eq (c : Dev nD) : (⟨k0_dev5 c, k0_dev5_lt c⟩ : Dev nD) = xo c 3 := by revert c; decide +kernel
theorem dev6_eq (c : Dev nD) : (⟨k0_dev6 c, k0_dev6_lt c⟩ : Dev nD) = xo c 4 := by revert c; decide +kernel
theorem dev7_eq (c : Dev nD) : (⟨k0_dev7 c, k0_dev7_lt c⟩ : Dev nD) = xo c 1 := by revert c; decide +kernel
theorem dev8_eq (c : Dev nD) : (⟨k0_dev8 c, k0_dev8_lt c⟩ : Dev nD) = xo c 1 := by revert c; decide +kernel
theorem dev9_eq (c : Dev nD) : (⟨k0_dev9 c, k0_dev9_lt c⟩ : Dev nD) = xo c 3 := by revert c; decide +kernel
theorem dev10_eq (c : Dev nD) : (⟨k0_dev10 c, k0_dev10_lt c⟩ : Dev nD) = xo c 3 := by revert c; decide +kernel
theorem dev11_eq (c : Dev nD) : (⟨k0_dev11 c, k0_dev11_lt c⟩ : Dev nD) = xo c 4 := by revert c; decide +kernel
theorem dev12_eq (c : Dev nD) : (⟨k0_dev12 c, k0_dev12_lt c⟩ : Dev nD) = xo c 4 := by revert c; decide +kernel
theorem dev13_eq (c : Dev nD) : (⟨k0_dev13 c, k0_dev13_lt c⟩ : Dev nD) = xo c 3 := by revert c; decide +kernel
theorem dev14_eq (c : Dev nD) : (⟨k0_dev14 c, k0_dev14_lt c⟩ : Dev nD) = xo c 3 := by revert c; decide +kernel
theorem dev15_eq (c : Dev nD) : (⟨k0_dev15 c, k0_dev15_lt c⟩ : Dev nD) = xo c 3 := by revert c; decide +kernel
theorem dev16_eq (c : Dev nD) : (⟨k0_dev16 c, k0_dev16_lt c⟩ : Dev nD) = xo c 3 := by revert c; decide +kernel
theorem dev17_eq (c : Dev nD) : (⟨k0_dev17 c, k0_dev17_lt c⟩ : Dev nD) = xo c 4 := by revert c; decide +kernel
theorem dev18_eq (c : Dev nD) : (⟨k0_dev18 c, k0_dev18_lt c⟩ : Dev nD) = xo c 4 := by revert c; decide +kernel
theorem dev19_eq (c : Dev nD) : (⟨k0_dev19 c, k0_dev19_lt c⟩ : Dev nD) = xo c 4 := by revert c; decide +kernel
theorem dev20_eq (c : Dev nD) : (⟨k0_dev20 c, k0_dev20_lt c⟩ : Dev nD) = xo c 4 := by revert c; decide +kernel
theorem dev21_eq (c : Dev nD) : (⟨k0_dev21 c, k0_dev21_lt c⟩ : Dev nD) = xo c 1 := by revert c; decide +kernel
theorem dev22_eq (c : Dev nD) : (⟨k0_dev22 c, k0_dev22_lt c⟩ : Dev nD) = xo c 1 := by revert c; decide +kernel
theorem dev23_eq (c : Dev nD) : (⟨k0_dev23 c, k0_dev23_lt c⟩ : Dev nD) = xo c 1 := by revert c; decide +kernel
theorem dev24_eq (c : Dev nD) : (⟨k0_dev24 c, k0_dev24_lt c⟩ : Dev nD) = xo c 1 := by revert c; decide +kernel

/-! ## The memrefs -/

abbrev xM : Memref sig .tc .hbm S512x4096 .f32 := Memref.whole main_arg0
abbrev wM : Memref sig .tc .hbm S4096x1024 .f32 := Memref.whole main_arg1
abbrev oM : Memref sig .tc .hbm S4096x1024 .f32 := Memref.whole main_v1
abbrev cA : Memref sig .tc .vmem S4096x1408 .fp8e4m3 := Memref.whole cc0_scratch0
abbrev cB : Memref sig .tc .vmem S4096x1408 .fp8e4m3 := Memref.whole cc0_scratch1
abbrev cC : Memref sig .tc .vmem S4096x1280 .fp8e4m3 := Memref.whole cc0_scratch2
abbrev xfM : Memref sig .tc .vmem S512x4096 .f32 := Memref.whole cc0_scratch3
abbrev wfM : Memref sig .tc .vmem S2048x1024 .f32 := Memref.whole cc0_scratch4
abbrev w8M : Memref sig .tc .vmem S4096x1024 .fp8e4m3 := Memref.whole cc0_scratch5
abbrev acM : Memref sig .tc .vmem S4096x1024 .f32 := Memref.whole cc0_scratch6
abbrev obM : Memref sig .tc .vmem S2x512x1024 .f32 := Memref.whole cc0_scratch7

abbrev rXA : Rect S512x4096 := Rect.unit (s := S512x4096) ![0, 0] S512x1408.size inb_S512x4096_S512x1408_0_0
abbrev xA := (xM).slice rXA (fun _ => rfl)
abbrev xfA := (xfM).slice rXA (fun _ => rfl)
abbrev rWA : Rect S4096x1024 := Rect.unit (s := S4096x1024) ![0, 0] S1408x1024.size inb_S4096x1024_S1408x1024_0_0
abbrev rXB : Rect S512x4096 := Rect.unit (s := S512x4096) ![0, 1408] S512x1408.size inb_S512x4096_S512x1408_0_1408
abbrev xB := (xM).slice rXB (fun _ => rfl)
abbrev xfB := (xfM).slice rXB (fun _ => rfl)
abbrev rWB : Rect S4096x1024 := Rect.unit (s := S4096x1024) ![1408, 0] S1408x1024.size inb_S4096x1024_S1408x1024_1408_0
abbrev rXC : Rect S512x4096 := Rect.unit (s := S512x4096) ![0, 2816] S512x1280.size inb_S512x4096_S512x1280_0_2816
abbrev xC := (xM).slice rXC (fun _ => rfl)
abbrev xfC := (xfM).slice rXC (fun _ => rfl)
abbrev rWC : Rect S4096x1024 := Rect.unit (s := S4096x1024) ![2816, 0] S1280x1024.size inb_S4096x1024_S1280x1024_2816_0
abbrev rWLo : Rect S4096x1024 := Rect.unit (s := S4096x1024) ![0, 0] S2048x1024.size inb_S4096x1024_S2048x1024_0_0
abbrev wLo : Memref sig .tc .hbm S2048x1024 .f32 := (wM).slice rWLo (fun _ => rfl)
abbrev w8Lo := (w8M).slice rWLo (fun _ => rfl)
abbrev rWHi : Rect S4096x1024 := Rect.unit (s := S4096x1024) ![2048, 0] S2048x1024.size inb_S4096x1024_S2048x1024_2048_0
abbrev wHi : Memref sig .tc .hbm S2048x1024 .f32 := (wM).slice rWHi (fun _ => rfl)
abbrev w8Hi := (w8M).slice rWHi (fun _ => rfl)
abbrev rA0 : Rect S4096x1408 := Rect.unit (s := S4096x1408) ![0, 0] S512x1408.size inb_S4096x1408_S512x1408_0_0
abbrev mA0 : Memref sig .tc .vmem S512x1408 .fp8e4m3 := (cA).slice rA0 (fun _ => rfl)
abbrev rA1 : Rect S4096x1408 := Rect.unit (s := S4096x1408) ![512, 0] S512x1408.size inb_S4096x1408_S512x1408_512_0
abbrev mA1 : Memref sig .tc .vmem S512x1408 .fp8e4m3 := (cA).slice rA1 (fun _ => rfl)
abbrev rA2 : Rect S4096x1408 := Rect.unit (s := S4096x1408) ![1024, 0] S512x1408.size inb_S4096x1408_S512x1408_1024_0
abbrev mA2 : Memref sig .tc .vmem S512x1408 .fp8e4m3 := (cA).slice rA2 (fun _ => rfl)
abbrev rA3 : Rect S4096x1408 := Rect.unit (s := S4096x1408) ![1536, 0] S512x1408.size inb_S4096x1408_S512x1408_1536_0
abbrev mA3 : Memref sig .tc .vmem S512x1408 .fp8e4m3 := (cA).slice rA3 (fun _ => rfl)
abbrev rA4 : Rect S4096x1408 := Rect.unit (s := S4096x1408) ![2048, 0] S512x1408.size inb_S4096x1408_S512x1408_2048_0
abbrev mA4 : Memref sig .tc .vmem S512x1408 .fp8e4m3 := (cA).slice rA4 (fun _ => rfl)
abbrev rA5 : Rect S4096x1408 := Rect.unit (s := S4096x1408) ![2560, 0] S512x1408.size inb_S4096x1408_S512x1408_2560_0
abbrev mA5 : Memref sig .tc .vmem S512x1408 .fp8e4m3 := (cA).slice rA5 (fun _ => rfl)
abbrev rA6 : Rect S4096x1408 := Rect.unit (s := S4096x1408) ![3072, 0] S512x1408.size inb_S4096x1408_S512x1408_3072_0
abbrev mA6 : Memref sig .tc .vmem S512x1408 .fp8e4m3 := (cA).slice rA6 (fun _ => rfl)
abbrev rA7 : Rect S4096x1408 := Rect.unit (s := S4096x1408) ![3584, 0] S512x1408.size inb_S4096x1408_S512x1408_3584_0
abbrev mA7 : Memref sig .tc .vmem S512x1408 .fp8e4m3 := (cA).slice rA7 (fun _ => rfl)
abbrev rB0 : Rect S4096x1408 := Rect.unit (s := S4096x1408) ![0, 0] S512x1408.size inb_S4096x1408_S512x1408_0_0
abbrev mB0 : Memref sig .tc .vmem S512x1408 .fp8e4m3 := (cB).slice rB0 (fun _ => rfl)
abbrev rB1 : Rect S4096x1408 := Rect.unit (s := S4096x1408) ![512, 0] S512x1408.size inb_S4096x1408_S512x1408_512_0
abbrev mB1 : Memref sig .tc .vmem S512x1408 .fp8e4m3 := (cB).slice rB1 (fun _ => rfl)
abbrev rB2 : Rect S4096x1408 := Rect.unit (s := S4096x1408) ![1024, 0] S512x1408.size inb_S4096x1408_S512x1408_1024_0
abbrev mB2 : Memref sig .tc .vmem S512x1408 .fp8e4m3 := (cB).slice rB2 (fun _ => rfl)
abbrev rB3 : Rect S4096x1408 := Rect.unit (s := S4096x1408) ![1536, 0] S512x1408.size inb_S4096x1408_S512x1408_1536_0
abbrev mB3 : Memref sig .tc .vmem S512x1408 .fp8e4m3 := (cB).slice rB3 (fun _ => rfl)
abbrev rB4 : Rect S4096x1408 := Rect.unit (s := S4096x1408) ![2048, 0] S512x1408.size inb_S4096x1408_S512x1408_2048_0
abbrev mB4 : Memref sig .tc .vmem S512x1408 .fp8e4m3 := (cB).slice rB4 (fun _ => rfl)
abbrev rB5 : Rect S4096x1408 := Rect.unit (s := S4096x1408) ![2560, 0] S512x1408.size inb_S4096x1408_S512x1408_2560_0
abbrev mB5 : Memref sig .tc .vmem S512x1408 .fp8e4m3 := (cB).slice rB5 (fun _ => rfl)
abbrev rB6 : Rect S4096x1408 := Rect.unit (s := S4096x1408) ![3072, 0] S512x1408.size inb_S4096x1408_S512x1408_3072_0
abbrev mB6 : Memref sig .tc .vmem S512x1408 .fp8e4m3 := (cB).slice rB6 (fun _ => rfl)
abbrev rB7 : Rect S4096x1408 := Rect.unit (s := S4096x1408) ![3584, 0] S512x1408.size inb_S4096x1408_S512x1408_3584_0
abbrev mB7 : Memref sig .tc .vmem S512x1408 .fp8e4m3 := (cB).slice rB7 (fun _ => rfl)
abbrev rC0 : Rect S4096x1280 := Rect.unit (s := S4096x1280) ![0, 0] S512x1280.size inb_S4096x1280_S512x1280_0_0
abbrev mC0 : Memref sig .tc .vmem S512x1280 .fp8e4m3 := (cC).slice rC0 (fun _ => rfl)
abbrev rC1 : Rect S4096x1280 := Rect.unit (s := S4096x1280) ![512, 0] S512x1280.size inb_S4096x1280_S512x1280_512_0
abbrev mC1 : Memref sig .tc .vmem S512x1280 .fp8e4m3 := (cC).slice rC1 (fun _ => rfl)
abbrev rC2 : Rect S4096x1280 := Rect.unit (s := S4096x1280) ![1024, 0] S512x1280.size inb_S4096x1280_S512x1280_1024_0
abbrev mC2 : Memref sig .tc .vmem S512x1280 .fp8e4m3 := (cC).slice rC2 (fun _ => rfl)
abbrev rC3 : Rect S4096x1280 := Rect.unit (s := S4096x1280) ![1536, 0] S512x1280.size inb_S4096x1280_S512x1280_1536_0
abbrev mC3 : Memref sig .tc .vmem S512x1280 .fp8e4m3 := (cC).slice rC3 (fun _ => rfl)
abbrev rC4 : Rect S4096x1280 := Rect.unit (s := S4096x1280) ![2048, 0] S512x1280.size inb_S4096x1280_S512x1280_2048_0
abbrev mC4 : Memref sig .tc .vmem S512x1280 .fp8e4m3 := (cC).slice rC4 (fun _ => rfl)
abbrev rC5 : Rect S4096x1280 := Rect.unit (s := S4096x1280) ![2560, 0] S512x1280.size inb_S4096x1280_S512x1280_2560_0
abbrev mC5 : Memref sig .tc .vmem S512x1280 .fp8e4m3 := (cC).slice rC5 (fun _ => rfl)
abbrev rC6 : Rect S4096x1280 := Rect.unit (s := S4096x1280) ![3072, 0] S512x1280.size inb_S4096x1280_S512x1280_3072_0
abbrev mC6 : Memref sig .tc .vmem S512x1280 .fp8e4m3 := (cC).slice rC6 (fun _ => rfl)
abbrev rC7 : Rect S4096x1280 := Rect.unit (s := S4096x1280) ![3584, 0] S512x1280.size inb_S4096x1280_S512x1280_3584_0
abbrev mC7 : Memref sig .tc .vmem S512x1280 .fp8e4m3 := (cC).slice rC7 (fun _ => rfl)
abbrev rac0 : Rect S4096x1024 := Rect.unit (s := S4096x1024) ![0, 0] S512x1024.size inb_S4096x1024_S512x1024_0_0
abbrev ac0 : Memref sig .tc .vmem S512x1024 .f32 := (acM).slice rac0 (fun _ => rfl)
abbrev rac1 : Rect S4096x1024 := Rect.unit (s := S4096x1024) ![512, 0] S512x1024.size inb_S4096x1024_S512x1024_512_0
abbrev ac1 : Memref sig .tc .vmem S512x1024 .f32 := (acM).slice rac1 (fun _ => rfl)
abbrev rac2 : Rect S4096x1024 := Rect.unit (s := S4096x1024) ![1024, 0] S512x1024.size inb_S4096x1024_S512x1024_1024_0
abbrev ac2 : Memref sig .tc .vmem S512x1024 .f32 := (acM).slice rac2 (fun _ => rfl)
abbrev rac3 : Rect S4096x1024 := Rect.unit (s := S4096x1024) ![1536, 0] S512x1024.size inb_S4096x1024_S512x1024_1536_0
abbrev ac3 : Memref sig .tc .vmem S512x1024 .f32 := (acM).slice rac3 (fun _ => rfl)
abbrev rac4 : Rect S4096x1024 := Rect.unit (s := S4096x1024) ![2048, 0] S512x1024.size inb_S4096x1024_S512x1024_2048_0
abbrev ac4 : Memref sig .tc .vmem S512x1024 .f32 := (acM).slice rac4 (fun _ => rfl)
abbrev rac5 : Rect S4096x1024 := Rect.unit (s := S4096x1024) ![2560, 0] S512x1024.size inb_S4096x1024_S512x1024_2560_0
abbrev ac5 : Memref sig .tc .vmem S512x1024 .f32 := (acM).slice rac5 (fun _ => rfl)
abbrev rac6 : Rect S4096x1024 := Rect.unit (s := S4096x1024) ![3072, 0] S512x1024.size inb_S4096x1024_S512x1024_3072_0
abbrev ac6 : Memref sig .tc .vmem S512x1024 .f32 := (acM).slice rac6 (fun _ => rfl)
abbrev rac7 : Rect S4096x1024 := Rect.unit (s := S4096x1024) ![3584, 0] S512x1024.size inb_S4096x1024_S512x1024_3584_0
abbrev ac7 : Memref sig .tc .vmem S512x1024 .f32 := (acM).slice rac7 (fun _ => rfl)
abbrev ou0 (c : Dev nD) : Memref sig .tc .hbm S512x1024 .f32 := (oM).slice (Rect.unit (s := S4096x1024) (k0_off1 c 0#32) S512x1024.size (k0_off1_inb c 0)) (fun _ => rfl)
abbrev ou1 (c : Dev nD) : Memref sig .tc .hbm S512x1024 .f32 := (oM).slice (Rect.unit (s := S4096x1024) (k0_off1 c 1#32) S512x1024.size (k0_off1_inb c 1)) (fun _ => rfl)
abbrev ou2 (c : Dev nD) : Memref sig .tc .hbm S512x1024 .f32 := (oM).slice (Rect.unit (s := S4096x1024) (k0_off1 c 2#32) S512x1024.size (k0_off1_inb c 2)) (fun _ => rfl)
abbrev ou3 (c : Dev nD) : Memref sig .tc .hbm S512x1024 .f32 := (oM).slice (Rect.unit (s := S4096x1024) (k0_off1 c 3#32) S512x1024.size (k0_off1_inb c 3)) (fun _ => rfl)
abbrev ou4 (c : Dev nD) : Memref sig .tc .hbm S512x1024 .f32 := (oM).slice (Rect.unit (s := S4096x1024) (k0_off1 c 4#32) S512x1024.size (k0_off1_inb c 4)) (fun _ => rfl)
abbrev ou5 (c : Dev nD) : Memref sig .tc .hbm S512x1024 .f32 := (oM).slice (Rect.unit (s := S4096x1024) (k0_off1 c 5#32) S512x1024.size (k0_off1_inb c 5)) (fun _ => rfl)
abbrev ou6 (c : Dev nD) : Memref sig .tc .hbm S512x1024 .f32 := (oM).slice (Rect.unit (s := S4096x1024) (k0_off1 c 6#32) S512x1024.size (k0_off1_inb c 6)) (fun _ => rfl)
abbrev ou7 (c : Dev nD) : Memref sig .tc .hbm S512x1024 .f32 := (oM).slice (Rect.unit (s := S4096x1024) (k0_off1 c 7#32) S512x1024.size (k0_off1_inb c 7)) (fun _ => rfl)
abbrev rob0 : Rect S2x512x1024 := Rect.unit (s := S2x512x1024) ![0, 0, 0] S1x512x1024.size inb_S2x512x1024_S1x512x1024_0_0_0
abbrev ob0 : Memref sig .tc .vmem S512x1024 .f32 := ((obM).slice rob0 (fun _ => rfl)).squeeze S512x1024 squeezes_S1x512x1024_S512x1024
abbrev rob1 : Rect S2x512x1024 := Rect.unit (s := S2x512x1024) ![1, 0, 0] S1x512x1024.size inb_S2x512x1024_S1x512x1024_1_0_0
abbrev ob1 : Memref sig .tc .vmem S512x1024 .f32 := ((obM).slice rob1 (fun _ => rfl)).squeeze S512x1024 squeezes_S1x512x1024_S512x1024
/-- The slots of stripe A's communication buffer. -/
def slA (t : Fin 8) : Memref sig .tc .vmem S512x1408 .fp8e4m3 :=
  match t with
  | 0 => mA0
  | 1 => mA1
  | 2 => mA2
  | 3 => mA3
  | 4 => mA4
  | 5 => mA5
  | 6 => mA6
  | 7 => mA7
/-- The slots of stripe B's communication buffer. -/
def slB (t : Fin 8) : Memref sig .tc .vmem S512x1408 .fp8e4m3 :=
  match t with
  | 0 => mB0
  | 1 => mB1
  | 2 => mB2
  | 3 => mB3
  | 4 => mB4
  | 5 => mB5
  | 6 => mB6
  | 7 => mB7
/-- The slots of stripe C's communication buffer. -/
def slC (t : Fin 8) : Memref sig .tc .vmem S512x1280 .fp8e4m3 :=
  match t with
  | 0 => mC0
  | 1 => mC1
  | 2 => mC2
  | 3 => mC3
  | 4 => mC4
  | 5 => mC5
  | 6 => mC6
  | 7 => mC7
/-- Which device's block a slot holds on device `c`: the one at exclusive-or `off s t` from `c`. -/
def off (s : Fin 3) (t : Fin 8) : ℕ :=
  (match s with
   | 0 => ![0, 1, 3, 2, 4, 5, 7, 6]
   | 1 => ![0, 3, 4, 7, 1, 2, 5, 6]
   | 2 => ![0, 4, 1, 5, 3, 7, 2, 6]
   : Fin 8 → ℕ) t

/-! ## The semaphores -/

abbrev barS : Sem sig := (SemArray.scalar (sig.barrier 0 rfl) : Sems sig S_).sem

abbrev lS0 : DmaSem sig := (((cc0_scratch8 : DmaSems sig S5).slice (Rect.unit (s := S5) ![0] S1.size inb_S5_S1_0)).squeeze S_ squeezes_S1_S_).sem
abbrev lS1 : DmaSem sig := (((cc0_scratch8 : DmaSems sig S5).slice (Rect.unit (s := S5) ![1] S1.size inb_S5_S1_1)).squeeze S_ squeezes_S1_S_).sem
abbrev lS2 : DmaSem sig := (((cc0_scratch8 : DmaSems sig S5).slice (Rect.unit (s := S5) ![2] S1.size inb_S5_S1_2)).squeeze S_ squeezes_S1_S_).sem
abbrev lS3 : DmaSem sig := (((cc0_scratch8 : DmaSems sig S5).slice (Rect.unit (s := S5) ![3] S1.size inb_S5_S1_3)).squeeze S_ squeezes_S1_S_).sem
abbrev lS4 : DmaSem sig := (((cc0_scratch8 : DmaSems sig S5).slice (Rect.unit (s := S5) ![4] S1.size inb_S5_S1_4)).squeeze S_ squeezes_S1_S_).sem
abbrev oS0 : DmaSem sig := (((cc0_scratch9 : DmaSems sig S2).slice (Rect.unit (s := S2) ![0] S1.size inb_S2_S1_0)).squeeze S_ squeezes_S1_S_).sem
abbrev oS1 : DmaSem sig := (((cc0_scratch9 : DmaSems sig S2).slice (Rect.unit (s := S2) ![1] S1.size inb_S2_S1_1)).squeeze S_ squeezes_S1_S_).sem
abbrev dS1 : DmaSem sig := (((cc0_scratch10 : DmaSems sig S3x3).slice (Rect.unit (s := S3x3) ![0, 0] S1x1.size inb_S3x3_S1x1_0_0)).squeeze S_ squeezes_S1x1_S_).sem
abbrev dS2 : DmaSem sig := (((cc0_scratch10 : DmaSems sig S3x3).slice (Rect.unit (s := S3x3) ![0, 1] S1x1.size inb_S3x3_S1x1_0_1)).squeeze S_ squeezes_S1x1_S_).sem
abbrev dS3 : DmaSem sig := (((cc0_scratch10 : DmaSems sig S3x3).slice (Rect.unit (s := S3x3) ![0, 2] S1x1.size inb_S3x3_S1x1_0_2)).squeeze S_ squeezes_S1x1_S_).sem
abbrev dS4 : DmaSem sig := (((cc0_scratch10 : DmaSems sig S3x3).slice (Rect.unit (s := S3x3) ![1, 0] S1x1.size inb_S3x3_S1x1_1_0)).squeeze S_ squeezes_S1x1_S_).sem
abbrev dS5 : DmaSem sig := (((cc0_scratch10 : DmaSems sig S3x3).slice (Rect.unit (s := S3x3) ![1, 1] S1x1.size inb_S3x3_S1x1_1_1)).squeeze S_ squeezes_S1x1_S_).sem
abbrev dS6 : DmaSem sig := (((cc0_scratch10 : DmaSems sig S3x3).slice (Rect.unit (s := S3x3) ![1, 2] S1x1.size inb_S3x3_S1x1_1_2)).squeeze S_ squeezes_S1x1_S_).sem
abbrev dS7 : DmaSem sig := (((cc0_scratch10 : DmaSems sig S3x3).slice (Rect.unit (s := S3x3) ![2, 0] S1x1.size inb_S3x3_S1x1_2_0)).squeeze S_ squeezes_S1x1_S_).sem
abbrev dS8 : DmaSem sig := (((cc0_scratch10 : DmaSems sig S3x3).slice (Rect.unit (s := S3x3) ![2, 1] S1x1.size inb_S3x3_S1x1_2_1)).squeeze S_ squeezes_S1x1_S_).sem
abbrev dS9 : DmaSem sig := (((cc0_scratch10 : DmaSems sig S3x3).slice (Rect.unit (s := S3x3) ![2, 2] S1x1.size inb_S3x3_S1x1_2_2)).squeeze S_ squeezes_S1x1_S_).sem
abbrev dS10 : DmaSem sig := (((cc0_scratch11 : DmaSems sig S3x2).slice (Rect.unit (s := S3x2) ![0, 0] S1x1.size inb_S3x2_S1x1_0_0)).squeeze S_ squeezes_S1x1_S_).sem
abbrev dS11 : DmaSem sig := (((cc0_scratch11 : DmaSems sig S3x2).slice (Rect.unit (s := S3x2) ![0, 1] S1x1.size inb_S3x2_S1x1_0_1)).squeeze S_ squeezes_S1x1_S_).sem
abbrev dS12 : DmaSem sig := (((cc0_scratch11 : DmaSems sig S3x2).slice (Rect.unit (s := S3x2) ![1, 0] S1x1.size inb_S3x2_S1x1_1_0)).squeeze S_ squeezes_S1x1_S_).sem
abbrev dS13 : DmaSem sig := (((cc0_scratch11 : DmaSems sig S3x2).slice (Rect.unit (s := S3x2) ![1, 1] S1x1.size inb_S3x2_S1x1_1_1)).squeeze S_ squeezes_S1x1_S_).sem
abbrev dS14 : DmaSem sig := (((cc0_scratch11 : DmaSems sig S3x2).slice (Rect.unit (s := S3x2) ![2, 0] S1x1.size inb_S3x2_S1x1_2_0)).squeeze S_ squeezes_S1x1_S_).sem
abbrev dS15 : DmaSem sig := (((cc0_scratch11 : DmaSems sig S3x2).slice (Rect.unit (s := S3x2) ![2, 1] S1x1.size inb_S3x2_S1x1_2_1)).squeeze S_ squeezes_S1x1_S_).sem
abbrev dS16 : DmaSem sig := (((cc0_scratch12 : DmaSems sig S3x4).slice (Rect.unit (s := S3x4) ![0, 0] S1x1.size inb_S3x4_S1x1_0_0)).squeeze S_ squeezes_S1x1_S_).sem
abbrev dS17 : DmaSem sig := (((cc0_scratch12 : DmaSems sig S3x4).slice (Rect.unit (s := S3x4) ![0, 1] S1x1.size inb_S3x4_S1x1_0_1)).squeeze S_ squeezes_S1x1_S_).sem
abbrev dS18 : DmaSem sig := (((cc0_scratch12 : DmaSems sig S3x4).slice (Rect.unit (s := S3x4) ![0, 2] S1x1.size inb_S3x4_S1x1_0_2)).squeeze S_ squeezes_S1x1_S_).sem
abbrev dS19 : DmaSem sig := (((cc0_scratch12 : DmaSems sig S3x4).slice (Rect.unit (s := S3x4) ![0, 3] S1x1.size inb_S3x4_S1x1_0_3)).squeeze S_ squeezes_S1x1_S_).sem
abbrev dS20 : DmaSem sig := (((cc0_scratch12 : DmaSems sig S3x4).slice (Rect.unit (s := S3x4) ![1, 0] S1x1.size inb_S3x4_S1x1_1_0)).squeeze S_ squeezes_S1x1_S_).sem
abbrev dS21 : DmaSem sig := (((cc0_scratch12 : DmaSems sig S3x4).slice (Rect.unit (s := S3x4) ![1, 1] S1x1.size inb_S3x4_S1x1_1_1)).squeeze S_ squeezes_S1x1_S_).sem
abbrev dS22 : DmaSem sig := (((cc0_scratch12 : DmaSems sig S3x4).slice (Rect.unit (s := S3x4) ![1, 2] S1x1.size inb_S3x4_S1x1_1_2)).squeeze S_ squeezes_S1x1_S_).sem
abbrev dS23 : DmaSem sig := (((cc0_scratch12 : DmaSems sig S3x4).slice (Rect.unit (s := S3x4) ![1, 3] S1x1.size inb_S3x4_S1x1_1_3)).squeeze S_ squeezes_S1x1_S_).sem
abbrev dS24 : DmaSem sig := (((cc0_scratch12 : DmaSems sig S3x4).slice (Rect.unit (s := S3x4) ![2, 0] S1x1.size inb_S3x4_S1x1_2_0)).squeeze S_ squeezes_S1x1_S_).sem
abbrev dS25 : DmaSem sig := (((cc0_scratch12 : DmaSems sig S3x4).slice (Rect.unit (s := S3x4) ![2, 1] S1x1.size inb_S3x4_S1x1_2_1)).squeeze S_ squeezes_S1x1_S_).sem
abbrev dS26 : DmaSem sig := (((cc0_scratch12 : DmaSems sig S3x4).slice (Rect.unit (s := S3x4) ![2, 2] S1x1.size inb_S3x4_S1x1_2_2)).squeeze S_ squeezes_S1x1_S_).sem
abbrev dS27 : DmaSem sig := (((cc0_scratch12 : DmaSems sig S3x4).slice (Rect.unit (s := S3x4) ![2, 3] S1x1.size inb_S3x4_S1x1_2_3)).squeeze S_ squeezes_S1x1_S_).sem

/-- The cells of the protocol on one device: the barrier, nine send cells, six receive cells of the first two rounds, twelve of the third. -/
def csem (k : Fin 28) : SemLoc sig := if h : k.val = 0 then .reg barS else .dma ⟨8 + k.val, by have := k.isLt; show 8 + k.val < 36; omega⟩
theorem csem0 : csem 0 = .reg barS := rfl
theorem csem1 : csem 1 = .dma dS1 := by decide
theorem csem2 : csem 2 = .dma dS2 := by decide
theorem csem3 : csem 3 = .dma dS3 := by decide
theorem csem4 : csem 4 = .dma dS4 := by decide
theorem csem5 : csem 5 = .dma dS5 := by decide
theorem csem6 : csem 6 = .dma dS6 := by decide
theorem csem7 : csem 7 = .dma dS7 := by decide
theorem csem8 : csem 8 = .dma dS8 := by decide
theorem csem9 : csem 9 = .dma dS9 := by decide
theorem csem10 : csem 10 = .dma dS10 := by decide
theorem csem11 : csem 11 = .dma dS11 := by decide
theorem csem12 : csem 12 = .dma dS12 := by decide
theorem csem13 : csem 13 = .dma dS13 := by decide
theorem csem14 : csem 14 = .dma dS14 := by decide
theorem csem15 : csem 15 = .dma dS15 := by decide
theorem csem16 : csem 16 = .dma dS16 := by decide
theorem csem17 : csem 17 = .dma dS17 := by decide
theorem csem18 : csem 18 = .dma dS18 := by decide
theorem csem19 : csem 19 = .dma dS19 := by decide
theorem csem20 : csem 20 = .dma dS20 := by decide
theorem csem21 : csem 21 = .dma dS21 := by decide
theorem csem22 : csem 22 = .dma dS22 := by decide
theorem csem23 : csem 23 = .dma dS23 := by decide
theorem csem24 : csem 24 = .dma dS24 := by decide
theorem csem25 : csem 25 = .dma dS25 := by decide
theorem csem26 : csem 26 = .dma dS26 := by decide
theorem csem27 : csem 27 = .dma dS27 := by decide

/-- Which cell a semaphore is. -/
def kOf : SemLoc sig → Option (Fin 28)
  | .reg s => if s = barS then some 0 else none
  | .dma q => if h : 9 ≤ q.val then some ⟨q.val - 8, by have : q.val < 36 := q.isLt; omega⟩ else none

theorem kOf_csem (k : Fin 28) : kOf (csem k) = some k := by revert k; decide
theorem csem_inj : Function.Injective csem := fun a b h => by
  have := congrArg kOf h; rw [kOf_csem, kOf_csem] at this; exact Option.some.inj this

abbrev cell (c : Dev nD) (k : Fin 28) : GSem nD τ sig := ((c : Thread nD τ), csem k)

/-- The stripe a transfer cell belongs to. -/
def stp (k : Fin 28) : Fin 3 := if k.val < 10 then ⟨(k.val - 1) / 3 % 3, Nat.mod_lt _ (by decide)⟩ else if k.val < 16 then ⟨(k.val - 10) / 2 % 3, Nat.mod_lt _ (by decide)⟩ else ⟨(k.val - 16) / 4 % 3, Nat.mod_lt _ (by decide)⟩
/-- The number of a cell's duties. -/
def nd (k : Fin 28) : ℕ := if k.val = 0 then 3 else if k.val < 10 then 2 ^ ((k.val - 1) % 3) else if k.val < 16 then 2 ^ ((k.val - 10) % 2) else 1
/-- A cell's duties. -/
def dut (k : Fin 28) : Finset (Fin 4) := Finset.univ.filter fun d => d.val < nd k

/-- The credit of one slot of each stripe. -/
abbrev NA : ℕ := (mA0).view.dmaCredit
abbrev NB : ℕ := (mB0).view.dmaCredit
abbrev NC : ℕ := (mC0).view.dmaCredit
def NS (s : Fin 3) : ℕ := match s with
  | 0 => NA
  | 1 => NB
  | 2 => NC
theorem NA_pos : 0 < NA := View.dmaCredit_pos _ (by decide)
theorem NB_pos : 0 < NB := View.dmaCredit_pos _ (by decide)
theorem NC_pos : 0 < NC := View.dmaCredit_pos _ (by decide)
theorem NS_pos (s : Fin 3) : 0 < NS s := by
  fin_cases s
  · exact NA_pos
  · exact NB_pos
  · exact NC_pos

/-- The units of one duty of a cell. -/
def amt (k : Fin 28) : ℕ := if k.val = 0 then 1 else NS (stp k)
theorem amt_pos (k : Fin 28) : 0 < amt k := by
  unfold amt; split
  · exact Nat.one_pos
  · exact NS_pos _

/-! ## The contents -/

section Contents
variable (mm : (ℓ : Loc nD τ sig) → Buf (Elt F) ℓ)

/-- The device's own block of the activations and its column block of the weights. -/
def xv (c : Dev nD) : Vec F S512x4096 .f32 := mm ((c : Thread nD τ).loc main_arg0)
def wv (c : Dev nD) : Vec F S4096x1024 .f32 := mm ((c : Thread nD τ).loc main_arg1)
/-- Device `c`'s block of the activations cast, columns of stripe A. -/
def XA (c : Dev nD) : FVec F S512x1408 .fp8e4m3 := k0_pay2 (fun j => xv mm c (rXA.emb j))
/-- Device `c`'s block of the activations cast, columns of stripe B. -/
def XB (c : Dev nD) : FVec F S512x1408 .fp8e4m3 := k0_pay3 (fun j => xv mm c (rXB.emb j))
/-- Device `c`'s block of the activations cast, columns of stripe C. -/
def XC (c : Dev nD) : FVec F S512x1280 .fp8e4m3 := k0_pay4 (fun j => xv mm c (rXC.emb j))
/-- The weights cast. -/
def Wc (c : Dev nD) : FVec F S4096x1024 .fp8e4m3 := truncf .fp8e4m3 (wv mm c) bitsLt_fp8e4m3_f32
def WA (c : Dev nD) : FVec F S1408x1024 .fp8e4m3 := fun j => Wc mm c (rWA.emb j)
def WB (c : Dev nD) : FVec F S1408x1024 .fp8e4m3 := fun j => Wc mm c (rWB.emb j)
def WC (c : Dev nD) : FVec F S1280x1024 .fp8e4m3 := fun j => Wc mm c (rWC.emb j)

/-- One stripe's product: into nothing (wide, narrow) and onto a sum (wide, narrow). -/
def m1 (x : FVec F S512x1408 .fp8e4m3) (w : FVec F S1408x1024 .fp8e4m3) : FVec F S512x1024 .f32 := k0_pay6 x w
def m2 (x : FVec F S512x1280 .fp8e4m3) (w : FVec F S1280x1024 .fp8e4m3) : FVec F S512x1024 .f32 := k0_pay14 x w
def a1 (x : FVec F S512x1408 .fp8e4m3) (w : FVec F S1408x1024 .fp8e4m3) (a : FVec F S512x1024 .f32) : FVec F S512x1024 .f32 := k0_pay8 x w a
def a2 (x : FVec F S512x1280 .fp8e4m3) (w : FVec F S1280x1024 .fp8e4m3) (a : FVec F S512x1024 .f32) : FVec F S512x1024 .f32 := k0_pay9 x w a
/-- A block scaled and clamped at zero. -/
def em (s : F .f32) (a : FVec F S512x1024 .f32) : FVec F S512x1024 .f32 := k0_pay10 s a

def s01 (c : Dev nD) : FVec F S512x1024 .f32 := m1 (XA mm (xo c 0)) (WA mm c)
def s02 (c : Dev nD) : FVec F S512x1024 .f32 := a1 (XB mm (xo c 0)) (WB mm c) (s01 mm c)
def s03 (c : Dev nD) : FVec F S512x1024 .f32 := a2 (XC mm (xo c 0)) (WC mm c) (s02 mm c)
def s11 (c : Dev nD) : FVec F S512x1024 .f32 := m1 (XA mm (xo c 1)) (WA mm c)
def s12 (c : Dev nD) : FVec F S512x1024 .f32 := a2 (XC mm (xo c 1)) (WC mm c) (s11 mm c)
def s13 (c : Dev nD) : FVec F S512x1024 .f32 := a1 (XB mm (xo c 1)) (WB mm c) (s12 mm c)
def s21 (c : Dev nD) : FVec F S512x1024 .f32 := m1 (XA mm (xo c 2)) (WA mm c)
def s22 (c : Dev nD) : FVec F S512x1024 .f32 := a1 (XB mm (xo c 2)) (WB mm c) (s21 mm c)
def s23 (c : Dev nD) : FVec F S512x1024 .f32 := a2 (XC mm (xo c 2)) (WC mm c) (s22 mm c)
def s31 (c : Dev nD) : FVec F S512x1024 .f32 := m1 (XB mm (xo c 3)) (WB mm c)
def s32 (c : Dev nD) : FVec F S512x1024 .f32 := a1 (XA mm (xo c 3)) (WA mm c) (s31 mm c)
def s33 (c : Dev nD) : FVec F S512x1024 .f32 := a2 (XC mm (xo c 3)) (WC mm c) (s32 mm c)
def s41 (c : Dev nD) : FVec F S512x1024 .f32 := m2 (XC mm (xo c 4)) (WC mm c)
def s42 (c : Dev nD) : FVec F S512x1024 .f32 := a1 (XB mm (xo c 4)) (WB mm c) (s41 mm c)
def s43 (c : Dev nD) : FVec F S512x1024 .f32 := a1 (XA mm (xo c 4)) (WA mm c) (s42 mm c)
def s51 (c : Dev nD) : FVec F S512x1024 .f32 := m2 (XC mm (xo c 5)) (WC mm c)
def s52 (c : Dev nD) : FVec F S512x1024 .f32 := a1 (XA mm (xo c 5)) (WA mm c) (s51 mm c)
def s53 (c : Dev nD) : FVec F S512x1024 .f32 := a1 (XB mm (xo c 5)) (WB mm c) (s52 mm c)
def s61 (c : Dev nD) : FVec F S512x1024 .f32 := m2 (XC mm (xo c 6)) (WC mm c)
def s62 (c : Dev nD) : FVec F S512x1024 .f32 := a1 (XA mm (xo c 6)) (WA mm c) (s61 mm c)
def s63 (c : Dev nD) : FVec F S512x1024 .f32 := a1 (XB mm (xo c 6)) (WB mm c) (s62 mm c)
def s71 (c : Dev nD) : FVec F S512x1024 .f32 := m1 (XB mm (xo c 7)) (WB mm c)
def s72 (c : Dev nD) : FVec F S512x1024 .f32 := a2 (XC mm (xo c 7)) (WC mm c) (s71 mm c)
def s73 (c : Dev nD) : FVec F S512x1024 .f32 := a1 (XA mm (xo c 7)) (WA mm c) (s72 mm c)
/-- The finished sum of the rows of the device at exclusive-or `k`. -/
def fin (c : Dev nD) (k : Fin 8) : FVec F S512x1024 .f32 := match k with
  | 0 => s03 mm c
  | 1 => s13 mm c
  | 2 => s23 mm c
  | 3 => s33 mm c
  | 4 => s43 mm c
  | 5 => s53 mm c
  | 6 => s63 mm c
  | 7 => s73 mm c

/-! ## The payloads -/

abbrev ow {sp : Space} {sh : Shape} {e : EltTy} (c : Dev nD) (M : Memref sig .tc sp sh e) (q : PosShare TreeShare) (X : sh.Idx → Elt F e) : sProp 𝕄 := owns (c : Thread nD τ) M q X

/-- A slot at its final contents, at share `q`; a slot at any contents. -/
def Slot (c : Dev nD) (s : Fin 3) (t : Fin 8) (q : PosShare TreeShare) : sProp 𝕄 := match s with
  | 0 => ow c (slA t) q (XA mm (xo c (off 0 t)))
  | 1 => ow c (slB t) q (XB mm (xo c (off 1 t)))
  | 2 => ow c (slC t) q (XC mm (xo c (off 2 t)))
def SlotAny (c : Dev nD) (s : Fin 3) (t : Fin 8) : sProp 𝕄 := match s with
  | 0 => iprop(∃ X, ow (F := F) c (slA t) fullShare X)
  | 1 => iprop(∃ X, ow (F := F) c (slB t) fullShare X)
  | 2 => iprop(∃ X, ow (F := F) c (slC t) fullShare X)
/-- What device `p`'s signal hands the neighbour at the first, second, third mask: the slots of `p` that neighbour writes. -/
def barPay (p : Dev nD) (d : Fin 4) : sProp 𝕄 := match d with
  | 0 => iprop(SlotAny (F := F) p 0 1 ∗ SlotAny (F := F) p 1 4 ∗ SlotAny (F := F) p 1 5 ∗ SlotAny (F := F) p 1 6 ∗ SlotAny (F := F) p 1 7 ∗ SlotAny (F := F) p 2 2 ∗ SlotAny (F := F) p 2 3)
  | 1 => iprop(SlotAny (F := F) p 0 2 ∗ SlotAny (F := F) p 0 3 ∗ SlotAny (F := F) p 1 1 ∗ SlotAny (F := F) p 2 4 ∗ SlotAny (F := F) p 2 5 ∗ SlotAny (F := F) p 2 6 ∗ SlotAny (F := F) p 2 7)
  | 2 => iprop(SlotAny (F := F) p 0 4 ∗ SlotAny (F := F) p 0 5 ∗ SlotAny (F := F) p 0 6 ∗ SlotAny (F := F) p 0 7 ∗ SlotAny (F := F) p 1 2 ∗ SlotAny (F := F) p 1 3 ∗ SlotAny (F := F) p 2 1)
  | 3 => iprop(emp)
/-- The device that pays a barrier duty, and the exclusive-or masks. -/
def bm (d : Fin 4) : ℕ := ![1, 3, 4, 0] d

/-- What a duty of a cell hands the cell's device. -/
def pay (c : Dev nD) (k : Fin 28) (d : Fin 4) : sProp 𝕄 :=
  if k.val = 0 then barPay (F := F) (xo c (bm d)) d
  else if k.val < 10 then Slot mm c (stp k) ⟨d.val, by omega⟩ fullShare.right
  else if k.val < 16 then Slot mm c (stp k) ⟨(2 ^ ((k.val - 10) % 2) + d.val) % 8, Nat.mod_lt _ (by decide)⟩ fullShare
  else Slot mm c (stp k) ⟨4 + (k.val - 16) % 4, by omega⟩ fullShare

instance slot_storable (c : Dev nD) (s : Fin 3) (t : Fin 8) (q : PosShare TreeShare) : BI.Storable (upEmb : UEmb _ 𝕄) (Slot mm c s t q) := by
  unfold Slot; split <;> infer_instance
instance slotAny_storable (c : Dev nD) (s : Fin 3) (t : Fin 8) : BI.Storable (upEmb : UEmb _ 𝕄) (SlotAny (F := F) c s t) := by
  unfold SlotAny; split <;> infer_instance
instance barPay_storable (c : Dev nD) (d : Fin 4) : BI.Storable (upEmb : UEmb _ 𝕄) (barPay (F := F) c d) := by
  unfold barPay; split <;> infer_instance
instance pay_storable (c : Dev nD) (k : Fin 28) (d : Fin 4) : BI.Storable (upEmb : UEmb _ 𝕄) (pay mm c k d) := by
  unfold pay; (repeat' split) <;> infer_instance

/-! ## The schedule: one round per cell -/

def Rd : Rounds.Schedule (GSem nD τ sig) (Fin 4) 𝕄 where
  duties g r := if r = 0 ∧ g.1.2 = .tc then (match kOf g.2 with | some k => dut k | none => ∅) else ∅
  unitless _ := False
  amount g _ _ := match kOf g.2 with | some k => amt k | none => 1
  payload g _ d := match kOf g.2 with | some k => pay mm g.1.1 k d | none => iprop(emp)
  amount_pos g _ _ _ := by
    split
    · exact amt_pos _
    · exact Nat.one_pos

instance Rd_payload_storable (g : GSem nD τ sig) (r : ℕ) (d : Fin 4) : BI.Storable (upEmb : UEmb _ 𝕄) ((Rd mm).payload g r d) := by
  show BI.Storable upEmb (match kOf g.2 with | some k => pay mm g.1.1 k d | none => iprop(emp))
  split <;> infer_instance

theorem duties_eq (c : Dev nD) (k : Fin 28) : (Rd mm).duties (cell c k) 0 = dut k := by
  dsimp only [Rd]; rw [if_pos ⟨rfl, rfl⟩, kOf_csem]
theorem duties_later (g : GSem nD τ sig) : ∀ r, 1 ≤ r → (Rd mm).duties g r = ∅ :=
  fun r hr => by dsimp only [Rd]; rw [if_neg fun h => by omega]
theorem amount_eq (c : Dev nD) (k : Fin 28) (d : Fin 4) : (Rd mm).amount (cell c k) 0 d = amt k := by
  dsimp only [Rd]; rw [kOf_csem]
theorem payload_eq (c : Dev nD) (k : Fin 28) (d : Fin 4) : (Rd mm).payload (cell c k) 0 d = pay mm c k d := by
  dsimp only [Rd]; rw [kOf_csem]
theorem expect_eq (c : Dev nD) (k : Fin 28) : (Rd mm).expect (cell c k) 0 = nd k * amt k := by
  unfold Schedule.expect Schedule.amountOf
  rw [duties_eq, Finset.sum_congr rfl fun d _ => amount_eq mm c k d, Finset.sum_const, smul_eq_mul]
  congr 1
  revert k; decide

end Contents

/-! ## Levels and dues -/

/-- The index, which is the level, of a cell: the barrier below the receive cells, round by round; send cells at zero. -/
def lvl (k : Fin 28) : ℕ := if k.val = 0 then 1 else if k.val < 10 then 0 else if k.val < 16 then 2 + (k.val - 10) % 2 else 4

abbrev LL : GSem nD τ sig → Finset ℕ := SiteBlocks.L 5
abbrev lv : GSem nD τ sig → ℕ → ℕ := SiteBlocks.lv

/-- The payments of device `c` in program order, as mask and cell of the neighbour. -/
def payK : List (ℕ × Fin 28) := [(1, 0), (3, 0), (4, 0), (1, 10), (3, 12), (4, 14), (1, 15), (1, 15), (3, 11), (3, 11), (4, 13), (4, 13), (3, 24), (3, 25), (3, 26), (3, 27), (4, 16), (4, 17), (4, 18), (4, 19), (1, 20), (1, 21), (1, 22), (1, 23)]
def pays (c : Dev nD) : List (Pay nD τ sig) := payK.map fun x => (cell (xo c x.1) x.2, lvl x.2, amt x.2)
/-- What device `c` owes after its first `n` payments. -/
def due (c : Dev nD) (n : ℕ) : CellTallies nD τ sig ℕ := tallyL ((pays c).drop n)

theorem due_peel (c : Dev nD) (n : ℕ) {a : ℕ} {k : Fin 28} (h : payK[n]? = some (a, k)) :
    due c n = due c (n + 1) + tallyAt (cell (xo c a) k) (lvl k) (amt k) := by
  obtain ⟨hn, he⟩ := List.getElem?_eq_some_iff.mp h
  have hn' : n < (pays c).length := by unfold pays; rw [List.length_map]; exact hn
  have : (pays c).drop n = (cell (xo c a) k, lvl k, amt k) :: (pays c).drop (n + 1) := by
    rw [List.drop_eq_getElem_cons hn']
    congr 1
    have h2 : (pays c)[n]? = some (cell (xo c a) k, lvl k, amt k) := by
      unfold pays; rw [List.getElem?_map, h]; rfl
    exact (List.getElem?_eq_some_iff.mp h2).2
  unfold due
  rw [this, tallyL, add_comm]

theorem due_end (c : Dev nD) : due c 24 = 0 := rfl

omit [FloatOps F] in
theorem mayWait_at (c : Dev nD) (s : SemLoc sig) (i n : ℕ) (hi : i < 5) (h : ∀ x ∈ payK.drop n, i < lvl x.2) :
    (levAts LL lv : sProp 𝕄) ⊢ MayWait (c : Thread nD τ) s i (due c n) :=
  SiteBlocks.mayWait_of hi c s _ fun g k hg => by
    obtain ⟨x, hx, rfl, rfl⟩ := TalkSites.tallyL_pos hg
    unfold pays at hx
    rw [← List.map_drop] at hx
    obtain ⟨y, hy, rfl⟩ := List.mem_map.mp hx
    refine ⟨SiteBlocks.mem_L _ _ ?_, h y hy⟩
    show lvl y.2 < 5
    have : ∀ k, lvl k < 5 := by decide
    exact this _

end Cert.KProof

end
-- ==== Proof.Rules.lean ====
module

public import proofs.«01_k».proof.Proof.Proto

/-! One rule per kind of effect, over owned slices. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## Loads and stores -/

section LS
variable {sp : CoreSpace} {s : Shape} {e : EltTy} (c : Dev nD) {M : Memref sig .tc sp s e} {r : Rect s}

/-- A load of an owned slice at its own rectangle gives the slice's contents. -/
theorem own_load {α : Type} {Q : α → sProp 𝕄} {hr : ∀ a, r.stride a = 1} {q : PosShare TreeShare} {X : r.shape.Idx → Elt F e} {hl : M.view.LoadsAt r.toLoadRect}
    {k : (r.shape.Idx → Elt F e) → Prog (TpuEff nD τ sig (Elt F) Λ₀ .tc) α} :
    ow c (M.slice r hr) q X ⊢ iprop((ow c (M.slice r hr) q X -∗ wpk c (k X) Q) -∗ wpk c (.op (.load M r.toLoadRect hl) k) Q) := by
  unfold ow owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr
  · ipureintro; exact hf
  · iexact H

/-- A load of part of an owned slice: the rectangle's indices `g j` within the slice. -/
theorem own_load_sub {α : Type} {Q : α → sProp 𝕄} {r' : Rect s} {hr : ∀ a, r.stride a = 1} {q : PosShare TreeShare} {X : r.shape.Idx → Elt F e} {hl : M.view.LoadsAt r'.toLoadRect}
    (g : r'.shape.Idx → r.shape.Idx) (hg : ∀ j, r'.emb j = r.emb (g j))
    {k : (r'.shape.Idx → Elt F e) → Prog (TpuEff nD τ sig (Elt F) Λ₀ .tc) α} :
    ow c (M.slice r hr) q X ⊢ iprop((ow c (M.slice r hr) q X -∗ wpk c (k (fun j => X (g j))) Q) -∗ wpk c (.op (.load M r'.toLoadRect hl) k) Q) := by
  unfold ow owns
  iintro ⟨%f, %hf, H⟩ Hk
  have hS : (M.access r').set ⊆ (M.slice r hr).view.set := by
    intro i hi
    obtain ⟨j, -, rfl⟩ := Finset.mem_map.mp hi
    refine Finset.mem_map.mpr ⟨g j, Finset.mem_univ _, ?_⟩
    show M.view.emb (r.emb (g j)) = M.view.emb (r'.emb j)
    rw [hg]
  iapply (wp_load_rect 𝒱₀ (c : Thread nD τ) none Set.univ (m := M) (r := r') hS) $$ H
  iintro H
  rw [show (M.access r').read (Elt F) f = fun j => X (g j) from by
    funext j
    show M.view.read (Elt F) f (r'.emb j) = X (g j)
    rw [hg, ← hf]; rfl]
  iapply Hk
  iexists f
  isplitr
  · ipureintro; exact hf
  · iexact H

/-- A load of a rectangle of an owned memref. -/
theorem own_load_whole {α : Type} {Q : α → sProp 𝕄} {q : PosShare TreeShare} {X : s.Idx → Elt F e} {hl : M.view.LoadsAt r.toLoadRect}
    {k : (r.shape.Idx → Elt F e) → Prog (TpuEff nD τ sig (Elt F) Λ₀ .tc) α} :
    ow c M q X ⊢ iprop((ow c M q X -∗ wpk c (k (fun j => X (r.emb j))) Q) -∗ wpk c (.op (.load M r.toLoadRect hl) k) Q) := by
  unfold ow owns
  iintro ⟨%f, %hf, H⟩ Hk
  iapply (wp_load_rect 𝒱₀ (c : Thread nD τ) none Set.univ (m := M) (r := r) (View.set_slice_subset _ _)) $$ H
  iintro H
  rw [show (M.access r).read (Elt F) f = fun j => X (r.emb j) from by rw [← hf]; rfl]
  iapply Hk
  iexists f
  isplitr
  · ipureintro; exact hf
  · iexact H

/-- An unmasked store to an owned slice at its own rectangle. -/
theorem own_store {α : Type} {Q : α → sProp 𝕄} {hr : ∀ a, r.stride a = 1} {X : r.shape.Idx → Elt F e} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} :
    ow c (M.slice r hr) fullShare X ⊢ iprop((ow c (M.slice r hr) fullShare w -∗ wpk c (k ⟨⟩) Q) -∗ wpk c (.op (.store M r w Finset.univ hx hm) k) Q) := by
  unfold ow owns
  iintro ⟨%f, %hf, H⟩ Hk
  iapply (wp_store 𝒱₀ (c : Thread nD τ) none Set.univ (m := M) (r := r) (Mk := Finset.univ) (S := (M.slice r hr).view.set) (f := f) (Finset.Subset.refl _)) $$ H
  iintro H
  iapply Hk
  iexists _
  isplitr
  rotate_left
  · iexact H
  · ipureintro
    exact View.read_write_univ (v := M.access r) f w

/-- A load from a slice that is owned with its leading axis dropped: some value. -/
theorem own_loadSq {α : Type} {Q : α → sProp 𝕄} {hr : ∀ a, r.stride a = 1} {s' : Shape} {hq : r.shape.Squeezes s'} {q : PosShare TreeShare} {X : s'.Idx → Elt F e}
    {hl : M.view.LoadsAt r.toLoadRect} {k : (r.shape.Idx → Elt F e) → Prog (TpuEff nD τ sig (Elt F) Λ₀ .tc) α} :
    ow c ((M.slice r hr).squeeze s' hq) q X ⊢ iprop((∀ v, ow c ((M.slice r hr).squeeze s' hq) q X -∗ wpk c (k v) Q) -∗ wpk c (.op (.load M r.toLoadRect hl) k) Q) := by
  unfold ow owns
  iintro ⟨%f, %hf, H⟩ Hk
  iapply (wp_load_rect 𝒱₀ (c : Thread nD τ) none Set.univ (m := M) (r := r) (S := ((M.slice r hr).squeeze s' hq).view.set) (by
    show (M.slice r hr).view.set ⊆ _
    exact (View.set_reshape _ _).symm.subset)) $$ H
  iintro H
  iapply Hk
  iexists f
  isplitr
  · ipureintro; exact hf
  · iexact H

/-- A store to a slice that is owned with its leading axis dropped. -/
theorem own_storeSq {α : Type} {Q : α → sProp 𝕄} {hr : ∀ a, r.stride a = 1} {s' : Shape} {hq : r.shape.Squeezes s'} {X : s'.Idx → Elt F e} {w : r.shape.Idx → Elt F e}
    (hc : r.shape.ShapeCasts s') {hx : (M.access r).Stores Finset.univ}
    {hm : (Finset.univ : Finset r.shape.Idx) = Finset.univ ∨ ∀ a, r.stride a = 1}
    {k : PUnit → Prog (TpuEff nD τ sig (Elt F) Λ₀ .tc) α} :
    ow c ((M.slice r hr).squeeze s' hq) fullShare X ⊢ iprop((ow c ((M.slice r hr).squeeze s' hq) fullShare (shapeCast s' w hc) -∗ wpk c (k ⟨⟩) Q) -∗ wpk c (.op (.store M r w Finset.univ hx hm) k) Q) := by
  unfold ow owns
  iintro ⟨%f, %hf, H⟩ Hk
  iapply (wp_store 𝒱₀ (c : Thread nD τ) none Set.univ (m := M) (r := r) (Mk := Finset.univ) (S := ((M.slice r hr).squeeze s' hq).view.set) (f := f) (by
    show (M.slice r hr).view.set ⊆ _
    exact (View.set_reshape _ _).symm.subset)) $$ H
  iintro H
  iapply Hk
  iexists _
  isplitr
  rotate_left
  · iexact H
  · ipureintro
    exact congrArg (fun g => shapeCast s' g hc) (View.read_write_univ (v := M.access r) f w)

end LS

/-! ## Records, dues, positions -/

section Proto
variable (mm : (ℓ : Loc nD τ sig) → Buf (Elt F) ℓ) (K : Dev nD × Fin 28 → ℕ)

/-- The invariants of all cells, that every cell has reached round 0, and the levels. -/
def recs : sProp 𝕄 :=
  iprop(bigSep Finset.univ (fun x : Dev nD × Fin 28 => cellInv ER (Rd mm) (K x) (cell x.1 x.2))
    ∗ bigSep Finset.univ (fun x : Dev nD × Fin 28 => reached ER (cell x.1 x.2) 0) ∗ levAts LL lv)

instance recs_persistent : BI.Persistent (recs mm K) := by unfold recs; infer_instance

theorem recs_inv (c : Dev nD) (k : Fin 28) : recs mm K ⊢ cellInv ER (Rd mm) (K (c, k)) (cell c k) := by
  unfold recs
  iintro ⟨H, -, -⟩
  iapply (show bigSep Finset.univ (fun x : Dev nD × Fin 28 => (cellInv ER (Rd mm) (K x) (cell x.1 x.2) : sProp 𝕄)) ⊢ cellInv ER (Rd mm) (K (c, k)) (cell c k)
    from bigSep_elim (Φ := fun x : Dev nD × Fin 28 => (cellInv ER (Rd mm) (K x) (cell x.1 x.2) : sProp 𝕄)) (Finset.mem_univ (c, k)))
  iexact H

theorem recs_reached (c : Dev nD) (k : Fin 28) : recs mm K ⊢ reached ER (cell c k) 0 := by
  unfold recs
  iintro ⟨-, H, -⟩
  iapply (show bigSep Finset.univ (fun x : Dev nD × Fin 28 => (reached ER (cell x.1 x.2) 0 : sProp 𝕄)) ⊢ reached ER (cell c k) 0
    from bigSep_elim (Φ := fun x : Dev nD × Fin 28 => (reached ER (cell x.1 x.2) 0 : sProp 𝕄)) (Finset.mem_univ (c, k)))
  iexact H

theorem recs_lev : recs mm K ⊢ (levAts LL lv : sProp 𝕄) := by
  unfold recs
  iintro ⟨-, -, H⟩
  iexact H

/-- What device `c` owes after `n` payments, whatever it has waited for. -/
def Owes (c : Dev nD) (n : ℕ) : sProp 𝕄 := iprop(∃ W, owes (c : Thread nD τ) (due c n) W)

/-- Device `c` has waited `j` times for one duty's units on its cell `k`, and holds the payloads of some duties. -/
def Wt (c : Dev nD) (k : Fin 28) (j : ℕ) : sProp 𝕄 :=
  iprop(∃ S : Finset (Fin 4), ⌜S ⊆ dut k⌝ ∗ atPos ER (cell c k) 0 S (j * amt k) ∗ bigSep S (fun d => pay mm c k d))

/-- The token of one duty. -/
abbrev Tk (c : Dev nD) (k : Fin 28) (d : Fin 4) : sProp 𝕄 := dutyTok ER (cell c k) 0 d
/-- One duty's units as credit. -/
abbrev Cr (c : Dev nD) (k : Fin 28) : sProp 𝕄 := cred (tallyAt (cell c k) (lvl k) (amt k))

/-! ## Local copies -/

/-- A copy on the device's own semaphore in flight. -/
abbrev Fly (c : Dev nD) (sm : DmaSem sig) (N : ℕ) (D : sProp 𝕄) : sProp 𝕄 := Transfers.Flight EC (c : Thread nD τ) (.dma sm) 0 N D

theorem own_copy {α : Type} {Q : α → sProp 𝕄} {sp sp' : Space} {s : Shape} {e : EltTy} (c : Dev nD) {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {q : PosShare TreeShare} {X Y : s.Idx → Elt F e} (hs : 0 < s.numel) :
    ow c src q X ⊢ iprop(ow c dst fullShare Y -∗ semVal ((c : Thread nD τ), SemLoc.dma sm) 0
      -∗ (Fly c sm dst.view.dmaCredit iprop(ow c dst fullShare X ∗ ow c src q X) -∗ wpk c (k ⟨⟩) Q)
      -∗ wpk c (.op (.enqueueDma src (.here dst) (.dma sm) hsrc hdst hsem) k) Q) := by
  unfold ow owns
  iintro ⟨%f, %hf, Hs⟩ ⟨%g, %hg, Hd⟩ Hv Hk
  iapply (Transfers.wp_dmaLocal EC 𝒱₀ (c : Thread nD τ) none (src := src) (via := .same) (dst := dst) (sm := .dma sm) (q := q) (fs := f)
    (Sd := dst.view.set) (fd := g) 0 dst.view.dmaCredit rfl (View.dmaCredit_pos _ hs) (Finset.Subset.refl _)) $$ [Hs Hd Hv]
  · isplitl [Hs]; · iexact Hs
    isplitl [Hd]; · iexact Hd
    iexact Hv
  iintro HF
  iapply Hk
  iapply (Transfers.Flight_mono EC (c : Thread nD τ) (show
      iprop((dst.view.loc (c : Thread nD τ) ↦[dst.view.set]{fullShare} (dst.view.write (Elt F) g ((ReadAs.same : ReadAs (Elt F) s e s e).apply (src.view.read (Elt F) f)) Finset.univ))
        ∗ (src.view.loc (c : Thread nD τ) ↦[src.view.set]{q} f)) ⊢ _ from by
    iintro ⟨H1, H2⟩
    isplitl [H1]
    · iexists _
      isplitr
      rotate_left
      · iexact H1
      · ipureintro
        refine (View.read_write_univ (v := dst.view) g _).trans ?_
        exact hf
    · iexists f
      isplitr
      · ipureintro; exact hf
      · iexact H2))
  iexact HF

theorem lvl_lt : ∀ k : Fin 28, lvl k < 5 := by decide

theorem lvl_pos : ∀ x ∈ payK, 0 < lvl x.2 := by decide

theorem own_waitL {α : Type} {Q : α → sProp 𝕄} {sp sp' : Space} {s s' : Shape} {e e' : EltTy} (c : Dev nD) {sm : DmaSem sig} {N n : ℕ} {D : sProp 𝕄}
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = N) :
    recs mm K ⊢ iprop(Fly c sm N D -∗ Owes c n -∗ (D -∗ semVal ((c : Thread nD τ), SemLoc.dma sm) 0 -∗ Owes c n -∗ wpk c (k ⟨⟩) Q)
      -∗ wpk c (.op (.waitDma2 sm srcw dstw hsrc hdst) k) Q) := by
  unfold Owes
  iintro HR HF ⟨%W, HO⟩ Hk
  iapply (Transfers.wp_waitLocalO EC 𝒱₀ (c : Thread nD τ) none (sem := sm) (srcw := srcw) (dstw := dstw) 0 hN (D := D) (O := due c n) (W := W)) $$ [HF HO HR]
  · isplitl [HF]; · iexact HF
    isplitl [HO]; · iexact HO
    iapply (mayWait_at c (.dma sm) 0 n (by decide) fun x hx => lvl_pos x (List.mem_of_mem_drop hx))
    iapply (recs_lev mm K); iexact HR
  iintro ⟨HD, Hv, HO⟩
  iapply Hk $$ HD Hv
  iexists _; iexact HO

/-! ## The rounds' waits -/

omit [FloatOps F] in
theorem bigSep_join {S T : Finset (Fin 4)} (h : S ⊆ T) (Φ : Fin 4 → sProp 𝕄) : iprop(bigSep S Φ ∗ bigSep (T \ S) Φ) ⊢ bigSep T Φ := by
  have e := bigSep_union (Finset.disjoint_sdiff (s := S) (t := T)) (Φ := Φ)
  rw [Finset.union_sdiff_of_subset h] at e
  exact Entails.of_eq e.symm

/-- The wait for a cell's last units, through any effect that waits: the payloads and the counter at zero. -/
theorem own_rest {α : Type} {Q : α → sProp 𝕄} (c : Dev nD) {w : TpuEff nD τ sig (Elt F) Λ₀ .tc PUnit} {sm : SemLoc sig} {k' n : ℕ} (kk : Fin 28) (hsm : sm = csem kk)
    (hw : ∀ P : PUnit → sProp 𝕄, wpE' (defs₀ (F := F)) 𝒱₀ (c : Thread nD τ) none .empty Set.univ w P = waitSpec (c : Thread nD τ) Set.univ sm k' P)
    (j : ℕ) (hk : j * amt kk + k' = nd kk * amt kk) (hn : ∀ x ∈ payK.drop n, lvl kk < lvl x.2)
    {k : PUnit → Prog (TpuEff nD τ sig (Elt F) Λ₀ .tc) α} :
    recs mm K ⊢ iprop(Wt mm c kk j -∗ cred (tallyAt (cell c kk) (lvl kk) k') -∗ Owes c n
      -∗ (bigSep (dut kk) (fun d => pay mm c kk d) -∗ semVal (cell c kk) 0 -∗ Owes c n -∗ wpk c (k ⟨⟩) Q)
      -∗ wpk c (.op w k) Q) := by
  subst hsm
  unfold Owes Wt
  iintro #HR ⟨%S, %hS, Hat, HP⟩ Hc ⟨%W, HO⟩ Hk
  iapply (Rounds.wp_wait_rest_token 𝒱₀ ER (Rd mm) (c : Thread nD τ) none (κ := K (c, kk)) hw (Set.mem_univ _) (lvl kk) (O := due c n) (W := W) (R := 0)
    (m := j * amt kk) (T := S) (by rw [hk, expect_eq])) $$ [Hc HO Hat]
  · isplitr; · iapply (recs_inv mm K c kk); iexact HR
    isplitl [Hc]; · iexact Hc
    isplitl [HO]; · iexact HO
    isplitr
    · iapply (mayWait_at c (csem kk) (lvl kk) n (lvl_lt kk) hn)
      iapply (recs_lev mm K); iexact HR
    · iexact Hat
  iintro ⟨HO, Hat, -, HP2⟩
  imod (Rounds.cell_close ER (Rd mm) (Set.mem_univ (K (c, kk))) (fun h => h) (R := 0 + 1) (duties_later mm (cell c kk))) $$ [Hat] with Hz
  · isplitr; · iapply (recs_inv mm K c kk); iexact HR
    iexact Hat
  iapply Hk $$ [HP HP2] Hz
  · rw [duties_eq, show (fun d => (Rd mm).payload (cell c kk) 0 d) = fun d => pay mm c kk d from funext fun d => payload_eq mm c kk d]
    iapply (bigSep_join hS fun d => pay mm c kk d)
    isplitl [HP]; · iexact HP
    iexact HP2
  · iexists _; iexact HO

/-- A wait for one duty's units that is not the cell's last. -/
theorem own_part {α : Type} {Q : α → sProp 𝕄} (c : Dev nD) {w : TpuEff nD τ sig (Elt F) Λ₀ .tc PUnit} {sm : SemLoc sig} {n : ℕ} (kk : Fin 28) (hsm : sm = csem kk)
    (hw : ∀ P : PUnit → sProp 𝕄, wpE' (defs₀ (F := F)) 𝒱₀ (c : Thread nD τ) none .empty Set.univ w P = waitSpec (c : Thread nD τ) Set.univ sm (amt kk) P)
    (j : ℕ) (hn : ∀ x ∈ payK.drop n, lvl kk < lvl x.2)
    {k : PUnit → Prog (TpuEff nD τ sig (Elt F) Λ₀ .tc) α} :
    recs mm K ⊢ iprop(Wt mm c kk j -∗ Cr c kk -∗ Owes c n
      -∗ (Wt mm c kk (j + 1) -∗ Owes c n -∗ wpk c (k ⟨⟩) Q)
      -∗ wpk c (.op w k) Q) := by
  subst hsm
  unfold Owes Wt
  iintro #HR ⟨%S, %hS, Hat, HP⟩ Hc ⟨%W, HO⟩ Hk
  iapply (Rounds.wp_wait 𝒱₀ ER (Rd mm) (c : Thread nD τ) none (κ := K (c, kk)) hw (Set.mem_univ _) (cr := Finsupp.single (lvl kk) (amt kk)) (O := due c n) (W := W)
    {(csem kk, lvl kk)} (R := 0) (m := j * amt kk) (T := S) (Util.total_single _ _) (image_single_subset _ _ _)) $$ [Hc HO Hat]
  · isplitr; · iapply (recs_inv mm K c kk); iexact HR
    isplitl [Hc]; · iexact Hc
    isplitl [HO]; · iexact HO
    isplitr
    · iapply (mayWait_at c (csem kk) (lvl kk) n (lvl_lt kk) hn)
      iapply (recs_lev mm K); iexact HR
    · iexact Hat
  iintro %S' ⟨%hS', HO, Hat, HP2⟩
  iapply Hk $$ [HP HP2 Hat]
  · iexists S'
    isplitr
    · ipureintro
      have := hS'.2.1
      rw [duties_eq] at this; exact this
    isplitl [Hat]
    · rw [Nat.succ_mul]; iexact Hat
    rw [show (fun d => (Rd mm).payload (cell c kk) 0 d) = fun d => pay mm c kk d from funext fun d => payload_eq mm c kk d]
    iapply (bigSep_join hS'.1 fun d => pay mm c kk d)
    isplitl [HP]; · iexact HP
    iexact HP2
  · iexists _; iexact HO

/-- The wait for a copy, its cell's last. -/
theorem own_restD {α : Type} {Q : α → sProp 𝕄} {sp sp' : Space} {s s' : Shape} {e e' : EltTy} (c : Dev nD) {sm : DmaSem sig} {n : ℕ}
    {srcw : Memref sig .tc sp' s' e'} {dstw : Memref sig .tc sp s e} {hsrc : srcw.view.WordExact} {hdst : dstw.view.WordExact}
    (kk : Fin 28) (hsm : csem kk = .dma sm) (hN : dstw.view.dmaCredit = amt kk) (j : ℕ) (hj : j + 1 = nd kk)
    (hn : ∀ x ∈ payK.drop n, lvl kk < lvl x.2) {k : PUnit → Prog (TpuEff nD τ sig (Elt F) Λ₀ .tc) α} :
    recs mm K ⊢ iprop(Wt mm c kk j -∗ Cr c kk -∗ Owes c n
      -∗ (bigSep (dut kk) (fun d => pay mm c kk d) -∗ semVal (cell c kk) 0 -∗ Owes c n -∗ wpk c (k ⟨⟩) Q)
      -∗ wpk c (.op (.waitDma2 sm srcw dstw hsrc hdst) k) Q) :=
  own_rest mm K c kk hsm.symm (fun P => (wpE_waitDma2_eq 𝒱₀ (c : Thread nD τ) none Set.univ P).trans (by rw [hN])) j (by rw [← hj, Nat.succ_mul]) hn

/-- The wait for a copy, not its cell's last. -/
theorem own_partD {α : Type} {Q : α → sProp 𝕄} {sp sp' : Space} {s s' : Shape} {e e' : EltTy} (c : Dev nD) {sm : DmaSem sig} {n : ℕ}
    {srcw : Memref sig .tc sp' s' e'} {dstw : Memref sig .tc sp s e} {hsrc : srcw.view.WordExact} {hdst : dstw.view.WordExact}
    (kk : Fin 28) (hsm : csem kk = .dma sm) (hN : dstw.view.dmaCredit = amt kk) (j : ℕ)
    (hn : ∀ x ∈ payK.drop n, lvl kk < lvl x.2) {k : PUnit → Prog (TpuEff nD τ sig (Elt F) Λ₀ .tc) α} :
    recs mm K ⊢ iprop(Wt mm c kk j -∗ Cr c kk -∗ Owes c n
      -∗ (Wt mm c kk (j + 1) -∗ Owes c n -∗ wpk c (k ⟨⟩) Q)
      -∗ wpk c (.op (.waitDma2 sm srcw dstw hsrc hdst) k) Q) :=
  own_part mm K c kk hsm.symm (fun P => (wpE_waitDma2_eq 𝒱₀ (c : Thread nD τ) none Set.univ P).trans (by rw [hN])) j hn

/-- The wait on the barrier for the three neighbours. -/
theorem own_bar {α : Type} {Q : α → sProp 𝕄} (c : Dev nD) {n k' : ℕ} (hk : k' = 3)
    (hn : ∀ x ∈ payK.drop n, lvl 0 < lvl x.2) {k : PUnit → Prog (TpuEff nD τ sig (Elt F) Λ₀ .tc) α} :
    recs mm K ⊢ iprop(Wt mm c 0 0 -∗ cred (tallyAt (cell c 0) (lvl 0) 3) -∗ Owes c n
      -∗ (bigSep (dut 0) (fun d => pay mm c 0 d) -∗ semVal (cell c 0) 0 -∗ Owes c n -∗ wpk c (k ⟨⟩) Q)
      -∗ wpk c (.op (.semWait barS k') k) Q) := by
  subst hk
  exact own_rest mm K c 0 csem0.symm (fun P => wpE_semWait_eq 𝒱₀ (c : Thread nD τ) none Set.univ P) 0 (by decide) hn

/-! ## Signals and sends -/

theorem own_signal {α : Type} {Q : α → sProp 𝕄} (c n' : Dev nD) {n k' : ℕ} (a : ℕ) (d : Fin 4) (hn : n' = xo c a) (hp : payK[n]? = some (a, 0)) (hd : d ∈ dut 0) (hk : k' = 1)
    {k : PUnit → Prog (TpuEff nD τ sig (Elt F) Λ₀ .tc) α} :
    recs mm K ⊢ iprop(pay mm (xo c a) 0 d -∗ Tk (xo c a) 0 d -∗ Owes c n -∗ (Owes c (n + 1) -∗ wpk c (k ⟨⟩) Q)
      -∗ wpk c (.op (.semSignal (n' : Thread nD τ) barS k') k) Q) := by
  subst hn hk
  unfold Owes
  iintro #HR Hp Ht ⟨%W, HO⟩ Hk
  iapply (Rounds.wp_signal 𝒱₀ ER (Rd mm) (c : Thread nD τ) none (dst := (xo c a : Thread nD τ)) (κ := K (xo c a, 0)) (d := d) (r := 0)
    (show d ∈ (Rd mm).duties (cell (xo c a) 0) 0 by rw [duties_eq]; exact hd) (show (Rd mm).amount (cell (xo c a) 0) 0 d = 1 by rw [amount_eq]; rfl) 1
    (due c (n + 1)) (due_peel c n hp)) $$ [Hp Ht HO]
  · isplitr; · iapply (recs_inv mm K (xo c a) 0); iexact HR
    isplitl [HO]; · iexact HO
    isplitl [Ht]; · iexact Ht
    isplitl [Hp]
    · rw [show (((xo c a : Dev nD) : Thread nD τ), SemLoc.reg barS) = cell (xo c a) 0 from rfl, payload_eq]; iexact Hp
    · iapply (recs_reached mm K (xo c a) 0); iexact HR
  iintro HO
  iapply Hk
  iexists W; iexact HO

theorem own_send {α : Type} {Q : α → sProp 𝕄} {sp sp' : Space} {s : Shape} {e : EltTy} (c n' : Dev nD) {n : ℕ} (a : ℕ) (ks kr : Fin 28) (d₁ d₂ : Fin 4)
    {src : Memref sig .tc sp s e} {dst : Memref sig .tc sp' s e} {sS sR : SemLoc sig} {hsc : dst.view.ref.isScScratch = false}
    {hsrc : src.view.WordExact} {hdst : dst.view.WordExact}
    {hsem : DmaTarget.Typed (nD := nD) (τ := τ) (p := .tc) sp sR (.remote (n' : Thread nD τ) dst sS hsc)}
    (hn : n' = xo c a) (hp : payK[n]? = some (a, kr)) (hS : sS = csem ks) (hR : sR = csem kr) (h₁ : d₁ ∈ dut ks) (h₂ : d₂ ∈ dut kr)
    {X : s.Idx → Elt F e} (hN₁ : dst.view.dmaCredit = amt ks) (hN₂ : amt kr = amt ks) (hl : lvl ks = 0)
    (hD : dst.view.amount sR = dst.view.dmaCredit)
    (hpay₁ : ow c src fullShare.right X ⊢ pay mm c ks d₁) (hpay₂ : ow (xo c a) dst fullShare X ⊢ pay mm (xo c a) kr d₂)
    {k : PUnit → Prog (TpuEff nD τ sig (Elt F) Λ₀ .tc) α} :
    recs mm K ⊢ iprop(ow c src fullShare.right X -∗ (∃ Y, ow (xo c a) dst fullShare Y) -∗ Tk c ks d₁ -∗ Tk (xo c a) kr d₂ -∗ Owes c n
      -∗ (Cr c ks -∗ Owes c (n + 1) -∗ wpk c (k ⟨⟩) Q)
      -∗ wpk c (.op (.enqueueDma src (.remote (n' : Thread nD τ) dst sS hsc) sR hsrc hdst hsem) k) Q) := by
  subst hn hS hR
  unfold Owes ow
  iintro #HR Hs ⟨%Y, Hd⟩ Ht₁ Ht₂ ⟨%W, HO⟩ Hk
  ihave Hs := (show owns (c : Thread nD τ) src fullShare.right X ⊢ iprop(∃ f, ⌜src.view.read (Elt F) f = X⌝ ∗ (src.view.loc (c : Thread nD τ) ↦[src.view.set]{fullShare.right} f)) from .rfl) $$ Hs
  ihave Hd := (show owns ((xo c a : Dev nD) : Thread nD τ) dst fullShare Y ⊢ iprop(∃ f, ⌜dst.view.read (Elt F) f = Y⌝ ∗ (dst.view.loc ((xo c a : Dev nD) : Thread nD τ) ↦[dst.view.set]{fullShare} f)) from .rfl) $$ Hd
  icases Hs with ⟨%f, %hf, Hs⟩
  icases Hd with ⟨%g, %hg, Hd⟩
  iapply (Rounds.wp_send_pointsTo 𝒱₀ ER (Rd mm) (c : Thread nD τ) none (c' := ((xo c a : Dev nD) : Thread nD τ)) (src := src) (dst := dst)
    (κ₁ := K (c, ks)) (κ₂ := K (xo c a, kr)) (r₁ := 0) (r₂ := 0) (d₁ := d₁) (d₂ := d₂) (fs := f) (fd := g) (q := fullShare.right) (O₀ := due c n)
    (show d₁ ∈ (Rd mm).duties (cell c ks) 0 by rw [duties_eq]; exact h₁) (show d₂ ∈ (Rd mm).duties (cell (xo c a) kr) 0 by rw [duties_eq]; exact h₂)
    (lvl kr) (lvl ks) (amt ks) (hD.trans hN₁) (amount_eq mm c ks d₁) ((amount_eq mm (xo c a) kr d₂).trans hN₂) (due c (n + 1))
    (by rw [← hN₂]; exact due_peel c n hp) (W := W)
    (by
      rw [payload_eq]
      refine BI.Entails.trans ?_ hpay₁
      rw [← hf]; exact owns_intro (c : Thread nD τ) src fullShare.right f)
    (by
      rw [payload_eq]
      refine BI.Entails.trans ?_ hpay₂
      refine (owns_intro ((xo c a : Dev nD) : Thread nD τ) dst fullShare _).trans ?_
      rw [View.read_write_univ, hf])) $$ [Hs Hd HO Ht₁ Ht₂]
  · isplitr; · iapply (recs_inv mm K c ks); iexact HR
    isplitr; · iapply (recs_inv mm K (xo c a) kr); iexact HR
    isplitl [Hs]; · iexact Hs
    isplitl [Hd]; · iexact Hd
    isplitl [HO]; · iexact HO
    isplitl [Ht₁]; · iexact Ht₁
    isplitr; · iapply (recs_reached mm K c ks); iexact HR
    isplitl [Ht₂]; · iexact Ht₂
    iapply (recs_reached mm K (xo c a) kr); iexact HR
  iintro ⟨Hc, HO⟩
  iapply Hk $$ Hc
  iexists W; iexact HO

end Proto

end Cert.KProof

end
-- ==== Proof.Ghost.lean ====
module

public import proofs.«01_k».proof.Proof.Rules
public import Idealize.ShloMosaic.Lib.Pipeline.Value

/-! What the launch deals each device: the invariants of all cells, its positions, its tokens, its credit, its semaphores. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## The kernel's own semaphores -/

/-- The device's own semaphores: five of the loads, two of the results' copies, then the twenty-seven cells of the exchange. -/
abbrev osem (i : Fin 34) : SemLoc sig := .dma ⟨2 + i.val, by have := i.isLt; show 2 + i.val < 36; omega⟩
theorem ownSemFacts : Pipeline.OwnSemFacts cfg0.spec osem := by decide

abbrev sv (c : Dev nD) (s : SemLoc sig) : sProp 𝕄 := semVal ((c : Thread nD τ), s) 0

/-- The counters of the seven semaphores of local copies. -/
def sem7 (c : Dev nD) : sProp 𝕄 := iprop(sv (F := F) c (.dma lS0) ∗ sv (F := F) c (.dma lS1) ∗ sv (F := F) c (.dma lS2) ∗ sv (F := F) c (.dma lS3) ∗ sv (F := F) c (.dma lS4) ∗ sv (F := F) c (.dma oS0) ∗ sv (F := F) c (.dma oS1))
/-- The counters of the cells other than the barrier. -/
def semD (c : Dev nD) : sProp 𝕄 := iprop(sv (F := F) c (csem 1) ∗ sv (F := F) c (csem 2) ∗ sv (F := F) c (csem 3) ∗ sv (F := F) c (csem 4) ∗ sv (F := F) c (csem 5) ∗ sv (F := F) c (csem 6) ∗ sv (F := F) c (csem 7) ∗ sv (F := F) c (csem 8) ∗ sv (F := F) c (csem 9) ∗ sv (F := F) c (csem 10) ∗ sv (F := F) c (csem 11) ∗ sv (F := F) c (csem 12) ∗ sv (F := F) c (csem 13) ∗ sv (F := F) c (csem 14) ∗ sv (F := F) c (csem 15) ∗ sv (F := F) c (csem 16) ∗ sv (F := F) c (csem 17) ∗ sv (F := F) c (csem 18) ∗ sv (F := F) c (csem 19) ∗ sv (F := F) c (csem 20) ∗ sv (F := F) c (csem 21) ∗ sv (F := F) c (csem 22) ∗ sv (F := F) c (csem 23) ∗ sv (F := F) c (csem 24) ∗ sv (F := F) c (csem 25) ∗ sv (F := F) c (csem 26) ∗ sv (F := F) c (csem 27))

omit [FloatOps F] in
theorem osem_csem : ∀ k : Fin 28, k.val ≠ 0 → ∃ h : 6 + k.val < 34, osem ⟨6 + k.val, h⟩ = csem k := by decide

omit [FloatOps F] in
theorem ownSems0_eq (c : Dev nD) : (Pipeline.ownSems0 (Ix := ℕ) (Name := ℕ) (U := UU) (Lvl := ℕ) (Val := Elt F) (τ := τ) osem c : sProp 𝕄)
    = iprop(sv (F := F) c (.dma lS0) ∗ sv (F := F) c (.dma lS1) ∗ sv (F := F) c (.dma lS2) ∗ sv (F := F) c (.dma lS3) ∗ sv (F := F) c (.dma lS4) ∗ sv (F := F) c (.dma oS0) ∗ sv (F := F) c (.dma oS1) ∗ semD (F := F) c) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33] (by decide) (by decide)]
  unfold semD
  rfl
omit [FloatOps F] in
theorem unscopedSems0_eq (c : Dev nD) : (unscopedSems0 c : sProp 𝕄) = sv (F := F) c (csem 0) := by
  unfold unscopedSems0; rw [bigSep_eq_bigSepL_of_eq [SemLoc.reg barS] (by decide) (by decide)]; rfl

omit [FloatOps F] in
theorem cells_list (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

omit [FloatOps F] in
/-- The semaphores at zero, sorted into those of local copies and the cells. -/
theorem sems_in (c : Dev nD) : iprop(Pipeline.ownSems0 (Ix := ℕ) (Name := ℕ) (U := UU) (Lvl := ℕ) (Val := Elt F) (τ := τ) osem c ∗ unscopedSems0 c)
    ⊢ (iprop(sem7 (F := F) c ∗ bigSep Finset.univ fun k => sv (F := F) c (csem k)) : sProp 𝕄) := by
  rw [ownSems0_eq, unscopedSems0_eq, cells_list]
  unfold sem7 semD
  iintro ⟨⟨H0, H1, H2, H3, H4, H5, H6, H7⟩, HB⟩
  isplitl [H0 H1 H2 H3 H4 H5 H6]
  · iframe
  · isplitl [HB]
    · iexact HB
    · iexact H7
omit [FloatOps F] in
theorem sems_out (c : Dev nD) : (iprop(sem7 (F := F) c ∗ semD (F := F) c) : sProp 𝕄)
    ⊢ Pipeline.ownSems0 (Ix := ℕ) (Name := ℕ) (U := UU) (Lvl := ℕ) (Val := Elt F) (τ := τ) osem c := by
  rw [ownSems0_eq]
  unfold sem7
  iintro ⟨⟨H0, H1, H2, H3, H4, H5, H6⟩, H7⟩
  iframe

/-! ## The launch element -/

theorem kcell_inj : Function.Injective (fun x : Dev nD × Fin 28 => cell x.1 x.2) := by
  rintro ⟨c, k⟩ ⟨c', k'⟩ h
  have h1 : c = c' := congrArg (fun g : GSem nD τ sig => g.1.1) h
  have h2 : csem k = csem k' := congrArg Prod.snd h
  rw [h1, csem_inj h2]
/-- All cells of all devices. -/
def kCells : Finset (GSem nD τ sig) := Finset.univ.map ⟨_, kcell_inj⟩

/-- The duties of a device's cells. -/
def dts : Finset (Fin 28 × Fin 4) := Finset.univ.filter fun x => x.2 ∈ dut x.1
theorem ktok_inj : Function.Injective (fun x : (_ : Dev nD) × (Fin 28 × Fin 4) => ((cell x.1 x.2.1, 0, x.2.2) : GSem nD τ sig × ℕ × Fin 4)) := by
  rintro ⟨c, k, d⟩ ⟨c', k', d'⟩ h
  have h0 : cell c k = cell c' k' := congrArg Prod.fst h
  have h1 : c = c' := congrArg (fun g : GSem nD τ sig => g.1.1) h0
  have h2 : csem k = csem k' := congrArg Prod.snd h0
  have h3 : d = d' := congrArg (fun x : GSem nD τ sig × ℕ × Fin 4 => x.2.2) h
  subst h1 h3
  rw [csem_inj h2]
/-- All duties' tokens. -/
def kToks : Finset (GSem nD τ sig × ℕ × Fin 4) := ((Finset.univ : Finset (Dev nD)).sigma fun _ => dts).map ⟨_, ktok_inj⟩

def u₀ : UU := (initOf (Pipeline.cells cfgs cellOf_inj) (Pipeline.launchToks cfgs cellOf_inj), (initOf kCells kToks, 1))

/-- The tokens of the duties of device `c`'s own cells; the tokens of the duties that device `c` pays. -/
def ownToks (c : Dev nD) : sProp 𝕄 := bigSep dts fun x => Tk (F := F) c x.1 x.2
/-- The mask of the device that pays a duty. -/
def mk (x : Fin 28 × Fin 4) : Fin 8 :=
  if x.1.val = 0 then ![1, 3, 4, 0] x.2 else if x.1.val < 10 then 0
  else (![1, 3, 3, 4, 4, 1, 4, 4, 4, 4, 1, 1, 1, 1, 3, 3, 3, 3] : Fin 18 → Fin 8) ⟨(x.1.val - 10) % 18, Nat.mod_lt _ (by decide)⟩
def payToks (c : Dev nD) : sProp 𝕄 := bigSep dts fun x => Tk (F := F) (xo c (mk x).val) x.1 x.2

theorem xo_xo : ∀ (a : Fin 8) (c : Dev nD), xo (xo c a.val) a.val = c := by decide
/-- Exclusive-or with a mask, as a permutation of the devices. -/
def xoE (a : Fin 8) : Dev nD ≃ Dev nD := ⟨fun c => xo c a.val, fun c => xo c a.val, xo_xo a, xo_xo a⟩

omit [FloatOps F] in
/-- Two iterated conjunctions change places. -/
theorem bigSep_swap {I J : Type} [DecidableEq J] (s : Finset I) (t : Finset J) (Φ : I → J → sProp 𝕄) :
    (bigSep s fun i => bigSep t fun j => Φ i j) = bigSep t fun j => bigSep s fun i => Φ i j := by
  induction t using Finset.induction_on with
  | empty =>
    rw [bigSep_empty, bigSep_congr (s := s) (Ψ := fun _ => (iprop(emp) : sProp 𝕄)) fun i _ => bigSep_empty]
    exact bigSep_emp_const s
  | insert j t hj ih =>
    rw [bigSep_insert hj, ← ih]
    exact (bigSep_congr fun i _ => bigSep_insert hj).trans (bigSep_sep' _ _ _)
omit [FloatOps F] in
/-- Dealing the tokens to their payers. -/
theorem toks_around : (bigSep Finset.univ fun c : Dev nD => (ownToks (F := F) c : sProp 𝕄)) ⊢ bigSep Finset.univ fun c : Dev nD => payToks (F := F) c := by
  unfold ownToks payToks
  refine Entails.of_eq ?_
  rw [bigSep_swap, bigSep_swap (s := Finset.univ) (t := dts) (Φ := fun (c : Dev nD) x => Tk (F := F) (xo c (mk x).val) x.1 x.2)]
  exact bigSep_congr fun x _ => bigSep_univ_equiv (xoE (mk x)) (fun c : Dev nD => (Tk (F := F) c x.1 x.2 : sProp 𝕄))

set_option maxRecDepth 100000 in
theorem dts_eq : dts = ([(0, 0), (0, 1), (0, 2), (1, 0), (10, 0), (4, 0), (12, 0), (7, 0), (14, 0), (8, 0), (15, 0), (8, 1), (15, 1), (2, 0), (11, 0), (2, 1), (11, 1), (5, 0), (13, 0), (5, 1), (13, 1), (9, 0), (24, 0), (9, 1), (25, 0), (9, 2), (26, 0), (9, 3), (27, 0), (3, 0), (16, 0), (3, 1), (17, 0), (3, 2), (18, 0), (3, 3), (19, 0), (6, 0), (20, 0), (6, 1), (21, 0), (6, 2), (22, 0), (6, 3), (23, 0)] : List (Fin 28 × Fin 4)).toFinset := by decide +kernel
omit [FloatOps F] in
theorem payToks_list (c : Dev nD) : (payToks (F := F) c : sProp 𝕄) ⊢ iprop(Tk (F := F) (xo c 1) 0 0 ∗ Tk (F := F) (xo c 3) 0 1 ∗ Tk (F := F) (xo c 4) 0 2 ∗ Tk (F := F) c 1 0 ∗ Tk (F := F) (xo c 1) 10 0 ∗ Tk (F := F) c 4 0 ∗ Tk (F := F) (xo c 3) 12 0 ∗ Tk (F := F) c 7 0 ∗ Tk (F := F) (xo c 4) 14 0 ∗ Tk (F := F) c 8 0 ∗ Tk (F := F) (xo c 1) 15 0 ∗ Tk (F := F) c 8 1 ∗ Tk (F := F) (xo c 1) 15 1 ∗ Tk (F := F) c 2 0 ∗ Tk (F := F) (xo c 3) 11 0 ∗ Tk (F := F) c 2 1 ∗ Tk (F := F) (xo c 3) 11 1 ∗ Tk (F := F) c 5 0 ∗ Tk (F := F) (xo c 4) 13 0 ∗ Tk (F := F) c 5 1 ∗ Tk (F := F) (xo c 4) 13 1 ∗ Tk (F := F) c 9 0 ∗ Tk (F := F) (xo c 3) 24 0 ∗ Tk (F := F) c 9 1 ∗ Tk (F := F) (xo c 3) 25 0 ∗ Tk (F := F) c 9 2 ∗ Tk (F := F) (xo c 3) 26 0 ∗ Tk (F := F) c 9 3 ∗ Tk (F := F) (xo c 3) 27 0 ∗ Tk (F := F) c 3 0 ∗ Tk (F := F) (xo c 4) 16 0 ∗ Tk (F := F) c 3 1 ∗ Tk (F := F) (xo c 4) 17 0 ∗ Tk (F := F) c 3 2 ∗ Tk (F := F) (xo c 4) 18 0 ∗ Tk (F := F) c 3 3 ∗ Tk (F := F) (xo c 4) 19 0 ∗ Tk (F := F) c 6 0 ∗ Tk (F := F) (xo c 1) 20 0 ∗ Tk (F := F) c 6 1 ∗ Tk (F := F) (xo c 1) 21 0 ∗ Tk (F := F) c 6 2 ∗ Tk (F := F) (xo c 1) 22 0 ∗ Tk (F := F) c 6 3 ∗ Tk (F := F) (xo c 1) 23 0) := by
  have H : (payToks (F := F) c : sProp 𝕄) = iprop(Tk (F := F) (xo c 1) 0 0 ∗ Tk (F := F) (xo c 3) 0 1 ∗ Tk (F := F) (xo c 4) 0 2 ∗ Tk (F := F) (xo c 0) 1 0 ∗ Tk (F := F) (xo c 1) 10 0 ∗ Tk (F := F) (xo c 0) 4 0 ∗ Tk (F := F) (xo c 3) 12 0 ∗ Tk (F := F) (xo c 0) 7 0 ∗ Tk (F := F) (xo c 4) 14 0 ∗ Tk (F := F) (xo c 0) 8 0 ∗ Tk (F := F) (xo c 1) 15 0 ∗ Tk (F := F) (xo c 0) 8 1 ∗ Tk (F := F) (xo c 1) 15 1 ∗ Tk (F := F) (xo c 0) 2 0 ∗ Tk (F := F) (xo c 3) 11 0 ∗ Tk (F := F) (xo c 0) 2 1 ∗ Tk (F := F) (xo c 3) 11 1 ∗ Tk (F := F) (xo c 0) 5 0 ∗ Tk (F := F) (xo c 4) 13 0 ∗ Tk (F := F) (xo c 0) 5 1 ∗ Tk (F := F) (xo c 4) 13 1 ∗ Tk (F := F) (xo c 0) 9 0 ∗ Tk (F := F) (xo c 3) 24 0 ∗ Tk (F := F) (xo c 0) 9 1 ∗ Tk (F := F) (xo c 3) 25 0 ∗ Tk (F := F) (xo c 0) 9 2 ∗ Tk (F := F) (xo c 3) 26 0 ∗ Tk (F := F) (xo c 0) 9 3 ∗ Tk (F := F) (xo c 3) 27 0 ∗ Tk (F := F) (xo c 0) 3 0 ∗ Tk (F := F) (xo c 4) 16 0 ∗ Tk (F := F) (xo c 0) 3 1 ∗ Tk (F := F) (xo c 4) 17 0 ∗ Tk (F := F) (xo c 0) 3 2 ∗ Tk (F := F) (xo c 4) 18 0 ∗ Tk (F := F) (xo c 0) 3 3 ∗ Tk (F := F) (xo c 4) 19 0 ∗ Tk (F := F) (xo c 0) 6 0 ∗ Tk (F := F) (xo c 1) 20 0 ∗ Tk (F := F) (xo c 0) 6 1 ∗ Tk (F := F) (xo c 1) 21 0 ∗ Tk (F := F) (xo c 0) 6 2 ∗ Tk (F := F) (xo c 1) 22 0 ∗ Tk (F := F) (xo c 0) 6 3 ∗ Tk (F := F) (xo c 1) 23 0) := by
    unfold payToks
    rw [bigSep_eq_bigSepL_of_eq [(0, 0), (0, 1), (0, 2), (1, 0), (10, 0), (4, 0), (12, 0), (7, 0), (14, 0), (8, 0), (15, 0), (8, 1), (15, 1), (2, 0), (11, 0), (2, 1), (11, 1), (5, 0), (13, 0), (5, 1), (13, 1), (9, 0), (24, 0), (9, 1), (25, 0), (9, 2), (26, 0), (9, 3), (27, 0), (3, 0), (16, 0), (3, 1), (17, 0), (3, 2), (18, 0), (3, 3), (19, 0), (6, 0), (20, 0), (6, 1), (21, 0), (6, 2), (22, 0), (6, 3), (23, 0)] dts_eq (by decide +kernel)]
    rfl
  rw [xo_zero] at H
  exact Entails.of_eq H

section Glob
variable (mm : (ℓ : Loc nD τ sig) → Buf (Elt F) ℓ)

/-- What the launch element deals device `c`. -/
def G (c : Dev nD) : sProp 𝕄 :=
  iprop((bigSep Finset.univ fun k : Fin 28 => roundState ER (Rd mm) (cell c k) 0)
    ∗ (bigSep Finset.univ fun k : Fin 28 => iprop(atPos ER (cell c k) 0 ∅ 0 ∗ reached ER (cell c k) 0)) ∗ ownToks (F := F) c)

/-- The invariants of all cells and that every cell has reached round 0. -/
def invs (K : Dev nD × Fin 28 → ℕ) : sProp 𝕄 :=
  iprop(bigSep Finset.univ (fun x : Dev nD × Fin 28 => cellInv ER (Rd mm) (K x) (cell x.1 x.2))
    ∗ bigSep Finset.univ (fun x : Dev nD × Fin 28 => reached ER (cell x.1 x.2) 0))
instance invs_persistent (K : Dev nD × Fin 28 → ℕ) : BI.Persistent (invs mm K) := by unfold invs; infer_instance

/-- What stays with device `c`: its positions, the tokens it pays with, its local copies' counters. -/
def mine (c : Dev nD) : sProp 𝕄 :=
  iprop((bigSep Finset.univ fun k : Fin 28 => atPos ER (cell c k) 0 ∅ 0) ∗ payToks (F := F) c ∗ sem7 (F := F) c)

/-- What the global step makes of it. -/
def G' (c : Dev nD) : sProp 𝕄 := iprop(∃ K, invs mm K ∗ mine (F := F) c)

theorem fund_cells : BI.own (ER (initOf kCells kToks)) ⊢ (|==> bigSep Finset.univ (G mm) : sProp 𝕄) := by
  have hX (Φ : GSem nD τ sig → sProp 𝕄) : bigSep kCells Φ = bigSep Finset.univ fun c : Dev nD => bigSep Finset.univ fun k : Fin 28 => Φ (cell c k) := by
    unfold kCells; rw [bigSep_map, bigSep_univ_prod]; rfl
  have hT : bigSep kToks (fun x => (dutyTok ER x.1 x.2.1 x.2.2 : sProp 𝕄)) = bigSep Finset.univ fun c : Dev nD => ownToks (F := F) c := by
    unfold kToks ownToks; rw [bigSep_map, Pipeline.bigSep_sigma]; rfl
  iintro HX
  imod (Rounds.fund ER (Rd mm) kCells kToks) $$ HX with ⟨Hst, Hr, Hat, Htok⟩
  imodintro
  ihave Hst' := (Entails.of_eq (hX fun g => roundState ER (Rd mm) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G mm c)
      ⊢ |={Set.univ}=> iprop((bigSep Finset.univ fun k => iprop(∃ κ : ℕ, cellInv ER (Rd mm) κ (cell c k)))
          ∗ (bigSep Finset.univ fun k => iprop(atPos ER (cell c k) 0 ∅ 0 ∗ reached ER (cell c k) 0)) ∗ ownToks (F := F) c ∗ sem7 (F := F) c) := by
  unfold G
  iintro ⟨Hos, Hus, Hst, Hat, Htok⟩
  ihave Hv := (sems_in (F := F) c) $$ [Hos Hus]
  · isplitl [Hos] <;> iassumption
  icases Hv with ⟨H7, Hv⟩
  imod (show iprop((bigSep Finset.univ fun k : Fin 28 => semVal (cell c k) 0) ∗ bigSep Finset.univ fun k : Fin 28 => roundState ER (Rd mm) (cell c k) 0)
      ⊢ (|={Set.univ}=> bigSep Finset.univ fun k => iprop(∃ κ : ℕ, cellInv ER (Rd mm) κ (cell c k)) : sProp 𝕄) from by
        rw [← bigSep_sep']
        exact (bigSep_mono fun k _ => (Rounds.body_intro ER (Rd mm) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact H7

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd mm) κ (cell c k)))
          ∗ (bigSep Finset.univ fun k => iprop(atPos ER (cell c k) 0 ∅ 0 ∗ reached ER (cell c k) 0)) ∗ ownToks (F := F) c ∗ sem7 (F := F) c) : sProp 𝕄)
      ⊢ bigSep Finset.univ (G' mm) := by
  rw [bigSep_sep', bigSep_sep', bigSep_sep', ← bigSep_univ_prod (fun x : Dev nD × Fin 28 => iprop(∃ κ : ℕ, cellInv ER (Rd mm) κ (cell x.1 x.2))),
    bigSep_congr (s := Finset.univ) (fun (c : Dev nD) _ => bigSep_sep' Finset.univ (fun k : Fin 28 => (atPos ER (cell c k) 0 ∅ 0 : sProp 𝕄)) (fun k => reached ER (cell c k) 0)),
    bigSep_sep', ← bigSep_univ_prod (fun x : Dev nD × Fin 28 => (reached ER (cell x.1 x.2) 0 : sProp 𝕄))]
  iintro ⟨HI, ⟨Hat, #HR⟩, Htok, H7⟩
  ihave HK := (BI.bigSep_exists_pi Finset.univ (fun (x : Dev nD × Fin 28) (κ : ℕ) => (cellInv ER (Rd mm) κ (cell x.1 x.2) : sProp 𝕄))) $$ HI
  icases HK with ⟨%K, #HI⟩
  ihave Htk := (toks_around (F := F)) $$ Htok
  iapply (bigSep_with (R := invs mm K) (Φ := fun c => mine (F := F) c) fun c _ => show iprop(invs mm K ∗ mine (F := F) c) ⊢ G' mm c from by
    unfold G'; iintro ⟨H1, H2⟩; iexists K; isplitl [H1] <;> iassumption)
  isplitr
  · unfold invs; isplitl; · iexact HI
    iexact HR
  · unfold mine
    rw [bigSep_sep', bigSep_sep']
    isplitl [Hat]; · iexact Hat
    isplitl [Htk]; · iexact Htk
    iexact H7

/-- The global step: every device's semaphores at once become the cells' invariants. -/
theorem glob : (bigSep Finset.univ fun c => iprop(Pipeline.ownSems0 (Ix := ℕ) (Name := ℕ) (U := UU) (Lvl := ℕ) (Val := Elt F) (τ := τ) osem c ∗ unscopedSems0 c ∗ G mm c) : sProp 𝕄)
    ⊢ |={Set.univ}=> bigSep Finset.univ (G' mm) :=
  ((bigSep_mono fun c _ => core_alloc mm c).trans (bigSep_fupd _ _)).trans (BI.fupd_mono (regroup mm))

/-- The positions as the waits take them. -/
theorem waits_list (c : Dev nD) : (bigSep Finset.univ fun k : Fin 28 => (atPos ER (cell c k) 0 ∅ 0 : sProp 𝕄)) ⊢ iprop(Wt mm c 0 0 ∗ Wt mm c 1 0 ∗ Wt mm c 2 0 ∗ Wt mm c 3 0 ∗ Wt mm c 4 0 ∗ Wt mm c 5 0 ∗ Wt mm c 6 0 ∗ Wt mm c 7 0 ∗ Wt mm c 8 0 ∗ Wt mm c 9 0 ∗ Wt mm c 10 0 ∗ Wt mm c 11 0 ∗ Wt mm c 12 0 ∗ Wt mm c 13 0 ∗ Wt mm c 14 0 ∗ Wt mm c 15 0 ∗ Wt mm c 16 0 ∗ Wt mm c 17 0 ∗ Wt mm c 18 0 ∗ Wt mm c 19 0 ∗ Wt mm c 20 0 ∗ Wt mm c 21 0 ∗ Wt mm c 22 0 ∗ Wt mm c 23 0 ∗ Wt mm c 24 0 ∗ Wt mm c 25 0 ∗ Wt mm c 26 0 ∗ Wt mm c 27 0) := by
  rw [← cells_list (fun k => Wt mm c k 0)]
  refine bigSep_mono fun k _ => ?_
  show (atPos ER (cell c k) 0 ∅ 0 : sProp 𝕄) ⊢ Wt mm c k 0
  unfold Wt
  iintro H
  iexists ∅
  isplitr
  · ipureintro; exact Finset.empty_subset _
  isplitl [H]
  · rw [Nat.zero_mul]; iexact H
  · rw [bigSep_empty]; iempintro

end Glob

/-! ## The launch credit -/

/-- What device `d` owes the cells of device `c`, all devices `d` in order, as cells. -/
def keys (c : Dev nD) : List (Fin 28) := (List.finRange nD).flatMap fun d => (payK.filter fun x => decide (xo d x.1 = c)).map Prod.snd
theorem keys_perm : ∀ c, (keys c).Perm [0, 0, 0, 10, 11, 11, 12, 13, 13, 14, 15, 15, 16, 17, 18, 19, 20, 21, 22, 23, 24, 25, 26, 27] := by decide +kernel

theorem credOf_eq (c : Dev nD) : TalkSites.credOf pays c = (keys c).map fun k => (cell c k, lvl k, amt k) := by
  unfold TalkSites.credOf TalkSites.allPays keys
  rw [List.filter_flatMap, List.map_flatMap]
  congr 1
  funext d
  show (pays d).filter _ = _
  unfold pays
  rw [List.filter_map, List.map_map]
  have hf : ((fun x : Pay nD τ sig => decide (x.1.1 = (c.tc : Thread nD τ))) ∘ fun x : ℕ × Fin 28 => ((cell (xo d x.1) x.2, lvl x.2, amt x.2) : Pay nD τ sig))
      = fun x => decide (xo d x.1 = c) := by
    funext x
    refine decide_eq_decide.mpr ⟨fun h => congrArg Prod.fst h, fun h => ?_⟩
    show ((xo d x.1).tc : Thread nD τ) = c.tc
    rw [h]
  rw [hf]
  refine List.map_congr_left fun x hx => ?_
  have := of_decide_eq_true (List.mem_filter.mp hx).2
  show (cell (xo d x.1) x.2, lvl x.2, amt x.2) = _
  rw [this]; rfl

theorem tallyL_perm {l l' : List (Pay nD τ sig)} (h : l.Perm l') : tallyL l = tallyL l' := by
  induction h with
  | nil => rfl
  | cons x _ ih => rw [tallyL, tallyL, ih]
  | swap x y l => rw [tallyL, tallyL, tallyL, tallyL, add_left_comm]
  | trans _ _ h₁ h₂ => exact h₁.trans h₂

omit [FloatOps F] in
theorem bar_credit (c : Dev nD) : iprop(Cr (F := F) c 0 ∗ Cr (F := F) c 0 ∗ Cr (F := F) c 0) ⊢ (cred (tallyAt (cell c 0) (lvl 0) 3) : sProp 𝕄) := by
  rw [show (tallyAt (cell c 0) (lvl 0) 3 : CellTallies nD τ sig ℕ) = tallyAt (cell c 0) (lvl 0) (amt 0) + (tallyAt (cell c 0) (lvl 0) (amt 0) + tallyAt (cell c 0) (lvl 0) (amt 0)) from by
    rw [tallyAt_add, tallyAt_add]; rfl]
  iintro ⟨H0, H1, H2⟩
  iapply (cred_add _ _).2
  isplitl [H0]; · iexact H0
  iapply (cred_add _ _).2
  isplitl [H1] <;> iassumption

omit [FloatOps F] in
/-- The credit for all that the other devices owe device `c`. -/
theorem creds (c : Dev nD) : (Pipeline.launchCred (fun d => due d 0) c : sProp 𝕄)
    ⊢ iprop(cred (tallyAt (cell c 0) (lvl 0) 3) ∗ Cr (F := F) c 10 ∗ Cr (F := F) c 11 ∗ Cr (F := F) c 11 ∗ Cr (F := F) c 12 ∗ Cr (F := F) c 13 ∗ Cr (F := F) c 13 ∗ Cr (F := F) c 14 ∗ Cr (F := F) c 15 ∗ Cr (F := F) c 15 ∗ Cr (F := F) c 16 ∗ Cr (F := F) c 17 ∗ Cr (F := F) c 18 ∗ Cr (F := F) c 19 ∗ Cr (F := F) c 20 ∗ Cr (F := F) c 21 ∗ Cr (F := F) c 22 ∗ Cr (F := F) c 23 ∗ Cr (F := F) c 24 ∗ Cr (F := F) c 25 ∗ Cr (F := F) c 26 ∗ Cr (F := F) c 27) := by
  have H : (Pipeline.launchCred (fun d => due d 0) c : sProp 𝕄) = iprop(Cr (F := F) c 0 ∗ Cr (F := F) c 0 ∗ Cr (F := F) c 0 ∗ Cr (F := F) c 10 ∗ Cr (F := F) c 11 ∗ Cr (F := F) c 11 ∗ Cr (F := F) c 12 ∗ Cr (F := F) c 13 ∗ Cr (F := F) c 13 ∗ Cr (F := F) c 14 ∗ Cr (F := F) c 15 ∗ Cr (F := F) c 15 ∗ Cr (F := F) c 16 ∗ Cr (F := F) c 17 ∗ Cr (F := F) c 18 ∗ Cr (F := F) c 19 ∗ Cr (F := F) c 20 ∗ Cr (F := F) c 21 ∗ Cr (F := F) c 22 ∗ Cr (F := F) c 23 ∗ Cr (F := F) c 24 ∗ Cr (F := F) c 25 ∗ Cr (F := F) c 26 ∗ Cr (F := F) c 27) := by
    refine (TalkSites.launchCred_tallyL pays (fun d x hx => by
      unfold pays at hx
      obtain ⟨y, -, rfl⟩ := List.mem_map.mp hx
      rfl) c).trans ?_
    rw [credOf_eq, tallyL_perm ((keys_perm c).map _), TalkSites.cred_tallyL]
    rfl
  rw [H]
  iintro ⟨H0, H1, H2, H3⟩
  isplitl [H0 H1 H2]
  · iapply (bar_credit c)
    isplitl [H0]; · iexact H0
    isplitl [H1] <;> iassumption
  · iexact H3

end Cert.KProof

end
-- ==== Proof.Cells.lean ====
module

public import proofs.«01_k».proof.Proof.Rules
public import Idealize.ShloMosaic.Lib.Pipeline.Value

/-! What each duty of each cell hands over, as owned slices. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## The duties of a cell, one by one -/

section Rest
variable (k : Fin 28) (Φ : Fin 4 → sProp 𝕄)

omit [FloatOps F] in
theorem rest1 (Φ : Fin 4 → sProp 𝕄) (k : Fin 28) (h : dut k = {0}) : bigSep (dut k) Φ ⊢ Φ 0 := by
  rw [h, bigSep_singleton]
omit [FloatOps F] in
theorem rest2 (Φ : Fin 4 → sProp 𝕄) (k : Fin 28) (h : dut k = {0, 1}) : bigSep (dut k) Φ ⊢ iprop(Φ 0 ∗ Φ 1) := by
  rw [h, bigSep_insert (by decide), bigSep_singleton]; exact .rfl
omit [FloatOps F] in
theorem rest3 (Φ : Fin 4 → sProp 𝕄) (k : Fin 28) (h : dut k = {0, 1, 2}) : bigSep (dut k) Φ ⊢ iprop(Φ 0 ∗ Φ 1 ∗ Φ 2) := by
  rw [h, bigSep_insert (by decide), bigSep_insert (by decide), bigSep_singleton]; exact .rfl
omit [FloatOps F] in
theorem rest4 (Φ : Fin 4 → sProp 𝕄) (k : Fin 28) (h : dut k = {0, 1, 2, 3}) : bigSep (dut k) Φ ⊢ iprop(Φ 0 ∗ Φ 1 ∗ Φ 2 ∗ Φ 3) := by
  rw [h, bigSep_insert (by decide), bigSep_insert (by decide), bigSep_insert (by decide), bigSep_singleton]; exact .rfl
end Rest

section Pays
variable (mm : (ℓ : Loc nD τ sig) → Buf (Elt F) ℓ)

/-! ## The payloads -/

theorem pay_1_0 (c : Dev nD) : pay mm c 1 0 = ow c mA0 fullShare.right (XA mm (xo c 0)) := rfl
theorem pay_2_0 (c : Dev nD) : pay mm c 2 0 = ow c mA0 fullShare.right (XA mm (xo c 0)) := rfl
theorem pay_2_1 (c : Dev nD) : pay mm c 2 1 = ow c mA1 fullShare.right (XA mm (xo c 1)) := rfl
theorem pay_3_0 (c : Dev nD) : pay mm c 3 0 = ow c mA0 fullShare.right (XA mm (xo c 0)) := rfl
theorem pay_3_1 (c : Dev nD) : pay mm c 3 1 = ow c mA1 fullShare.right (XA mm (xo c 1)) := rfl
theorem pay_3_2 (c : Dev nD) : pay mm c 3 2 = ow c mA2 fullShare.right (XA mm (xo c 3)) := rfl
theorem pay_3_3 (c : Dev nD) : pay mm c 3 3 = ow c mA3 fullShare.right (XA mm (xo c 2)) := rfl
theorem pay_4_0 (c : Dev nD) : pay mm c 4 0 = ow c mB0 fullShare.right (XB mm (xo c 0)) := rfl
theorem pay_5_0 (c : Dev nD) : pay mm c 5 0 = ow c mB0 fullShare.right (XB mm (xo c 0)) := rfl
theorem pay_5_1 (c : Dev nD) : pay mm c 5 1 = ow c mB1 fullShare.right (XB mm (xo c 3)) := rfl
theorem pay_6_0 (c : Dev nD) : pay mm c 6 0 = ow c mB0 fullShare.right (XB mm (xo c 0)) := rfl
theorem pay_6_1 (c : Dev nD) : pay mm c 6 1 = ow c mB1 fullShare.right (XB mm (xo c 3)) := rfl
theorem pay_6_2 (c : Dev nD) : pay mm c 6 2 = ow c mB2 fullShare.right (XB mm (xo c 4)) := rfl
theorem pay_6_3 (c : Dev nD) : pay mm c 6 3 = ow c mB3 fullShare.right (XB mm (xo c 7)) := rfl
theorem pay_7_0 (c : Dev nD) : pay mm c 7 0 = ow c mC0 fullShare.right (XC mm (xo c 0)) := rfl
theorem pay_8_0 (c : Dev nD) : pay mm c 8 0 = ow c mC0 fullShare.right (XC mm (xo c 0)) := rfl
theorem pay_8_1 (c : Dev nD) : pay mm c 8 1 = ow c mC1 fullShare.right (XC mm (xo c 4)) := rfl
theorem pay_9_0 (c : Dev nD) : pay mm c 9 0 = ow c mC0 fullShare.right (XC mm (xo c 0)) := rfl
theorem pay_9_1 (c : Dev nD) : pay mm c 9 1 = ow c mC1 fullShare.right (XC mm (xo c 4)) := rfl
theorem pay_9_2 (c : Dev nD) : pay mm c 9 2 = ow c mC2 fullShare.right (XC mm (xo c 1)) := rfl
theorem pay_9_3 (c : Dev nD) : pay mm c 9 3 = ow c mC3 fullShare.right (XC mm (xo c 5)) := rfl
theorem pay_10_0 (c : Dev nD) : pay mm c 10 0 = ow c mA1 fullShare (XA mm (xo c 1)) := rfl
theorem pay_11_0 (c : Dev nD) : pay mm c 11 0 = ow c mA2 fullShare (XA mm (xo c 3)) := rfl
theorem pay_11_1 (c : Dev nD) : pay mm c 11 1 = ow c mA3 fullShare (XA mm (xo c 2)) := rfl
theorem pay_12_0 (c : Dev nD) : pay mm c 12 0 = ow c mB1 fullShare (XB mm (xo c 3)) := rfl
theorem pay_13_0 (c : Dev nD) : pay mm c 13 0 = ow c mB2 fullShare (XB mm (xo c 4)) := rfl
theorem pay_13_1 (c : Dev nD) : pay mm c 13 1 = ow c mB3 fullShare (XB mm (xo c 7)) := rfl
theorem pay_14_0 (c : Dev nD) : pay mm c 14 0 = ow c mC1 fullShare (XC mm (xo c 4)) := rfl
theorem pay_15_0 (c : Dev nD) : pay mm c 15 0 = ow c mC2 fullShare (XC mm (xo c 1)) := rfl
theorem pay_15_1 (c : Dev nD) : pay mm c 15 1 = ow c mC3 fullShare (XC mm (xo c 5)) := rfl
theorem pay_16_0 (c : Dev nD) : pay mm c 16 0 = ow c mA4 fullShare (XA mm (xo c 4)) := rfl
theorem pay_17_0 (c : Dev nD) : pay mm c 17 0 = ow c mA5 fullShare (XA mm (xo c 5)) := rfl
theorem pay_18_0 (c : Dev nD) : pay mm c 18 0 = ow c mA6 fullShare (XA mm (xo c 7)) := rfl
theorem pay_19_0 (c : Dev nD) : pay mm c 19 0 = ow c mA7 fullShare (XA mm (xo c 6)) := rfl
theorem pay_20_0 (c : Dev nD) : pay mm c 20 0 = ow c mB4 fullShare (XB mm (xo c 1)) := rfl
theorem pay_21_0 (c : Dev nD) : pay mm c 21 0 = ow c mB5 fullShare (XB mm (xo c 2)) := rfl
theorem pay_22_0 (c : Dev nD) : pay mm c 22 0 = ow c mB6 fullShare (XB mm (xo c 5)) := rfl
theorem pay_23_0 (c : Dev nD) : pay mm c 23 0 = ow c mB7 fullShare (XB mm (xo c 6)) := rfl
theorem pay_24_0 (c : Dev nD) : pay mm c 24 0 = ow c mC4 fullShare (XC mm (xo c 3)) := rfl
theorem pay_25_0 (c : Dev nD) : pay mm c 25 0 = ow c mC5 fullShare (XC mm (xo c 7)) := rfl
theorem pay_26_0 (c : Dev nD) : pay mm c 26 0 = ow c mC6 fullShare (XC mm (xo c 2)) := rfl
theorem pay_27_0 (c : Dev nD) : pay mm c 27 0 = ow c mC7 fullShare (XC mm (xo c 6)) := rfl

/-! ## A landing is its receive duty's payload -/

theorem land_10_0 (c : Dev nD) : ow (xo c 1) mA1 fullShare (XA mm (xo c 0)) ⊢ pay mm (xo c 1) 10 0 := by
  rw [pay_10_0, show xo (xo c 1) 1 = xo c 0 from by revert c; decide]
theorem land_12_0 (c : Dev nD) : ow (xo c 3) mB1 fullShare (XB mm (xo c 0)) ⊢ pay mm (xo c 3) 12 0 := by
  rw [pay_12_0, show xo (xo c 3) 3 = xo c 0 from by revert c; decide]
theorem land_14_0 (c : Dev nD) : ow (xo c 4) mC1 fullShare (XC mm (xo c 0)) ⊢ pay mm (xo c 4) 14 0 := by
  rw [pay_14_0, show xo (xo c 4) 4 = xo c 0 from by revert c; decide]
theorem land_15_0 (c : Dev nD) : ow (xo c 1) mC2 fullShare (XC mm (xo c 0)) ⊢ pay mm (xo c 1) 15 0 := by
  rw [pay_15_0, show xo (xo c 1) 1 = xo c 0 from by revert c; decide]
theorem land_15_1 (c : Dev nD) : ow (xo c 1) mC3 fullShare (XC mm (xo c 4)) ⊢ pay mm (xo c 1) 15 1 := by
  rw [pay_15_1, show xo (xo c 1) 5 = xo c 4 from by revert c; decide]
theorem land_11_0 (c : Dev nD) : ow (xo c 3) mA2 fullShare (XA mm (xo c 0)) ⊢ pay mm (xo c 3) 11 0 := by
  rw [pay_11_0, show xo (xo c 3) 3 = xo c 0 from by revert c; decide]
theorem land_11_1 (c : Dev nD) : ow (xo c 3) mA3 fullShare (XA mm (xo c 1)) ⊢ pay mm (xo c 3) 11 1 := by
  rw [pay_11_1, show xo (xo c 3) 2 = xo c 1 from by revert c; decide]
theorem land_13_0 (c : Dev nD) : ow (xo c 4) mB2 fullShare (XB mm (xo c 0)) ⊢ pay mm (xo c 4) 13 0 := by
  rw [pay_13_0, show xo (xo c 4) 4 = xo c 0 from by revert c; decide]
theorem land_13_1 (c : Dev nD) : ow (xo c 4) mB3 fullShare (XB mm (xo c 3)) ⊢ pay mm (xo c 4) 13 1 := by
  rw [pay_13_1, show xo (xo c 4) 7 = xo c 3 from by revert c; decide]
theorem land_24_0 (c : Dev nD) : ow (xo c 3) mC4 fullShare (XC mm (xo c 0)) ⊢ pay mm (xo c 3) 24 0 := by
  rw [pay_24_0, show xo (xo c 3) 3 = xo c 0 from by revert c; decide]
theorem land_25_0 (c : Dev nD) : ow (xo c 3) mC5 fullShare (XC mm (xo c 4)) ⊢ pay mm (xo c 3) 25 0 := by
  rw [pay_25_0, show xo (xo c 3) 7 = xo c 4 from by revert c; decide]
theorem land_26_0 (c : Dev nD) : ow (xo c 3) mC6 fullShare (XC mm (xo c 1)) ⊢ pay mm (xo c 3) 26 0 := by
  rw [pay_26_0, show xo (xo c 3) 2 = xo c 1 from by revert c; decide]
theorem land_27_0 (c : Dev nD) : ow (xo c 3) mC7 fullShare (XC mm (xo c 5)) ⊢ pay mm (xo c 3) 27 0 := by
  rw [pay_27_0, show xo (xo c 3) 6 = xo c 5 from by revert c; decide]
theorem land_16_0 (c : Dev nD) : ow (xo c 4) mA4 fullShare (XA mm (xo c 0)) ⊢ pay mm (xo c 4) 16 0 := by
  rw [pay_16_0, show xo (xo c 4) 4 = xo c 0 from by revert c; decide]
theorem land_17_0 (c : Dev nD) : ow (xo c 4) mA5 fullShare (XA mm (xo c 1)) ⊢ pay mm (xo c 4) 17 0 := by
  rw [pay_17_0, show xo (xo c 4) 5 = xo c 1 from by revert c; decide]
theorem land_18_0 (c : Dev nD) : ow (xo c 4) mA6 fullShare (XA mm (xo c 3)) ⊢ pay mm (xo c 4) 18 0 := by
  rw [pay_18_0, show xo (xo c 4) 7 = xo c 3 from by revert c; decide]
theorem land_19_0 (c : Dev nD) : ow (xo c 4) mA7 fullShare (XA mm (xo c 2)) ⊢ pay mm (xo c 4) 19 0 := by
  rw [pay_19_0, show xo (xo c 4) 6 = xo c 2 from by revert c; decide]
theorem land_20_0 (c : Dev nD) : ow (xo c 1) mB4 fullShare (XB mm (xo c 0)) ⊢ pay mm (xo c 1) 20 0 := by
  rw [pay_20_0, show xo (xo c 1) 1 = xo c 0 from by revert c; decide]
theorem land_21_0 (c : Dev nD) : ow (xo c 1) mB5 fullShare (XB mm (xo c 3)) ⊢ pay mm (xo c 1) 21 0 := by
  rw [pay_21_0, show xo (xo c 1) 2 = xo c 3 from by revert c; decide]
theorem land_22_0 (c : Dev nD) : ow (xo c 1) mB6 fullShare (XB mm (xo c 4)) ⊢ pay mm (xo c 1) 22 0 := by
  rw [pay_22_0, show xo (xo c 1) 5 = xo c 4 from by revert c; decide]
theorem land_23_0 (c : Dev nD) : ow (xo c 1) mB7 fullShare (XB mm (xo c 7)) ⊢ pay mm (xo c 1) 23 0 := by
  rw [pay_23_0, show xo (xo c 1) 6 = xo c 7 from by revert c; decide]

/-! ## The signals' payloads -/

theorem sig_1 (c : Dev nD) : barPay (F := F) c 0 ⊢ pay mm (xo c 1) 0 0 := by
  show _ ⊢ barPay (F := F) (xo (xo c 1) 1) 0
  rw [xo_xo_1]
theorem sig_3 (c : Dev nD) : barPay (F := F) c 1 ⊢ pay mm (xo c 3) 0 1 := by
  show _ ⊢ barPay (F := F) (xo (xo c 3) 3) 1
  rw [xo_xo_3]
theorem sig_4 (c : Dev nD) : barPay (F := F) c 2 ⊢ pay mm (xo c 4) 0 2 := by
  show _ ⊢ barPay (F := F) (xo (xo c 4) 4) 2
  rw [xo_xo_4]

/-! ## All payloads of a cell -/

theorem rest_0 (c : Dev nD) : bigSep (dut 0) (fun d => pay mm c 0 d) ⊢ iprop((∃ Y, ow (F := F) (xo c 1) mA1 fullShare Y) ∗ (∃ Y, ow (F := F) (xo c 1) mB4 fullShare Y) ∗ (∃ Y, ow (F := F) (xo c 1) mB5 fullShare Y) ∗ (∃ Y, ow (F := F) (xo c 1) mB6 fullShare Y) ∗ (∃ Y, ow (F := F) (xo c 1) mB7 fullShare Y) ∗ (∃ Y, ow (F := F) (xo c 1) mC2 fullShare Y) ∗ (∃ Y, ow (F := F) (xo c 1) mC3 fullShare Y) ∗ (∃ Y, ow (F := F) (xo c 3) mA2 fullShare Y) ∗ (∃ Y, ow (F := F) (xo c 3) mA3 fullShare Y) ∗ (∃ Y, ow (F := F) (xo c 3) mB1 fullShare Y) ∗ (∃ Y, ow (F := F) (xo c 3) mC4 fullShare Y) ∗ (∃ Y, ow (F := F) (xo c 3) mC5 fullShare Y) ∗ (∃ Y, ow (F := F) (xo c 3) mC6 fullShare Y) ∗ (∃ Y, ow (F := F) (xo c 3) mC7 fullShare Y) ∗ (∃ Y, ow (F := F) (xo c 4) mA4 fullShare Y) ∗ (∃ Y, ow (F := F) (xo c 4) mA5 fullShare Y) ∗ (∃ Y, ow (F := F) (xo c 4) mA6 fullShare Y) ∗ (∃ Y, ow (F := F) (xo c 4) mA7 fullShare Y) ∗ (∃ Y, ow (F := F) (xo c 4) mB2 fullShare Y) ∗ (∃ Y, ow (F := F) (xo c 4) mB3 fullShare Y) ∗ (∃ Y, ow (F := F) (xo c 4) mC1 fullShare Y)) := by
  refine (rest3 (fun d => pay mm c 0 d) 0 (by decide)).trans ?_
  refine (show iprop(pay mm c 0 0 ∗ pay mm c 0 1 ∗ pay mm c 0 2) ⊢ iprop(((∃ Y, ow (F := F) (xo c 1) mA1 fullShare Y) ∗ (∃ Y, ow (F := F) (xo c 1) mB4 fullShare Y) ∗ (∃ Y, ow (F := F) (xo c 1) mB5 fullShare Y) ∗ (∃ Y, ow (F := F) (xo c 1) mB6 fullShare Y) ∗ (∃ Y, ow (F := F) (xo c 1) mB7 fullShare Y) ∗ (∃ Y, ow (F := F) (xo c 1) mC2 fullShare Y) ∗ (∃ Y, ow (F := F) (xo c 1) mC3 fullShare Y)) ∗ ((∃ Y, ow (F := F) (xo c 3) mA2 fullShare Y) ∗ (∃ Y, ow (F := F) (xo c 3) mA3 fullShare Y) ∗ (∃ Y, ow (F := F) (xo c 3) mB1 fullShare Y) ∗ (∃ Y, ow (F := F) (xo c 3) mC4 fullShare Y) ∗ (∃ Y, ow (F := F) (xo c 3) mC5 fullShare Y) ∗ (∃ Y, ow (F := F) (xo c 3) mC6 fullShare Y) ∗ (∃ Y, ow (F := F) (xo c 3) mC7 fullShare Y)) ∗ ((∃ Y, ow (F := F) (xo c 4) mA4 fullShare Y) ∗ (∃ Y, ow (F := F) (xo c 4) mA5 fullShare Y) ∗ (∃ Y, ow (F := F) (xo c 4) mA6 fullShare Y) ∗ (∃ Y, ow (F := F) (xo c 4) mA7 fullShare Y) ∗ (∃ Y, ow (F := F) (xo c 4) mB2 fullShare Y) ∗ (∃ Y, ow (F := F) (xo c 4) mB3 fullShare Y) ∗ (∃ Y, ow (F := F) (xo c 4) mC1 fullShare Y))) from .rfl).trans ?_
  iintro ⟨⟨h0, h1, h2, h3, h4, h5, h6⟩, ⟨h7, h8, h9, h10, h11, h12, h13⟩, H⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  isplitl [h11]; · iexact h11
  isplitl [h12]; · iexact h12
  isplitl [h13]; · iexact h13
  iexact H
theorem rest_1 (c : Dev nD) : bigSep (dut 1) (fun d => pay mm c 1 d) ⊢ iprop(ow c mA0 fullShare.right (XA mm (xo c 0))) :=
  rest1 (fun d => pay mm c 1 d) 1 (by decide)
theorem rest_2 (c : Dev nD) : bigSep (dut 2) (fun d => pay mm c 2 d) ⊢ iprop(ow c mA0 fullShare.right (XA mm (xo c 0)) ∗ ow c mA1 fullShare.right (XA mm (xo c 1))) :=
  rest2 (fun d => pay mm c 2 d) 2 (by decide)
theorem rest_3 (c : Dev nD) : bigSep (dut 3) (fun d => pay mm c 3 d) ⊢ iprop(ow c mA0 fullShare.right (XA mm (xo c 0)) ∗ ow c mA1 fullShare.right (XA mm (xo c 1)) ∗ ow c mA2 fullShare.right (XA mm (xo c 3)) ∗ ow c mA3 fullShare.right (XA mm (xo c 2))) :=
  rest4 (fun d => pay mm c 3 d) 3 (by decide)
theorem rest_4 (c : Dev nD) : bigSep (dut 4) (fun d => pay mm c 4 d) ⊢ iprop(ow c mB0 fullShare.right (XB mm (xo c 0))) :=
  rest1 (fun d => pay mm c 4 d) 4 (by decide)
theorem rest_5 (c : Dev nD) : bigSep (dut 5) (fun d => pay mm c 5 d) ⊢ iprop(ow c mB0 fullShare.right (XB mm (xo c 0)) ∗ ow c mB1 fullShare.right (XB mm (xo c 3))) :=
  rest2 (fun d => pay mm c 5 d) 5 (by decide)
theorem rest_6 (c : Dev nD) : bigSep (dut 6) (fun d => pay mm c 6 d) ⊢ iprop(ow c mB0 fullShare.right (XB mm (xo c 0)) ∗ ow c mB1 fullShare.right (XB mm (xo c 3)) ∗ ow c mB2 fullShare.right (XB mm (xo c 4)) ∗ ow c mB3 fullShare.right (XB mm (xo c 7))) :=
  rest4 (fun d => pay mm c 6 d) 6 (by decide)
theorem rest_7 (c : Dev nD) : bigSep (dut 7) (fun d => pay mm c 7 d) ⊢ iprop(ow c mC0 fullShare.right (XC mm (xo c 0))) :=
  rest1 (fun d => pay mm c 7 d) 7 (by decide)
theorem rest_8 (c : Dev nD) : bigSep (dut 8) (fun d => pay mm c 8 d) ⊢ iprop(ow c mC0 fullShare.right (XC mm (xo c 0)) ∗ ow c mC1 fullShare.right (XC mm (xo c 4))) :=
  rest2 (fun d => pay mm c 8 d) 8 (by decide)
theorem rest_9 (c : Dev nD) : bigSep (dut 9) (fun d => pay mm c 9 d) ⊢ iprop(ow c mC0 fullShare.right (XC mm (xo c 0)) ∗ ow c mC1 fullShare.right (XC mm (xo c 4)) ∗ ow c mC2 fullShare.right (XC mm (xo c 1)) ∗ ow c mC3 fullShare.right (XC mm (xo c 5))) :=
  rest4 (fun d => pay mm c 9 d) 9 (by decide)
theorem rest_10 (c : Dev nD) : bigSep (dut 10) (fun d => pay mm c 10 d) ⊢ iprop(ow c mA1 fullShare (XA mm (xo c 1))) :=
  rest1 (fun d => pay mm c 10 d) 10 (by decide)
theorem rest_11 (c : Dev nD) : bigSep (dut 11) (fun d => pay mm c 11 d) ⊢ iprop(ow c mA2 fullShare (XA mm (xo c 3)) ∗ ow c mA3 fullShare (XA mm (xo c 2))) :=
  rest2 (fun d => pay mm c 11 d) 11 (by decide)
theorem rest_12 (c : Dev nD) : bigSep (dut 12) (fun d => pay mm c 12 d) ⊢ iprop(ow c mB1 fullShare (XB mm (xo c 3))) :=
  rest1 (fun d => pay mm c 12 d) 12 (by decide)
theorem rest_13 (c : Dev nD) : bigSep (dut 13) (fun d => pay mm c 13 d) ⊢ iprop(ow c mB2 fullShare (XB mm (xo c 4)) ∗ ow c mB3 fullShare (XB mm (xo c 7))) :=
  rest2 (fun d => pay mm c 13 d) 13 (by decide)
theorem rest_14 (c : Dev nD) : bigSep (dut 14) (fun d => pay mm c 14 d) ⊢ iprop(ow c mC1 fullShare (XC mm (xo c 4))) :=
  rest1 (fun d => pay mm c 14 d) 14 (by decide)
theorem rest_15 (c : Dev nD) : bigSep (dut 15) (fun d => pay mm c 15 d) ⊢ iprop(ow c mC2 fullShare (XC mm (xo c 1)) ∗ ow c mC3 fullShare (XC mm (xo c 5))) :=
  rest2 (fun d => pay mm c 15 d) 15 (by decide)
theorem rest_16 (c : Dev nD) : bigSep (dut 16) (fun d => pay mm c 16 d) ⊢ iprop(ow c mA4 fullShare (XA mm (xo c 4))) :=
  rest1 (fun d => pay mm c 16 d) 16 (by decide)
theorem rest_17 (c : Dev nD) : bigSep (dut 17) (fun d => pay mm c 17 d) ⊢ iprop(ow c mA5 fullShare (XA mm (xo c 5))) :=
  rest1 (fun d => pay mm c 17 d) 17 (by decide)
theorem rest_18 (c : Dev nD) : bigSep (dut 18) (fun d => pay mm c 18 d) ⊢ iprop(ow c mA6 fullShare (XA mm (xo c 7))) :=
  rest1 (fun d => pay mm c 18 d) 18 (by decide)
theorem rest_19 (c : Dev nD) : bigSep (dut 19) (fun d => pay mm c 19 d) ⊢ iprop(ow c mA7 fullShare (XA mm (xo c 6))) :=
  rest1 (fun d => pay mm c 19 d) 19 (by decide)
theorem rest_20 (c : Dev nD) : bigSep (dut 20) (fun d => pay mm c 20 d) ⊢ iprop(ow c mB4 fullShare (XB mm (xo c 1))) :=
  rest1 (fun d => pay mm c 20 d) 20 (by decide)
theorem rest_21 (c : Dev nD) : bigSep (dut 21) (fun d => pay mm c 21 d) ⊢ iprop(ow c mB5 fullShare (XB mm (xo c 2))) :=
  rest1 (fun d => pay mm c 21 d) 21 (by decide)
theorem rest_22 (c : Dev nD) : bigSep (dut 22) (fun d => pay mm c 22 d) ⊢ iprop(ow c mB6 fullShare (XB mm (xo c 5))) :=
  rest1 (fun d => pay mm c 22 d) 22 (by decide)
theorem rest_23 (c : Dev nD) : bigSep (dut 23) (fun d => pay mm c 23 d) ⊢ iprop(ow c mB7 fullShare (XB mm (xo c 6))) :=
  rest1 (fun d => pay mm c 23 d) 23 (by decide)
theorem rest_24 (c : Dev nD) : bigSep (dut 24) (fun d => pay mm c 24 d) ⊢ iprop(ow c mC4 fullShare (XC mm (xo c 3))) :=
  rest1 (fun d => pay mm c 24 d) 24 (by decide)
theorem rest_25 (c : Dev nD) : bigSep (dut 25) (fun d => pay mm c 25 d) ⊢ iprop(ow c mC5 fullShare (XC mm (xo c 7))) :=
  rest1 (fun d => pay mm c 25 d) 25 (by decide)
theorem rest_26 (c : Dev nD) : bigSep (dut 26) (fun d => pay mm c 26 d) ⊢ iprop(ow c mC6 fullShare (XC mm (xo c 2))) :=
  rest1 (fun d => pay mm c 26 d) 26 (by decide)
theorem rest_27 (c : Dev nD) : bigSep (dut 27) (fun d => pay mm c 27 d) ⊢ iprop(ow c mC7 fullShare (XC mm (xo c 6))) :=
  rest1 (fun d => pay mm c 27 d) 27 (by decide)
end Pays

/-! ## Values -/

section Vals
variable (mm : (ℓ : Loc nD τ sig) → Buf (Elt F) ℓ)

/-- The scalars' staging words. -/
abbrev g2M : Memref sig .tc .smem S1 .f32 := Memref.whole cc0_stg0_0
abbrev g3M : Memref sig .tc .smem S1 .f32 := Memref.whole cc0_stg1_0

/-- The rectangle of a whole array keeps every index. -/
theorem emb_wf (h : ∀ a, (![0, 0] : Fin 2 → ℕ) a + S2048x1024.size a ≤ S2048x1024.size a) (j : S2048x1024.Idx) :
    (Rect.unit (s := S2048x1024) ![0, 0] S2048x1024.size h).emb j = j := by
  funext a
  apply Fin.ext
  fin_cases a <;> simp [Rect.emb, Rect.unit]

theorem w8_lo (c : Dev nD) : k0_pay5 (fun j => (fun j => wv mm c (rWLo.emb j)) ((Rect.unit (s := S2048x1024) ![0, 0] S2048x1024.size inb_S2048x1024_S2048x1024_0_0).emb j)) = fun j => Wc mm c (rWLo.emb j) := by
  have h : (fun j => (fun j => wv mm c (rWLo.emb j)) ((Rect.unit (s := S2048x1024) ![0, 0] S2048x1024.size inb_S2048x1024_S2048x1024_0_0).emb j)) = fun j => wv mm c (rWLo.emb j) :=
    funext fun j => congrArg (fun i => wv mm c (rWLo.emb i)) (emb_wf inb_S2048x1024_S2048x1024_0_0 j)
  refine (congrArg k0_pay5 h).trans ?_
  unfold k0_pay5
  exact shapeCast_self _ _
theorem w8_hi (c : Dev nD) : k0_pay7 (fun j => (fun j => wv mm c (rWHi.emb j)) ((Rect.unit (s := S2048x1024) ![0, 0] S2048x1024.size inb_S2048x1024_S2048x1024_0_0).emb j)) = fun j => Wc mm c (rWHi.emb j) := by
  have h : (fun j => (fun j => wv mm c (rWHi.emb j)) ((Rect.unit (s := S2048x1024) ![0, 0] S2048x1024.size inb_S2048x1024_S2048x1024_0_0).emb j)) = fun j => wv mm c (rWHi.emb j) :=
    funext fun j => congrArg (fun i => wv mm c (rWHi.emb i)) (emb_wf inb_S2048x1024_S2048x1024_0_0 j)
  refine (congrArg k0_pay7 h).trans ?_
  unfold k0_pay7
  exact shapeCast_self _ _
/-- A block cast to one with a leading axis and back is itself. -/
theorem sq_cast (x : FVec F S512x1024 .f32) : shapeCast S512x1024 (shapeCast S1x512x1024 x shapeCasts_S512x1024_S1x512x1024) shapeCasts_S1x512x1024_S512x1024 = x := by
  rw [shapeCast_shapeCast]

theorem XA_zero (c : Dev nD) : k0_pay2 (fun j => xv mm c (rXA.emb j)) = XA mm (xo c 0) := by rw [xo_zero]; rfl
theorem XB_zero (c : Dev nD) : k0_pay3 (fun j => xv mm c (rXB.emb j)) = XB mm (xo c 0) := by rw [xo_zero]; rfl
theorem XC_zero (c : Dev nD) : k0_pay4 (fun j => xv mm c (rXC.emb j)) = XC mm (xo c 0) := by rw [xo_zero]; rfl

theorem own_ret {α : Type} {Q : α → sProp 𝕄} (c : Dev nD) (a : α) : Q a ⊢ wpk c (.ret a) Q := by
  unfold wpk
  rw [wp_ret]
  iintro H
  imodintro
  iexact H

/-- A copy into `dst` in flight on the device's own semaphore. -/
def FlyM {sp : Space} {s : Shape} {e : EltTy} (c : Dev nD) (sm : DmaSem sig) (dst : Memref sig .tc sp s e) (D : sProp 𝕄) : sProp 𝕄 := Fly c sm dst.view.dmaCredit D

theorem own_copyM {α : Type} {Q : α → sProp 𝕄} {sp sp' : Space} {s : Shape} {e : EltTy} (c : Dev nD) {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {q : PosShare TreeShare} {X Y : s.Idx → Elt F e} (hs : 0 < s.numel) :
    ow c src q X ⊢ iprop(ow c dst fullShare Y -∗ semVal ((c : Thread nD τ), SemLoc.dma sm) 0
      -∗ (FlyM c sm dst iprop(ow c dst fullShare X ∗ ow c src q X) -∗ wpk c (k ⟨⟩) Q)
      -∗ wpk c (.op (.enqueueDma src (.here dst) (.dma sm) hsrc hdst hsem) k) Q) := by
  unfold FlyM
  exact own_copy c hs

theorem own_waitM {α : Type} {Q : α → sProp 𝕄} {sp sp' : Space} {s s' : Shape} {e e' : EltTy} (mm : (ℓ : Loc nD τ sig) → Buf (Elt F) ℓ) (K : Dev nD × Fin 28 → ℕ)
    (c : Dev nD) {sm : DmaSem sig} {n : ℕ} {D : sProp 𝕄}
    {srcw : Memref sig .tc sp' s' e'} {dstw : Memref sig .tc sp s e} {hsrc : srcw.view.WordExact} {hdst : dstw.view.WordExact}
    {k : PUnit → Prog (TpuEff nD τ sig (Elt F) Λ₀ .tc) α} {sp₀ : Space} {s₀ : Shape} {e₀ : EltTy} (dst : Memref sig .tc sp₀ s₀ e₀) (hN : dstw.view.dmaCredit = dst.view.dmaCredit) :
    recs mm K ⊢ iprop(FlyM c sm dst D -∗ Owes c n -∗ (D -∗ semVal ((c : Thread nD τ), SemLoc.dma sm) 0 -∗ Owes c n -∗ wpk c (k ⟨⟩) Q)
      -∗ wpk c (.op (.waitDma2 sm srcw dstw hsrc hdst) k) Q) := by
  unfold FlyM
  exact own_waitL mm K c hN

theorem own_retEq {α : Type} {Q : α → sProp 𝕄} (c : Dev nD) {a a' : α} (h : a = a') : Q a' ⊢ wpk c (.ret a) Q := by
  subst h; exact own_ret c a

theorem own_bind {α β : Type} {Q : β → sProp 𝕄} (c : Dev nD) {p : Prog (TpuEff nD τ sig (Elt F) Λ₀ .tc) α} {k : α → Prog (TpuEff nD τ sig (Elt F) Λ₀ .tc) β} :
    wpk c p (fun a => wpk c (k a) Q) ⊢ wpk c (p >>= k) Q := by
  unfold wpk
  rw [wp_bind]

/-- The elements of a run of rows; of a run of columns. -/
theorem mem_rows {N M o h : ℕ} {inb : ∀ a, (![o, 0] : Fin 2 → ℕ) a + (![h, M] : Fin 2 → ℕ) a ≤ (⟨2, ![N, M]⟩ : Shape).size a} {i : (⟨2, ![N, M]⟩ : Shape).Idx} :
    i ∈ (Rect.unit (s := ⟨2, ![N, M]⟩) ![o, 0] ![h, M] inb).set ↔ o ≤ (i 0).val ∧ (i 0).val < o + h := by
  rw [Rect.mem_set_unit]
  constructor
  · intro H; exact H 0
  · intro H a
    have h1 : (i 1).val < M := (i 1).isLt
    fin_cases a
    · exact H
    · exact ⟨Nat.zero_le _, by simpa using h1⟩
theorem mem_cols {N M o h : ℕ} {inb : ∀ a, (![0, o] : Fin 2 → ℕ) a + (![N, h] : Fin 2 → ℕ) a ≤ (⟨2, ![N, M]⟩ : Shape).size a} {i : (⟨2, ![N, M]⟩ : Shape).Idx} :
    i ∈ (Rect.unit (s := ⟨2, ![N, M]⟩) ![0, o] ![N, h] inb).set ↔ o ≤ (i 1).val ∧ (i 1).val < o + h := by
  rw [Rect.mem_set_unit]
  constructor
  · intro H; exact H 1
  · intro H a
    have h0 : (i 0).val < N := (i 0).isLt
    fin_cases a
    · exact ⟨Nat.zero_le _, by simpa using h0⟩
    · exact H

/-- Row `j` of the first stripe of the weights, as a row of the first half. -/
def gA (j : rWA.shape.Idx) : rWLo.shape.Idx := fun a => ⟨(j a).val, lt_of_lt_of_le (j a).isLt (by revert a; decide)⟩
theorem gA_eq (j : rWA.shape.Idx) : rWA.emb j = rWLo.emb (gA j) := by
  funext a; apply Fin.ext
  fin_cases a <;> simp [Rect.emb, Rect.unit, gA]

/-- The weights' two halves. -/
def rW2 : Fin 2 → Rect S4096x1024
  | 0 => rWLo
  | 1 => rWHi
theorem rW2_unit : ∀ t a, (rW2 t).stride a = 1
  | 0, _ => rfl
  | 1, _ => rfl
theorem rW2_mem (t : Fin 2) (i : S4096x1024.Idx) : i ∈ (rW2 t).set ↔ 2048 * t.val ≤ (i 0).val ∧ (i 0).val < 2048 * t.val + 2048 := by
  match t with
  | 0 => exact mem_rows (inb := inb_S4096x1024_S2048x1024_0_0)
  | 1 => exact mem_rows (inb := inb_S4096x1024_S2048x1024_2048_0)
theorem rW2_disj (t t' : Fin 2) (h : t ≠ t') : Disjoint (rW2 t).set (rW2 t').set := by
  rw [Finset.disjoint_left]; intro i h₁ h₂
  rw [rW2_mem] at h₁ h₂
  exact h (Fin.ext (by omega))
theorem rW2_cover : (Finset.univ : Finset (Fin 2)).biUnion (fun t => (rW2 t).set) = Finset.univ := by
  ext i
  simp only [Finset.mem_biUnion, Finset.mem_univ, true_and, iff_true]
  have h0 : (i 0).val < 4096 := (i 0).isLt
  exact ⟨⟨(i 0).val / 2048, by omega⟩, (rW2_mem _ i).mpr (by simp only; omega)⟩

/-- The two halves of the cast weights are the whole. -/
theorem w8_join (c : Dev nD) : iprop(ow c w8Lo fullShare (fun j => Wc mm c (rWLo.emb j)) ∗ ow c w8Hi fullShare (fun j => Wc mm c (rWHi.emb j)))
    ⊢ ow c w8M fullShare (Wc mm c) := by
  have H := owns_of_rects (Val := Elt F) (Ix := ℕ) (Name := ℕ) (U := UU) (Lvl := ℕ) (c : Thread nD τ) w8M fullShare rW2 rW2_unit rW2_disj rW2_cover (Wc mm c)
  rw [show (Finset.univ : Finset (Fin 2)) = {0, 1} from rfl, BI.bigSep_insert (by decide), BI.bigSep_singleton] at H
  exact H

end Vals

end Cert.KProof

end
-- ==== Proof.Parts1.lean ====
module

public import proofs.«01_k».proof.Proof.Cells
public import Idealize.ShloMosaic.Lib.Pipeline.Value

/-! The parts 1 to 6 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part1 {Q : ((Σ' (d0 : Dev nD) (v2 : BitVec 32), Sems sig S_)) → sProp 𝕄} (c : Dev nD)  :
    recs mm K ⊢ iprop((ow c xA fullShare (fun j => xv mm c (rXA.emb j))) -∗ ((∃ Y, ow (F := F) c xfA fullShare Y)) -∗ (semVal ((c : Thread nD τ), SemLoc.dma lS0) 0) -∗ (ow c xB fullShare (fun j => xv mm c (rXB.emb j))) -∗ ((∃ Y, ow (F := F) c xfB fullShare Y)) -∗ (semVal ((c : Thread nD τ), SemLoc.dma lS1) 0) -∗ (ow c xC fullShare (fun j => xv mm c (rXC.emb j))) -∗ ((∃ Y, ow (F := F) c xfC fullShare Y)) -∗ (semVal ((c : Thread nD τ), SemLoc.dma lS2) 0) -∗ (barPay (F := F) c 0) -∗ (Tk (F := F) (xo c 1) 0 0) -∗ (Owes (F := F) c 0) -∗ (barPay (F := F) c 1) -∗ (Tk (F := F) (xo c 3) 0 1) -∗ (∀ (w0 : BitVec 32), (Owes (F := F) c 2) -∗ (FlyM c lS0 xfA iprop(ow c xfA fullShare (fun j => xv mm c (rXA.emb j)) ∗ ow c xA fullShare (fun j => xv mm c (rXA.emb j)))) -∗ (FlyM c lS1 xfB iprop(ow c xfB fullShare (fun j => xv mm c (rXB.emb j)) ∗ ow c xB fullShare (fun j => xv mm c (rXB.emb j)))) -∗ (FlyM c lS2 xfC iprop(ow c xfC fullShare (fun j => xv mm c (rXC.emb j)) ∗ ow c xC fullShare (fun j => xv mm c (rXC.emb j)))) -∗ Q ⟨c, w0, (SemArray.scalar (sig.barrier 0 rfl))⟩) -∗ wpk c (k0_part1 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 ) Q) := by
  iintro #HR xA xfA lv0 xB xfB lv1 xC xfC lv2 Bd0 Tb0 HO Bd1 Tb1 Hk
  simp only [k0_part1_eq_skeleton]; unfold k0_part1_skel
  simp only [semSignalWord, semWaitWord, smemLoad, smemLoadElt, Prog.lift, Prog.bind_op, Prog.bind_ret, Prog.pure_eq_ret, wp_deviceId]
  icases xfA with ⟨%Y_xfA, xfA⟩
  iapply (own_copyM c (src := xA) (dst := xfA) (sm := lS0) (by decide)) $$ xA xfA lv0
  iintro FL0
  icases xfB with ⟨%Y_xfB, xfB⟩
  iapply (own_copyM c (src := xB) (dst := xfB) (sm := lS1) (by decide)) $$ xB xfB lv1
  iintro FL1
  icases xfC with ⟨%Y_xfC, xfC⟩
  iapply (own_copyM c (src := xC) (dst := xfC) (sm := lS2) (by decide)) $$ xC xfC lv2
  iintro FL2
  ihave Bd0 := (sig_1 mm c) $$ Bd0
  iapply (own_signal mm K c _ (n := 0) 1 0 (dev1_eq c) rfl (by decide) (by decide)) $$ HR Bd0 Tb0 HO
  iintro HO
  ihave Bd1 := (sig_3 mm c) $$ Bd1
  iapply (own_signal mm K c _ (n := 1) 3 1 (dev2_eq c) rfl (by decide) (by decide)) $$ HR Bd1 Tb1 HO
  iintro HO
  iapply (own_ret c)
  iapply Hk $$ HO FL0 FL1 FL2

theorem part2 {Q : ((Σ' (v27 : F .f32), BitVec 32)) → sProp 𝕄} (c : Dev nD) (v2 : BitVec 32) (X2 X3 : S1.Idx → F .f32) :
    recs mm K ⊢ iprop((barPay (F := F) c 2) -∗ (Tk (F := F) (xo c 4) 0 2) -∗ (Owes (F := F) c 2) -∗ (Wt mm c 0 0) -∗ (cred (tallyAt (cell c 0) (lvl 0) 3)) -∗ (ow c g2M fullShare X2) -∗ (ow c g3M fullShare X3) -∗ (FlyM c lS0 xfA iprop(ow c xfA fullShare (fun j => xv mm c (rXA.emb j)) ∗ ow c xA fullShare (fun j => xv mm c (rXA.emb j)))) -∗ ((∃ Y, ow (F := F) c mA0 fullShare Y)) -∗ (Tk (F := F) c 1 0) -∗ (Tk (F := F) (xo c 1) 10 0) -∗ (FlyM c lS1 xfB iprop(ow c xfB fullShare (fun j => xv mm c (rXB.emb j)) ∗ ow c xB fullShare (fun j => xv mm c (rXB.emb j)))) -∗ (∀ (w0 : BitVec 32), (Owes (F := F) c 4) -∗ (ow c g2M fullShare X2) -∗ (ow c g3M fullShare X3) -∗ ((∃ Y, ow (F := F) (xo c 1) mB4 fullShare Y)) -∗ ((∃ Y, ow (F := F) (xo c 1) mB5 fullShare Y)) -∗ ((∃ Y, ow (F := F) (xo c 1) mB6 fullShare Y)) -∗ ((∃ Y, ow (F := F) (xo c 1) mB7 fullShare Y)) -∗ ((∃ Y, ow (F := F) (xo c 1) mC2 fullShare Y)) -∗ ((∃ Y, ow (F := F) (xo c 1) mC3 fullShare Y)) -∗ ((∃ Y, ow (F := F) (xo c 3) mA2 fullShare Y)) -∗ ((∃ Y, ow (F := F) (xo c 3) mA3 fullShare Y)) -∗ ((∃ Y, ow (F := F) (xo c 3) mB1 fullShare Y)) -∗ ((∃ Y, ow (F := F) (xo c 3) mC4 fullShare Y)) -∗ ((∃ Y, ow (F := F) (xo c 3) mC5 fullShare Y)) -∗ ((∃ Y, ow (F := F) (xo c 3) mC6 fullShare Y)) -∗ ((∃ Y, ow (F := F) (xo c 3) mC7 fullShare Y)) -∗ ((∃ Y, ow (F := F) (xo c 4) mA4 fullShare Y)) -∗ ((∃ Y, ow (F := F) (xo c 4) mA5 fullShare Y)) -∗ ((∃ Y, ow (F := F) (xo c 4) mA6 fullShare Y)) -∗ ((∃ Y, ow (F := F) (xo c 4) mA7 fullShare Y)) -∗ ((∃ Y, ow (F := F) (xo c 4) mB2 fullShare Y)) -∗ ((∃ Y, ow (F := F) (xo c 4) mB3 fullShare Y)) -∗ ((∃ Y, ow (F := F) (xo c 4) mC1 fullShare Y)) -∗ (semVal (cell c 0) 0) -∗ (ow c xfA fullShare (fun j => xv mm c (rXA.emb j))) -∗ (ow c xA fullShare (fun j => xv mm c (rXA.emb j))) -∗ (semVal ((c : Thread nD τ), SemLoc.dma lS0) 0) -∗ (ow c mA0 fullShare.left (XA mm (xo c 0))) -∗ (Cr (F := F) c 1) -∗ (ow c xfB fullShare (fun j => xv mm c (rXB.emb j))) -∗ (ow c xB fullShare (fun j => xv mm c (rXB.emb j))) -∗ (semVal ((c : Thread nD τ), SemLoc.dma lS1) 0) -∗ Q ⟨(k0_pay1 (X2 ((Rect.unit (s := S1) ![0] S1.size inb_S1_S1_0).emb (Shape.Idx.first (by decide)))) (X3 ((Rect.unit (s := S1) ![0] S1.size inb_S1_S1_0).emb (Shape.Idx.first (by decide))))), w0⟩) -∗ wpk c (k0_part2 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 (SemArray.scalar (sig.barrier 0 rfl))) Q) := by
  iintro #HR Bd2 Tb2 HO W0 CB g2 g3 FL0 A0 Ts4 Tr4 FL1 Hk
  simp only [k0_part2_eq_skeleton]; unfold k0_part2_skel
  simp only [semSignalWord, semWaitWord, smemLoad, smemLoadElt, Prog.lift, Prog.bind_op, Prog.bind_ret, Prog.pure_eq_ret, wp_deviceId]
  ihave Bd2 := (sig_4 mm c) $$ Bd2
  iapply (own_signal mm K c _ (n := 2) 4 2 (dev3_eq c) rfl (by decide) (by decide)) $$ HR Bd2 Tb2 HO
  iintro HO
  iapply (own_bar mm K c (n := 3) (by decide) (by decide)) $$ HR W0 CB HO
  iintro HP V0 HO
  ihave HP := (rest_0 mm c) $$ HP
  icases HP with ⟨PA1, PB4, PB5, PB6, PB7, PC2, PC3, PA2, PA3, PB1, PC4, PC5, PC6, PC7, PA4, PA5, PA6, PA7, PB2, PB3, PC1⟩
  iapply (own_load_whole c (M := g2M)) $$ g2
  iintro g2
  iapply (own_load_whole c (M := g3M)) $$ g3
  iintro g3
  iapply (own_waitM mm K c xfA (by exact rfl)) $$ HR FL0 HO
  iintro HD lv0 HO
  icases HD with ⟨xfA, xA⟩
  iapply (own_load c (M := xfM) (r := rXA)) $$ xfA
  iintro xfA
  icases A0 with ⟨%Y_A0, A0⟩
  iapply (own_load c (M := cA) (r := rA0)) $$ A0
  iintro A0
  iapply (own_store c (M := cA) (r := rA0)) $$ A0
  iintro A0
  ihave A0 := (show ow c mA0 fullShare _ ⊢ ow c mA0 fullShare (XA mm (xo c 0)) from by exact Entails.of_eq (congrArg _ (XA_zero mm c))) $$ A0
  ihave A0 := (owns_halves _ _ _ _).1 $$ A0
  icases A0 with ⟨A0L, A0R⟩
  iapply (own_send mm K c _ (n := 3) 1 1 10 0 0 (dev4_eq c) rfl csem1.symm csem10.symm (by decide) (by decide) rfl rfl rfl rfl (src := mA0) (dst := mA1) (X := (XA mm (xo c 0))) (Entails.of_eq (pay_1_0 mm c).symm) (land_10_0 mm c)) $$ HR A0R PA1 Ts4 Tr4 HO
  iintro C1_0 HO
  iapply (own_waitM mm K c xfB (by exact rfl)) $$ HR FL1 HO
  iintro HD lv1 HO
  icases HD with ⟨xfB, xB⟩
  iapply (own_ret c)
  iapply Hk $$ HO g2 g3 PB4 PB5 PB6 PB7 PC2 PC3 PA2 PA3 PB1 PC4 PC5 PC6 PC7 PA4 PA5 PA6 PA7 PB2 PB3 PC1 V0 xfA xA lv0 A0L C1_0 xfB xB lv1

theorem part3 {Q : ((Σ' (v55 : BitVec 32) (v73 : BitVec 32) (v74 : BitVec 32), BitVec 32)) → sProp 𝕄} (c : Dev nD) (v2 : BitVec 32) :
    recs mm K ⊢ iprop((ow c xfB fullShare (fun j => xv mm c (rXB.emb j))) -∗ ((∃ Y, ow (F := F) c mB0 fullShare Y)) -∗ ((∃ Y, ow (F := F) (xo c 3) mB1 fullShare Y)) -∗ (Tk (F := F) c 4 0) -∗ (Tk (F := F) (xo c 3) 12 0) -∗ (Owes (F := F) c 4) -∗ (FlyM c lS2 xfC iprop(ow c xfC fullShare (fun j => xv mm c (rXC.emb j)) ∗ ow c xC fullShare (fun j => xv mm c (rXC.emb j)))) -∗ ((∃ Y, ow (F := F) c mC0 fullShare Y)) -∗ (∀ (w0 : BitVec 32) (w1 : BitVec 32) (w2 : BitVec 32) (w3 : BitVec 32), (Owes (F := F) c 5) -∗ (ow c xfB fullShare (fun j => xv mm c (rXB.emb j))) -∗ (ow c mB0 fullShare.left (XB mm (xo c 0))) -∗ (Cr (F := F) c 4) -∗ (ow c xfC fullShare (fun j => xv mm c (rXC.emb j))) -∗ (ow c xC fullShare (fun j => xv mm c (rXC.emb j))) -∗ (semVal ((c : Thread nD τ), SemLoc.dma lS2) 0) -∗ (ow c mC0 fullShare.left (XC mm (xo c 0))) -∗ (ow c mC0 fullShare.right (XC mm (xo c 0))) -∗ Q ⟨w0, w1, w2, w3⟩) -∗ wpk c (k0_part3 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2) Q) := by
  iintro #HR xfB B0 PB1 Ts5 Tr5 HO FL2 C0 Hk
  simp only [k0_part3_eq_skeleton]; unfold k0_part3_skel
  simp only [semSignalWord, semWaitWord, smemLoad, smemLoadElt, Prog.lift, Prog.bind_op, Prog.bind_ret, Prog.pure_eq_ret, wp_deviceId]
  iapply (own_load c (M := xfM) (r := rXB)) $$ xfB
  iintro xfB
  icases B0 with ⟨%Y_B0, B0⟩
  iapply (own_load c (M := cB) (r := rB0)) $$ B0
  iintro B0
  iapply (own_store c (M := cB) (r := rB0)) $$ B0
  iintro B0
  ihave B0 := (show ow c mB0 fullShare _ ⊢ ow c mB0 fullShare (XB mm (xo c 0)) from by exact Entails.of_eq (congrArg _ (XB_zero mm c))) $$ B0
  ihave B0 := (owns_halves _ _ _ _).1 $$ B0
  icases B0 with ⟨B0L, B0R⟩
  iapply (own_send mm K c _ (n := 4) 3 4 12 0 0 (dev5_eq c) rfl csem4.symm csem12.symm (by decide) (by decide) rfl rfl rfl rfl (src := mB0) (dst := mB1) (X := (XB mm (xo c 0))) (Entails.of_eq (pay_4_0 mm c).symm) (land_12_0 mm c)) $$ HR B0R PB1 Ts5 Tr5 HO
  iintro C4_0 HO
  iapply (own_waitM mm K c xfC (by exact rfl)) $$ HR FL2 HO
  iintro HD lv2 HO
  icases HD with ⟨xfC, xC⟩
  iapply (own_load c (M := xfM) (r := rXC)) $$ xfC
  iintro xfC
  icases C0 with ⟨%Y_C0, C0⟩
  iapply (own_load c (M := cC) (r := rC0)) $$ C0
  iintro C0
  iapply (own_store c (M := cC) (r := rC0)) $$ C0
  iintro C0
  ihave C0 := (show ow c mC0 fullShare _ ⊢ ow c mC0 fullShare (XC mm (xo c 0)) from by exact Entails.of_eq (congrArg _ (XC_zero mm c))) $$ C0
  ihave C0 := (owns_halves _ _ _ _).1 $$ C0
  icases C0 with ⟨C0L, C0R⟩
  iapply (own_ret c)
  iapply Hk $$ HO xfB B0L C4_0 xfC xC lv2 C0L C0R

theorem part4 {Q : ((PUnit)) → sProp 𝕄} (c : Dev nD) (v74 : BitVec 32) (c0_i32_75 : BitVec 32) :
    recs mm K ⊢ iprop((ow c mC0 fullShare.right (XC mm (xo c 0))) -∗ ((∃ Y, ow (F := F) (xo c 4) mC1 fullShare Y)) -∗ (Tk (F := F) c 7 0) -∗ (Tk (F := F) (xo c 4) 14 0) -∗ (Owes (F := F) c 5) -∗ (ow c wLo fullShare (fun j => wv mm c (rWLo.emb j))) -∗ ((∃ Y, ow (F := F) c wfM fullShare Y)) -∗ (semVal ((c : Thread nD τ), SemLoc.dma lS3) 0) -∗ ((∃ Y, ow (F := F) c w8Lo fullShare Y)) -∗ (ow c mA0 fullShare.left (XA mm (xo c 0))) -∗ ((∃ Y, ow (F := F) c ac0 fullShare Y)) -∗ (ow c wHi fullShare (fun j => wv mm c (rWHi.emb j))) -∗ (semVal ((c : Thread nD τ), SemLoc.dma lS4) 0) -∗ ((Owes (F := F) c 6) -∗ (ow c w8Lo fullShare (fun j => Wc mm c (rWLo.emb j))) -∗ (ow c ac0 fullShare (s01 mm c)) -∗ (ow c mA0 fullShare.left (XA mm (xo c 0))) -∗ (Cr (F := F) c 7) -∗ (ow c wLo fullShare (fun j => wv mm c (rWLo.emb j))) -∗ (semVal ((c : Thread nD τ), SemLoc.dma lS3) 0) -∗ (FlyM c lS4 wfM iprop(ow c wfM fullShare (fun j => wv mm c (rWHi.emb j)) ∗ ow c wHi fullShare (fun j => wv mm c (rWHi.emb j)))) -∗ Q ⟨⟩) -∗ wpk c (k0_part4 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v74 c0_i32_75) Q) := by
  iintro #HR C0R PC1 Ts6 Tr6 HO wLo wf lv3 w8Lo A0L ac0 wHi lv4 Hk
  simp only [k0_part4_eq_skeleton]; unfold k0_part4_skel
  simp only [semSignalWord, semWaitWord, smemLoad, smemLoadElt, Prog.lift, Prog.bind_op, Prog.bind_ret, Prog.pure_eq_ret, wp_deviceId]
  iapply (own_send mm K c _ (n := 5) 4 7 14 0 0 (dev6_eq c) rfl csem7.symm csem14.symm (by decide) (by decide) rfl rfl rfl rfl (src := mC0) (dst := mC1) (X := (XC mm (xo c 0))) (Entails.of_eq (pay_7_0 mm c).symm) (land_14_0 mm c)) $$ HR C0R PC1 Ts6 Tr6 HO
  iintro C7_0 HO
  icases wf with ⟨%Y_wf, wf⟩
  iapply (own_copyM c (src := wLo) (dst := wfM) (sm := lS3) (by decide)) $$ wLo wf lv3
  iintro FL3
  iapply (own_waitM mm K c wfM (by exact rfl)) $$ HR FL3 HO
  iintro HD lv3 HO
  icases HD with ⟨wf, wLo⟩
  iapply (own_load_whole c (M := wfM)) $$ wf
  iintro wf
  icases w8Lo with ⟨%Y_w8Lo, w8Lo⟩
  iapply (own_load c (M := w8M) (r := rWLo)) $$ w8Lo
  iintro w8Lo
  iapply (own_store c (M := w8M) (r := rWLo)) $$ w8Lo
  iintro w8Lo
  ihave w8Lo := (show ow c w8Lo fullShare _ ⊢ ow c w8Lo fullShare (fun j => Wc mm c (rWLo.emb j)) from by exact Entails.of_eq (congrArg (fun v => ow c w8Lo fullShare v) (w8_lo mm c))) $$ w8Lo
  iapply (own_load c (M := cA) (r := rA0)) $$ A0L
  iintro A0L
  iapply (own_load_sub c (M := w8M) (r := rWLo) (r' := rWA) gA gA_eq) $$ w8Lo
  iintro w8Lo
  icases ac0 with ⟨%Y_ac0, ac0⟩
  iapply (own_load c (M := acM) (r := rac0)) $$ ac0
  iintro ac0
  iapply (own_store c (M := acM) (r := rac0)) $$ ac0
  iintro ac0
  ihave ac0 := (show ow c ac0 fullShare _ ⊢ ow c ac0 fullShare (s01 mm c) from by exact .rfl) $$ ac0
  iapply (own_copyM c (src := wHi) (dst := wfM) (sm := lS4) (by decide)) $$ wHi wf lv4
  iintro FL4
  iapply (own_ret c)
  iapply Hk $$ HO w8Lo ac0 A0L C7_0 wLo lv3 FL4

theorem part5 {Q : ((Σ' (v130 : FVec F S512x1024 .f32), BitVec 32)) → sProp 𝕄} (c : Dev nD) (v2 : BitVec 32) (v27 : F .f32) :
    recs mm K ⊢ iprop((FlyM c lS4 wfM iprop(ow c wfM fullShare (fun j => wv mm c (rWHi.emb j)) ∗ ow c wHi fullShare (fun j => wv mm c (rWHi.emb j)))) -∗ (Owes (F := F) c 6) -∗ ((∃ Y, ow (F := F) c w8Hi fullShare Y)) -∗ (ow c w8Lo fullShare (fun j => Wc mm c (rWLo.emb j))) -∗ (ow c mB0 fullShare.left (XB mm (xo c 0))) -∗ (ow c ac0 fullShare (s01 mm c)) -∗ (ow c mC0 fullShare.left (XC mm (xo c 0))) -∗ (∀ (w0 : BitVec 32), (Owes (F := F) c 6) -∗ (ow c ac0 fullShare (s03 mm c)) -∗ (ow c mB0 fullShare.left (XB mm (xo c 0))) -∗ (ow c mC0 fullShare.left (XC mm (xo c 0))) -∗ (ow c wfM fullShare (fun j => wv mm c (rWHi.emb j))) -∗ (ow c wHi fullShare (fun j => wv mm c (rWHi.emb j))) -∗ (semVal ((c : Thread nD τ), SemLoc.dma lS4) 0) -∗ (ow c w8M fullShare (Wc mm c)) -∗ Q ⟨(k0_pay10 v27 (s03 mm c)), w0⟩) -∗ wpk c (k0_part5 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v2 v27) Q) := by
  iintro #HR FL4 HO w8Hi w8Lo B0L ac0 C0L Hk
  simp only [k0_part5_eq_skeleton]; unfold k0_part5_skel
  simp only [semSignalWord, semWaitWord, smemLoad, smemLoadElt, Prog.lift, Prog.bind_op, Prog.bind_ret, Prog.pure_eq_ret, wp_deviceId]
  iapply (own_waitM mm K c wfM (by exact rfl)) $$ HR FL4 HO
  iintro HD lv4 HO
  icases HD with ⟨wf, wHi⟩
  iapply (own_load_whole c (M := wfM)) $$ wf
  iintro wf
  icases w8Hi with ⟨%Y_w8Hi, w8Hi⟩
  iapply (own_load c (M := w8M) (r := rWHi)) $$ w8Hi
  iintro w8Hi
  iapply (own_store c (M := w8M) (r := rWHi)) $$ w8Hi
  iintro w8Hi
  ihave w8Hi := (show ow c w8Hi fullShare _ ⊢ ow c w8Hi fullShare (fun j => Wc mm c (rWHi.emb j)) from by exact Entails.of_eq (congrArg (fun v => ow c w8Hi fullShare v) (w8_hi mm c))) $$ w8Hi
  ihave w8 := (w8_join mm c) $$ [w8Lo w8Hi]
  · isplitl [w8Lo]; · iexact w8Lo
    iexact w8Hi
  iapply (own_load c (M := cB) (r := rB0)) $$ B0L
  iintro B0L
  iapply (own_load_whole c (M := w8M) (r := rWB)) $$ w8
  iintro w8
  iapply (own_load c (M := acM) (r := rac0)) $$ ac0
  iintro ac0
  iapply (own_load c (M := acM) (r := rac0)) $$ ac0
  iintro ac0
  iapply (own_store c (M := acM) (r := rac0)) $$ ac0
  iintro ac0
  ihave ac0 := (show ow c ac0 fullShare _ ⊢ ow c ac0 fullShare (s02 mm c) from by exact .rfl) $$ ac0
  iapply (own_load c (M := cC) (r := rC0)) $$ C0L
  iintro C0L
  iapply (own_load_whole c (M := w8M) (r := rWC)) $$ w8
  iintro w8
  iapply (own_load c (M := acM) (r := rac0)) $$ ac0
  iintro ac0
  iapply (own_load c (M := acM) (r := rac0)) $$ ac0
  iintro ac0
  iapply (own_store c (M := acM) (r := rac0)) $$ ac0
  iintro ac0
  ihave ac0 := (show ow c ac0 fullShare _ ⊢ ow c ac0 fullShare (s03 mm c) from by exact .rfl) $$ ac0
  iapply (own_load c (M := acM) (r := rac0)) $$ ac0
  iintro ac0
  iapply (own_ret c)
  iapply Hk $$ HO ac0 B0L C0L wf wHi lv4 w8

theorem part6 {Q : ((Σ' (v151 : BitVec 32) (v152 : BitVec 32), BitVec 32)) → sProp 𝕄} (c : Dev nD) (v2 : BitVec 32) (v73 : BitVec 32) (v131 : BitVec 32) (v27 : F .f32) :
    recs mm K ⊢ iprop(((∃ Y, ow (F := F) c ob0 fullShare Y)) -∗ ((∃ Y, ow (F := F) c (ou0 c) fullShare Y)) -∗ (semVal ((c : Thread nD τ), SemLoc.dma oS0) 0) -∗ (Wt mm c 7 0) -∗ (Owes (F := F) c 6) -∗ (Cr (F := F) c 7) -∗ (Wt mm c 14 0) -∗ (Cr (F := F) c 14) -∗ (∀ (w0 : BitVec 32) (w1 : BitVec 32) (w2 : BitVec 32), (Owes (F := F) c 6) -∗ (FlyM c oS0 (ou0 c) iprop(ow c (ou0 c) fullShare (em v27 (s03 mm c)) ∗ ow c ob0 fullShare (em v27 (s03 mm c)))) -∗ (ow c mC0 fullShare.right (XC mm (xo c 0))) -∗ (semVal (cell c 7) 0) -∗ (semVal (cell c 14) 0) -∗ (ow c mC1 fullShare.left (XC mm (xo c 4))) -∗ (ow c mC1 fullShare.right (XC mm (xo c 4))) -∗ Q ⟨w0, w1, w2⟩) -∗ wpk c (k0_part6 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v73 (k0_pay10 v27 (s03 mm c)) v131) Q) := by
  iintro #HR ob0 ou0 ov0 W7 HO C7_0 W14 C14_0 Hk
  simp only [k0_part6_eq_skeleton]; unfold k0_part6_skel
  simp only [semSignalWord, semWaitWord, smemLoad, smemLoadElt, Prog.lift, Prog.bind_op, Prog.bind_ret, Prog.pure_eq_ret, wp_deviceId]
  icases ob0 with ⟨%Y_ob0, ob0⟩
  iapply (own_loadSq c (M := obM) (r := rob0)) $$ ob0
  iintro %v133 ob0
  iapply (own_storeSq c (M := obM) (r := rob0) shapeCasts_S1x512x1024_S512x1024) $$ ob0
  iintro ob0
  ihave ob0 := (show ow c ob0 fullShare _ ⊢ ow c ob0 fullShare (em v27 (s03 mm c)) from by exact Entails.of_eq (congrArg (fun v => ow c ob0 fullShare v) (show _ = em v27 (s03 mm c) from sq_cast _))) $$ ob0
  icases ou0 with ⟨%Y_ou0, ou0⟩
  iapply (own_copyM c (src := ob0) (dst := (ou0 c)) (sm := oS0) (by decide)) $$ ob0 ou0 ov0
  iintro FO0
  iapply (own_restD mm K c (n := 6) (srcw := mC1) (dstw := mC0) 7 csem7 rfl 0 (by decide) (by decide)) $$ HR W7 C7_0 HO
  iintro HP V7 HO
  ihave HP := (rest_7 mm c) $$ HP
  irename HP => C0R
  iapply (own_restD mm K c (n := 6) (srcw := mC0) (dstw := mC1) 14 csem14 rfl 0 (by decide) (by decide)) $$ HR W14 C14_0 HO
  iintro HP V14 HO
  ihave HP := (rest_14 mm c) $$ HP
  irename HP => C1
  ihave C1 := (owns_halves _ _ _ _).1 $$ C1
  icases C1 with ⟨C1L, C1R⟩
  iapply (own_ret c)
  iapply Hk $$ HO FO0 C0R V7 V14 C1L C1R

end Parts

end Cert.KProof

end
-- ==== Proof.Parts2.lean ====
module

public import proofs.«01_k».proof.Proof.Cells
public import Idealize.ShloMosaic.Lib.Pipeline.Value

/-! The parts 7 to 12 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part7 {Q : ((BitVec 32)) → sProp 𝕄} (c : Dev nD) (v2 : BitVec 32) (v37 : BitVec 32) (v152 : BitVec 32) (c0_i32_160 : BitVec 32) :
    recs mm K ⊢ iprop((ow c mC0 fullShare.right (XC mm (xo c 0))) -∗ ((∃ Y, ow (F := F) (xo c 1) mC2 fullShare Y)) -∗ (Tk (F := F) c 8 0) -∗ (Tk (F := F) (xo c 1) 15 0) -∗ (Owes (F := F) c 6) -∗ (ow c mC1 fullShare.right (XC mm (xo c 4))) -∗ ((∃ Y, ow (F := F) (xo c 1) mC3 fullShare Y)) -∗ (Tk (F := F) c 8 1) -∗ (Tk (F := F) (xo c 1) 15 1) -∗ (Wt mm c 1 0) -∗ (Cr (F := F) c 1) -∗ (∀ (w0 : BitVec 32), (Owes (F := F) c 8) -∗ (Cr (F := F) c 8) -∗ (Cr (F := F) c 8) -∗ (ow c mA0 fullShare.right (XA mm (xo c 0))) -∗ (semVal (cell c 1) 0) -∗ Q w0) -∗ wpk c (k0_part7 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v37 v152 c0_i32_160) Q) := by
  iintro #HR C0R PC2 Ts7 Tr7 HO C1R PC3 Ts8 Tr8 W1 C1_0 Hk
  simp only [k0_part7_eq_skeleton]; unfold k0_part7_skel
  simp only [semSignalWord, semWaitWord, smemLoad, smemLoadElt, Prog.lift, Prog.bind_op, Prog.bind_ret, Prog.pure_eq_ret, wp_deviceId]
  iapply (own_send mm K c _ (n := 6) 1 8 15 0 0 (dev7_eq c) rfl csem8.symm csem15.symm (by decide) (by decide) rfl rfl rfl rfl (src := mC0) (dst := mC2) (X := (XC mm (xo c 0))) (Entails.of_eq (pay_8_0 mm c).symm) (land_15_0 mm c)) $$ HR C0R PC2 Ts7 Tr7 HO
  iintro C8_0 HO
  iapply (own_send mm K c _ (n := 7) 1 8 15 1 1 (dev8_eq c) rfl csem8.symm csem15.symm (by decide) (by decide) rfl rfl rfl rfl (src := mC1) (dst := mC3) (X := (XC mm (xo c 4))) (Entails.of_eq (pay_8_1 mm c).symm) (land_15_1 mm c)) $$ HR C1R PC3 Ts8 Tr8 HO
  iintro C8_1 HO
  iapply (own_restD mm K c (n := 8) (srcw := mA1) (dstw := mA0) 1 csem1 rfl 0 (by decide) (by decide)) $$ HR W1 C1_0 HO
  iintro HP V1 HO
  ihave HP := (rest_1 mm c) $$ HP
  irename HP => A0R
  iapply (own_ret c)
  iapply Hk $$ HO C8_0 C8_1 A0R V1

theorem part8 {Q : ((Σ' (v179 : BitVec 32), BitVec 32)) → sProp 𝕄} (c : Dev nD) (v2 : BitVec 32) :
    recs mm K ⊢ iprop((Wt mm c 10 0) -∗ (Owes (F := F) c 8) -∗ (Cr (F := F) c 10) -∗ (ow c mA0 fullShare.right (XA mm (xo c 0))) -∗ ((∃ Y, ow (F := F) (xo c 3) mA2 fullShare Y)) -∗ (Tk (F := F) c 2 0) -∗ (Tk (F := F) (xo c 3) 11 0) -∗ ((∃ Y, ow (F := F) (xo c 3) mA3 fullShare Y)) -∗ (Tk (F := F) c 2 1) -∗ (Tk (F := F) (xo c 3) 11 1) -∗ (Wt mm c 4 0) -∗ (Cr (F := F) c 4) -∗ (∀ (w0 : BitVec 32) (w1 : BitVec 32), (Owes (F := F) c 10) -∗ (semVal (cell c 10) 0) -∗ (ow c mA1 fullShare.left (XA mm (xo c 1))) -∗ (Cr (F := F) c 2) -∗ (Cr (F := F) c 2) -∗ (ow c mB0 fullShare.right (XB mm (xo c 0))) -∗ (semVal (cell c 4) 0) -∗ Q ⟨w0, w1⟩) -∗ wpk c (k0_part8 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2) Q) := by
  iintro #HR W10 HO C10_0 A0R PA2 Ts9 Tr9 PA3 Ts10 Tr10 W4 C4_0 Hk
  simp only [k0_part8_eq_skeleton]; unfold k0_part8_skel
  simp only [semSignalWord, semWaitWord, smemLoad, smemLoadElt, Prog.lift, Prog.bind_op, Prog.bind_ret, Prog.pure_eq_ret, wp_deviceId]
  iapply (own_restD mm K c (n := 8) (srcw := mA0) (dstw := mA1) 10 csem10 rfl 0 (by decide) (by decide)) $$ HR W10 C10_0 HO
  iintro HP V10 HO
  ihave HP := (rest_10 mm c) $$ HP
  irename HP => A1
  ihave A1 := (owns_halves _ _ _ _).1 $$ A1
  icases A1 with ⟨A1L, A1R⟩
  iapply (own_send mm K c _ (n := 8) 3 2 11 0 0 (dev9_eq c) rfl csem2.symm csem11.symm (by decide) (by decide) rfl rfl rfl rfl (src := mA0) (dst := mA2) (X := (XA mm (xo c 0))) (Entails.of_eq (pay_2_0 mm c).symm) (land_11_0 mm c)) $$ HR A0R PA2 Ts9 Tr9 HO
  iintro C2_0 HO
  iapply (own_send mm K c _ (n := 9) 3 2 11 1 1 (dev10_eq c) rfl csem2.symm csem11.symm (by decide) (by decide) rfl rfl rfl rfl (src := mA1) (dst := mA3) (X := (XA mm (xo c 1))) (Entails.of_eq (pay_2_1 mm c).symm) (land_11_1 mm c)) $$ HR A1R PA3 Ts10 Tr10 HO
  iintro C2_1 HO
  iapply (own_restD mm K c (n := 10) (srcw := mB1) (dstw := mB0) 4 csem4 rfl 0 (by decide) (by decide)) $$ HR W4 C4_0 HO
  iintro HP V4 HO
  ihave HP := (rest_4 mm c) $$ HP
  irename HP => B0R
  iapply (own_ret c)
  iapply Hk $$ HO V10 A1L C2_0 C2_1 B0R V4

theorem part9 {Q : ((Σ' (v207 : BitVec 32), BitVec 32)) → sProp 𝕄} (c : Dev nD) (v2 : BitVec 32) (v55 : BitVec 32) :
    recs mm K ⊢ iprop((Wt mm c 12 0) -∗ (Owes (F := F) c 10) -∗ (Cr (F := F) c 12) -∗ (ow c mB0 fullShare.right (XB mm (xo c 0))) -∗ ((∃ Y, ow (F := F) (xo c 4) mB2 fullShare Y)) -∗ (Tk (F := F) c 5 0) -∗ (Tk (F := F) (xo c 4) 13 0) -∗ ((∃ Y, ow (F := F) (xo c 4) mB3 fullShare Y)) -∗ (Tk (F := F) c 5 1) -∗ (Tk (F := F) (xo c 4) 13 1) -∗ (∀ (w0 : BitVec 32) (w1 : BitVec 32), (Owes (F := F) c 12) -∗ (semVal (cell c 12) 0) -∗ (ow c mB1 fullShare.left (XB mm (xo c 3))) -∗ (Cr (F := F) c 5) -∗ (Cr (F := F) c 5) -∗ Q ⟨w0, w1⟩) -∗ wpk c (k0_part9 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v55) Q) := by
  iintro #HR W12 HO C12_0 B0R PB2 Ts11 Tr11 PB3 Ts12 Tr12 Hk
  simp only [k0_part9_eq_skeleton]; unfold k0_part9_skel
  simp only [semSignalWord, semWaitWord, smemLoad, smemLoadElt, Prog.lift, Prog.bind_op, Prog.bind_ret, Prog.pure_eq_ret, wp_deviceId]
  iapply (own_restD mm K c (n := 10) (srcw := mB0) (dstw := mB1) 12 csem12 rfl 0 (by decide) (by decide)) $$ HR W12 C12_0 HO
  iintro HP V12 HO
  ihave HP := (rest_12 mm c) $$ HP
  irename HP => B1
  ihave B1 := (owns_halves _ _ _ _).1 $$ B1
  icases B1 with ⟨B1L, B1R⟩
  iapply (own_send mm K c _ (n := 10) 4 5 13 0 0 (dev11_eq c) rfl csem5.symm csem13.symm (by decide) (by decide) rfl rfl rfl rfl (src := mB0) (dst := mB2) (X := (XB mm (xo c 0))) (Entails.of_eq (pay_5_0 mm c).symm) (land_13_0 mm c)) $$ HR B0R PB2 Ts11 Tr11 HO
  iintro C5_0 HO
  iapply (own_send mm K c _ (n := 11) 4 5 13 1 1 (dev12_eq c) rfl csem5.symm csem13.symm (by decide) (by decide) rfl rfl rfl rfl (src := mB1) (dst := mB3) (X := (XB mm (xo c 3))) (Entails.of_eq (pay_5_1 mm c).symm) (land_13_1 mm c)) $$ HR B1R PB3 Ts12 Tr12 HO
  iintro C5_1 HO
  iapply (own_ret c)
  iapply Hk $$ HO V12 B1L C5_0 C5_1

theorem part10 {Q : ((BitVec 32)) → sProp 𝕄} (c : Dev nD)  :
    recs mm K ⊢ iprop((ow c mA1 fullShare.left (XA mm (xo c 1))) -∗ (ow c w8M fullShare (Wc mm c)) -∗ ((∃ Y, ow (F := F) c ac1 fullShare Y)) -∗ (ow c mB1 fullShare.left (XB mm (xo c 3))) -∗ ((∃ Y, ow (F := F) c ac3 fullShare Y)) -∗ (ow c mC1 fullShare.left (XC mm (xo c 4))) -∗ ((∃ Y, ow (F := F) c ac4 fullShare Y)) -∗ (Wt mm c 8 0) -∗ (Owes (F := F) c 12) -∗ (Cr (F := F) c 8) -∗ (∀ (w0 : BitVec 32), (Owes (F := F) c 12) -∗ (ow c ac1 fullShare (s11 mm c)) -∗ (ow c ac3 fullShare (s31 mm c)) -∗ (ow c ac4 fullShare (s41 mm c)) -∗ (Wt mm c 8 1) -∗ (ow c w8M fullShare (Wc mm c)) -∗ (ow c mC1 fullShare.left (XC mm (xo c 4))) -∗ (ow c mA1 fullShare.left (XA mm (xo c 1))) -∗ (ow c mB1 fullShare.left (XB mm (xo c 3))) -∗ Q w0) -∗ wpk c (k0_part10 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 ) Q) := by
  iintro #HR A1L w8 ac1 B1L ac3 C1L ac4 W8 HO C8_0 Hk
  simp only [k0_part10_eq_skeleton]; unfold k0_part10_skel
  simp only [semSignalWord, semWaitWord, smemLoad, smemLoadElt, Prog.lift, Prog.bind_op, Prog.bind_ret, Prog.pure_eq_ret, wp_deviceId]
  iapply (own_load c (M := cA) (r := rA1)) $$ A1L
  iintro A1L
  iapply (own_load_whole c (M := w8M) (r := rWA)) $$ w8
  iintro w8
  icases ac1 with ⟨%Y_ac1, ac1⟩
  iapply (own_load c (M := acM) (r := rac1)) $$ ac1
  iintro ac1
  iapply (own_store c (M := acM) (r := rac1)) $$ ac1
  iintro ac1
  ihave ac1 := (show ow c ac1 fullShare _ ⊢ ow c ac1 fullShare (s11 mm c) from by exact .rfl) $$ ac1
  iapply (own_load c (M := cB) (r := rB1)) $$ B1L
  iintro B1L
  iapply (own_load_whole c (M := w8M) (r := rWB)) $$ w8
  iintro w8
  icases ac3 with ⟨%Y_ac3, ac3⟩
  iapply (own_load c (M := acM) (r := rac3)) $$ ac3
  iintro ac3
  iapply (own_store c (M := acM) (r := rac3)) $$ ac3
  iintro ac3
  ihave ac3 := (show ow c ac3 fullShare _ ⊢ ow c ac3 fullShare (s31 mm c) from by exact .rfl) $$ ac3
  iapply (own_load c (M := cC) (r := rC1)) $$ C1L
  iintro C1L
  iapply (own_load_whole c (M := w8M) (r := rWC)) $$ w8
  iintro w8
  icases ac4 with ⟨%Y_ac4, ac4⟩
  iapply (own_load c (M := acM) (r := rac4)) $$ ac4
  iintro ac4
  iapply (own_store c (M := acM) (r := rac4)) $$ ac4
  iintro ac4
  ihave ac4 := (show ow c ac4 fullShare _ ⊢ ow c ac4 fullShare (s41 mm c) from by exact .rfl) $$ ac4
  iapply (own_partD mm K c (n := 12) (srcw := mC2) (dstw := mC0) 8 csem8 rfl 0 (by decide)) $$ HR W8 C8_0 HO
  iintro W8 HO
  iapply (own_ret c)
  iapply Hk $$ HO ac1 ac3 ac4 W8 w8 C1L A1L B1L

theorem part11 {Q : ((BitVec 32)) → sProp 𝕄} (c : Dev nD) (v2 : BitVec 32) (v151 : BitVec 32) (v160 : BitVec 32) (c1_i32_288 : BitVec 32) :
    recs mm K ⊢ iprop((Wt mm c 15 0) -∗ (Owes (F := F) c 12) -∗ (Cr (F := F) c 15) -∗ (Wt mm c 8 1) -∗ (Cr (F := F) c 8) -∗ (Cr (F := F) c 15) -∗ (∀ (w0 : BitVec 32), (Owes (F := F) c 12) -∗ (ow c mC0 fullShare.right (XC mm (xo c 0))) -∗ (ow c mC1 fullShare.right (XC mm (xo c 4))) -∗ (semVal (cell c 8) 0) -∗ (semVal (cell c 15) 0) -∗ (ow c mC2 fullShare.left (XC mm (xo c 1))) -∗ (ow c mC2 fullShare.right (XC mm (xo c 1))) -∗ (ow c mC3 fullShare.left (XC mm (xo c 5))) -∗ (ow c mC3 fullShare.right (XC mm (xo c 5))) -∗ Q w0) -∗ wpk c (k0_part11 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v2 v151 v160 c1_i32_288) Q) := by
  iintro #HR W15 HO C15_0 W8 C8_1 C15_1 Hk
  simp only [k0_part11_eq_skeleton]; unfold k0_part11_skel
  simp only [semSignalWord, semWaitWord, smemLoad, smemLoadElt, Prog.lift, Prog.bind_op, Prog.bind_ret, Prog.pure_eq_ret, wp_deviceId]
  iapply (own_partD mm K c (n := 12) (srcw := mC0) (dstw := mC2) 15 csem15 rfl 0 (by decide)) $$ HR W15 C15_0 HO
  iintro W15 HO
  iapply (own_restD mm K c (n := 12) (srcw := mC3) (dstw := mC1) 8 csem8 rfl 1 (by decide) (by decide)) $$ HR W8 C8_1 HO
  iintro HP V8 HO
  ihave HP := (rest_8 mm c) $$ HP
  icases HP with ⟨C0R, C1R⟩
  iapply (own_restD mm K c (n := 12) (srcw := mC1) (dstw := mC3) 15 csem15 rfl 1 (by decide) (by decide)) $$ HR W15 C15_1 HO
  iintro HP V15 HO
  ihave HP := (rest_15 mm c) $$ HP
  icases HP with ⟨C2, C3⟩
  ihave C2 := (owns_halves _ _ _ _).1 $$ C2
  icases C2 with ⟨C2L, C2R⟩
  ihave C3 := (owns_halves _ _ _ _).1 $$ C3
  icases C3 with ⟨C3L, C3R⟩
  iapply (own_ret c)
  iapply Hk $$ HO C0R C1R V8 V15 C2L C2R C3L C3R

theorem part12 {Q : ((Σ' (v272 : BitVec 32) (v281 : BitVec 32), BitVec 32)) → sProp 𝕄} (c : Dev nD) (v2 : BitVec 32) :
    recs mm K ⊢ iprop((ow c mC0 fullShare.right (XC mm (xo c 0))) -∗ ((∃ Y, ow (F := F) (xo c 3) mC4 fullShare Y)) -∗ (Tk (F := F) c 9 0) -∗ (Tk (F := F) (xo c 3) 24 0) -∗ (Owes (F := F) c 12) -∗ (ow c mC1 fullShare.right (XC mm (xo c 4))) -∗ ((∃ Y, ow (F := F) (xo c 3) mC5 fullShare Y)) -∗ (Tk (F := F) c 9 1) -∗ (Tk (F := F) (xo c 3) 25 0) -∗ (ow c mC2 fullShare.right (XC mm (xo c 1))) -∗ ((∃ Y, ow (F := F) (xo c 3) mC6 fullShare Y)) -∗ (Tk (F := F) c 9 2) -∗ (Tk (F := F) (xo c 3) 26 0) -∗ (∀ (w0 : BitVec 32) (w1 : BitVec 32) (w2 : BitVec 32), (Owes (F := F) c 15) -∗ (Cr (F := F) c 9) -∗ (Cr (F := F) c 9) -∗ (Cr (F := F) c 9) -∗ Q ⟨w0, w1, w2⟩) -∗ wpk c (k0_part12 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2) Q) := by
  iintro #HR C0R PC4 Ts13 Tr13 HO C1R PC5 Ts14 Tr14 C2R PC6 Ts15 Tr15 Hk
  simp only [k0_part12_eq_skeleton]; unfold k0_part12_skel
  simp only [semSignalWord, semWaitWord, smemLoad, smemLoadElt, Prog.lift, Prog.bind_op, Prog.bind_ret, Prog.pure_eq_ret, wp_deviceId]
  iapply (own_send mm K c _ (n := 12) 3 9 24 0 0 (dev13_eq c) rfl csem9.symm csem24.symm (by decide) (by decide) rfl rfl rfl rfl (src := mC0) (dst := mC4) (X := (XC mm (xo c 0))) (Entails.of_eq (pay_9_0 mm c).symm) (land_24_0 mm c)) $$ HR C0R PC4 Ts13 Tr13 HO
  iintro C9_0 HO
  iapply (own_send mm K c _ (n := 13) 3 9 25 1 0 (dev14_eq c) rfl csem9.symm csem25.symm (by decide) (by decide) rfl rfl rfl rfl (src := mC1) (dst := mC5) (X := (XC mm (xo c 4))) (Entails.of_eq (pay_9_1 mm c).symm) (land_25_0 mm c)) $$ HR C1R PC5 Ts14 Tr14 HO
  iintro C9_1 HO
  iapply (own_send mm K c _ (n := 14) 3 9 26 2 0 (dev15_eq c) rfl csem9.symm csem26.symm (by decide) (by decide) rfl rfl rfl rfl (src := mC2) (dst := mC6) (X := (XC mm (xo c 1))) (Entails.of_eq (pay_9_2 mm c).symm) (land_26_0 mm c)) $$ HR C2R PC6 Ts15 Tr15 HO
  iintro C9_2 HO
  iapply (own_ret c)
  iapply Hk $$ HO C9_0 C9_1 C9_2

end Parts

end Cert.KProof

end
-- ==== Proof.Parts3.lean ====
module

public import proofs.«01_k».proof.Proof.Cells
public import Idealize.ShloMosaic.Lib.Pipeline.Value

/-! The parts 13 to 17 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part13 {Q : ((PUnit)) → sProp 𝕄} (c : Dev nD) (v179 : BitVec 32) (v188 : BitVec 32) :
    recs mm K ⊢ iprop((ow c mC3 fullShare.right (XC mm (xo c 5))) -∗ ((∃ Y, ow (F := F) (xo c 3) mC7 fullShare Y)) -∗ (Tk (F := F) c 9 3) -∗ (Tk (F := F) (xo c 3) 27 0) -∗ (Owes (F := F) c 15) -∗ (Wt mm c 2 0) -∗ (Cr (F := F) c 2) -∗ (Wt mm c 11 0) -∗ (Cr (F := F) c 11) -∗ (Cr (F := F) c 2) -∗ ((Owes (F := F) c 16) -∗ (Wt mm c 11 1) -∗ (Cr (F := F) c 9) -∗ (ow c mA0 fullShare.right (XA mm (xo c 0))) -∗ (ow c mA1 fullShare.right (XA mm (xo c 1))) -∗ (semVal (cell c 2) 0) -∗ Q ⟨⟩) -∗ wpk c (k0_part13 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v179 v188) Q) := by
  iintro #HR C3R PC7 Ts16 Tr16 HO W2 C2_0 W11 C11_0 C2_1 Hk
  simp only [k0_part13_eq_skeleton]; unfold k0_part13_skel
  simp only [semSignalWord, semWaitWord, smemLoad, smemLoadElt, Prog.lift, Prog.bind_op, Prog.bind_ret, Prog.pure_eq_ret, wp_deviceId]
  iapply (own_send mm K c _ (n := 15) 3 9 27 3 0 (dev16_eq c) rfl csem9.symm csem27.symm (by decide) (by decide) rfl rfl rfl rfl (src := mC3) (dst := mC7) (X := (XC mm (xo c 5))) (Entails.of_eq (pay_9_3 mm c).symm) (land_27_0 mm c)) $$ HR C3R PC7 Ts16 Tr16 HO
  iintro C9_3 HO
  iapply (own_partD mm K c (n := 16) (srcw := mA2) (dstw := mA0) 2 csem2 rfl 0 (by decide)) $$ HR W2 C2_0 HO
  iintro W2 HO
  iapply (own_partD mm K c (n := 16) (srcw := mA0) (dstw := mA2) 11 csem11 rfl 0 (by decide)) $$ HR W11 C11_0 HO
  iintro W11 HO
  iapply (own_restD mm K c (n := 16) (srcw := mA3) (dstw := mA1) 2 csem2 rfl 1 (by decide) (by decide)) $$ HR W2 C2_1 HO
  iintro HP V2 HO
  ihave HP := (rest_2 mm c) $$ HP
  icases HP with ⟨A0R, A1R⟩
  iapply (own_ret c)
  iapply Hk $$ HO W11 C9_3 A0R A1R V2

theorem part14 {Q : ((Σ' (v319 : BitVec 32) (v328 : BitVec 32) (v337 : BitVec 32) (v338 : BitVec 32), BitVec 32)) → sProp 𝕄} (c : Dev nD) (v2 : BitVec 32) :
    recs mm K ⊢ iprop((Wt mm c 11 1) -∗ (Owes (F := F) c 16) -∗ (Cr (F := F) c 11) -∗ (ow c mA0 fullShare.right (XA mm (xo c 0))) -∗ ((∃ Y, ow (F := F) (xo c 4) mA4 fullShare Y)) -∗ (Tk (F := F) c 3 0) -∗ (Tk (F := F) (xo c 4) 16 0) -∗ (ow c mA1 fullShare.right (XA mm (xo c 1))) -∗ ((∃ Y, ow (F := F) (xo c 4) mA5 fullShare Y)) -∗ (Tk (F := F) c 3 1) -∗ (Tk (F := F) (xo c 4) 17 0) -∗ (∀ (w0 : BitVec 32) (w1 : BitVec 32) (w2 : BitVec 32) (w3 : BitVec 32) (w4 : BitVec 32), (Owes (F := F) c 18) -∗ (semVal (cell c 11) 0) -∗ (ow c mA2 fullShare.left (XA mm (xo c 3))) -∗ (ow c mA2 fullShare.right (XA mm (xo c 3))) -∗ (ow c mA3 fullShare.left (XA mm (xo c 2))) -∗ (ow c mA3 fullShare.right (XA mm (xo c 2))) -∗ (Cr (F := F) c 3) -∗ (Cr (F := F) c 3) -∗ Q ⟨w0, w1, w2, w3, w4⟩) -∗ wpk c (k0_part14 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2) Q) := by
  iintro #HR W11 HO C11_1 A0R PA4 Ts17 Tr17 A1R PA5 Ts18 Tr18 Hk
  simp only [k0_part14_eq_skeleton]; unfold k0_part14_skel
  simp only [semSignalWord, semWaitWord, smemLoad, smemLoadElt, Prog.lift, Prog.bind_op, Prog.bind_ret, Prog.pure_eq_ret, wp_deviceId]
  iapply (own_restD mm K c (n := 16) (srcw := mA1) (dstw := mA3) 11 csem11 rfl 1 (by decide) (by decide)) $$ HR W11 C11_1 HO
  iintro HP V11 HO
  ihave HP := (rest_11 mm c) $$ HP
  icases HP with ⟨A2, A3⟩
  ihave A2 := (owns_halves _ _ _ _).1 $$ A2
  icases A2 with ⟨A2L, A2R⟩
  ihave A3 := (owns_halves _ _ _ _).1 $$ A3
  icases A3 with ⟨A3L, A3R⟩
  iapply (own_send mm K c _ (n := 16) 4 3 16 0 0 (dev17_eq c) rfl csem3.symm csem16.symm (by decide) (by decide) rfl rfl rfl rfl (src := mA0) (dst := mA4) (X := (XA mm (xo c 0))) (Entails.of_eq (pay_3_0 mm c).symm) (land_16_0 mm c)) $$ HR A0R PA4 Ts17 Tr17 HO
  iintro C3_0 HO
  iapply (own_send mm K c _ (n := 17) 4 3 17 1 0 (dev18_eq c) rfl csem3.symm csem17.symm (by decide) (by decide) rfl rfl rfl rfl (src := mA1) (dst := mA5) (X := (XA mm (xo c 1))) (Entails.of_eq (pay_3_1 mm c).symm) (land_17_0 mm c)) $$ HR A1R PA5 Ts18 Tr18 HO
  iintro C3_1 HO
  iapply (own_ret c)
  iapply Hk $$ HO V11 A2L A2R A3L A3R C3_0 C3_1

theorem part15 {Q : ((BitVec 32)) → sProp 𝕄} (c : Dev nD) (v2 : BitVec 32) (v207 : BitVec 32) (v338 : BitVec 32) (c0_i32_420 : BitVec 32) :
    recs mm K ⊢ iprop((ow c mA2 fullShare.right (XA mm (xo c 3))) -∗ ((∃ Y, ow (F := F) (xo c 4) mA6 fullShare Y)) -∗ (Tk (F := F) c 3 2) -∗ (Tk (F := F) (xo c 4) 18 0) -∗ (Owes (F := F) c 18) -∗ (ow c mA3 fullShare.right (XA mm (xo c 2))) -∗ ((∃ Y, ow (F := F) (xo c 4) mA7 fullShare Y)) -∗ (Tk (F := F) c 3 3) -∗ (Tk (F := F) (xo c 4) 19 0) -∗ (Wt mm c 5 0) -∗ (Cr (F := F) c 5) -∗ (∀ (w0 : BitVec 32), (Owes (F := F) c 20) -∗ (Wt mm c 5 1) -∗ (Cr (F := F) c 3) -∗ (Cr (F := F) c 3) -∗ Q w0) -∗ wpk c (k0_part15 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v207 v338 c0_i32_420) Q) := by
  iintro #HR A2R PA6 Ts19 Tr19 HO A3R PA7 Ts20 Tr20 W5 C5_0 Hk
  simp only [k0_part15_eq_skeleton]; unfold k0_part15_skel
  simp only [semSignalWord, semWaitWord, smemLoad, smemLoadElt, Prog.lift, Prog.bind_op, Prog.bind_ret, Prog.pure_eq_ret, wp_deviceId]
  iapply (own_send mm K c _ (n := 18) 4 3 18 2 0 (dev19_eq c) rfl csem3.symm csem18.symm (by decide) (by decide) rfl rfl rfl rfl (src := mA2) (dst := mA6) (X := (XA mm (xo c 3))) (Entails.of_eq (pay_3_2 mm c).symm) (land_18_0 mm c)) $$ HR A2R PA6 Ts19 Tr19 HO
  iintro C3_2 HO
  iapply (own_send mm K c _ (n := 19) 4 3 19 3 0 (dev20_eq c) rfl csem3.symm csem19.symm (by decide) (by decide) rfl rfl rfl rfl (src := mA3) (dst := mA7) (X := (XA mm (xo c 2))) (Entails.of_eq (pay_3_3 mm c).symm) (land_19_0 mm c)) $$ HR A3R PA7 Ts20 Tr20 HO
  iintro C3_3 HO
  iapply (own_partD mm K c (n := 20) (srcw := mB2) (dstw := mB0) 5 csem5 rfl 0 (by decide)) $$ HR W5 C5_0 HO
  iintro W5 HO
  iapply (own_ret c)
  iapply Hk $$ HO W5 C3_2 C3_3

theorem part16 {Q : ((Σ' (v375 : BitVec 32), BitVec 32)) → sProp 𝕄} (c : Dev nD) (v2 : BitVec 32) (v216 : BitVec 32) :
    recs mm K ⊢ iprop((Wt mm c 13 0) -∗ (Owes (F := F) c 20) -∗ (Cr (F := F) c 13) -∗ (Wt mm c 5 1) -∗ (Cr (F := F) c 5) -∗ (Cr (F := F) c 13) -∗ ((∃ Y, ow (F := F) (xo c 1) mB4 fullShare Y)) -∗ (Tk (F := F) c 6 0) -∗ (Tk (F := F) (xo c 1) 20 0) -∗ (∀ (w0 : BitVec 32) (w1 : BitVec 32), (Owes (F := F) c 21) -∗ (ow c mB1 fullShare.right (XB mm (xo c 3))) -∗ (semVal (cell c 5) 0) -∗ (semVal (cell c 13) 0) -∗ (ow c mB2 fullShare.left (XB mm (xo c 4))) -∗ (ow c mB2 fullShare.right (XB mm (xo c 4))) -∗ (ow c mB3 fullShare.left (XB mm (xo c 7))) -∗ (ow c mB3 fullShare.right (XB mm (xo c 7))) -∗ (Cr (F := F) c 6) -∗ Q ⟨w0, w1⟩) -∗ wpk c (k0_part16 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v216) Q) := by
  iintro #HR W13 HO C13_0 W5 C5_1 C13_1 PB4 Ts21 Tr21 Hk
  simp only [k0_part16_eq_skeleton]; unfold k0_part16_skel
  simp only [semSignalWord, semWaitWord, smemLoad, smemLoadElt, Prog.lift, Prog.bind_op, Prog.bind_ret, Prog.pure_eq_ret, wp_deviceId]
  iapply (own_partD mm K c (n := 20) (srcw := mB0) (dstw := mB2) 13 csem13 rfl 0 (by decide)) $$ HR W13 C13_0 HO
  iintro W13 HO
  iapply (own_restD mm K c (n := 20) (srcw := mB3) (dstw := mB1) 5 csem5 rfl 1 (by decide) (by decide)) $$ HR W5 C5_1 HO
  iintro HP V5 HO
  ihave HP := (rest_5 mm c) $$ HP
  icases HP with ⟨B0R, B1R⟩
  iapply (own_restD mm K c (n := 20) (srcw := mB1) (dstw := mB3) 13 csem13 rfl 1 (by decide) (by decide)) $$ HR W13 C13_1 HO
  iintro HP V13 HO
  ihave HP := (rest_13 mm c) $$ HP
  icases HP with ⟨B2, B3⟩
  ihave B2 := (owns_halves _ _ _ _).1 $$ B2
  icases B2 with ⟨B2L, B2R⟩
  ihave B3 := (owns_halves _ _ _ _).1 $$ B3
  icases B3 with ⟨B3L, B3R⟩
  iapply (own_send mm K c _ (n := 20) 1 6 20 0 0 (dev21_eq c) rfl csem6.symm csem20.symm (by decide) (by decide) rfl rfl rfl rfl (src := mB0) (dst := mB4) (X := (XB mm (xo c 0))) (Entails.of_eq (pay_6_0 mm c).symm) (land_20_0 mm c)) $$ HR B0R PB4 Ts21 Tr21 HO
  iintro C6_0 HO
  iapply (own_ret c)
  iapply Hk $$ HO B1R V5 V13 B2L B2R B3L B3R C6_0

theorem part17 {Q : ((Σ' (v393 : BitVec 32), BitVec 32)) → sProp 𝕄} (c : Dev nD) (v2 : BitVec 32) (v384 : BitVec 32) :
    recs mm K ⊢ iprop((ow c mB1 fullShare.right (XB mm (xo c 3))) -∗ ((∃ Y, ow (F := F) (xo c 1) mB5 fullShare Y)) -∗ (Tk (F := F) c 6 1) -∗ (Tk (F := F) (xo c 1) 21 0) -∗ (Owes (F := F) c 21) -∗ (ow c mB2 fullShare.right (XB mm (xo c 4))) -∗ ((∃ Y, ow (F := F) (xo c 1) mB6 fullShare Y)) -∗ (Tk (F := F) c 6 2) -∗ (Tk (F := F) (xo c 1) 22 0) -∗ (ow c mB3 fullShare.right (XB mm (xo c 7))) -∗ ((∃ Y, ow (F := F) (xo c 1) mB7 fullShare Y)) -∗ (Tk (F := F) c 6 3) -∗ (Tk (F := F) (xo c 1) 23 0) -∗ (∀ (w0 : BitVec 32) (w1 : BitVec 32), (Owes (F := F) c 24) -∗ (Cr (F := F) c 6) -∗ (Cr (F := F) c 6) -∗ (Cr (F := F) c 6) -∗ Q ⟨w0, w1⟩) -∗ wpk c (k0_part17 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v384) Q) := by
  iintro #HR B1R PB5 Ts22 Tr22 HO B2R PB6 Ts23 Tr23 B3R PB7 Ts24 Tr24 Hk
  simp only [k0_part17_eq_skeleton]; unfold k0_part17_skel
  simp only [semSignalWord, semWaitWord, smemLoad, smemLoadElt, Prog.lift, Prog.bind_op, Prog.bind_ret, Prog.pure_eq_ret, wp_deviceId]
  iapply (own_send mm K c _ (n := 21) 1 6 21 1 0 (dev22_eq c) rfl csem6.symm csem21.symm (by decide) (by decide) rfl rfl rfl rfl (src := mB1) (dst := mB5) (X := (XB mm (xo c 3))) (Entails.of_eq (pay_6_1 mm c).symm) (land_21_0 mm c)) $$ HR B1R PB5 Ts22 Tr22 HO
  iintro C6_1 HO
  iapply (own_send mm K c _ (n := 22) 1 6 22 2 0 (dev23_eq c) rfl csem6.symm csem22.symm (by decide) (by decide) rfl rfl rfl rfl (src := mB2) (dst := mB6) (X := (XB mm (xo c 4))) (Entails.of_eq (pay_6_2 mm c).symm) (land_22_0 mm c)) $$ HR B2R PB6 Ts23 Tr23 HO
  iintro C6_2 HO
  iapply (own_send mm K c _ (n := 23) 1 6 23 3 0 (dev24_eq c) rfl csem6.symm csem23.symm (by decide) (by decide) rfl rfl rfl rfl (src := mB3) (dst := mB7) (X := (XB mm (xo c 7))) (Entails.of_eq (pay_6_3 mm c).symm) (land_23_0 mm c)) $$ HR B3R PB7 Ts24 Tr24 HO
  iintro C6_3 HO
  iapply (own_ret c)
  iapply Hk $$ HO C6_1 C6_2 C6_3

end Parts

end Cert.KProof

end
-- ==== Proof.Parts4.lean ====
module

public import proofs.«01_k».proof.Proof.Cells
public import Idealize.ShloMosaic.Lib.Pipeline.Value

/-! The parts 18 to 22 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part18 {Q : ((Σ' (v435 : FVec F S512x1024 .f32), Vec F S512x1024 .f32)) → sProp 𝕄} (c : Dev nD) (X7 : S512x1024.Idx → F .f32) :
    recs mm K ⊢ iprop((ow c mA2 fullShare.left (XA mm (xo c 3))) -∗ (ow c w8M fullShare (Wc mm c)) -∗ (ow c ac3 fullShare (s31 mm c)) -∗ (ow c mA3 fullShare.left (XA mm (xo c 2))) -∗ ((∃ Y, ow (F := F) c ac2 fullShare Y)) -∗ (ow c mB2 fullShare.left (XB mm (xo c 4))) -∗ (ow c ac4 fullShare (s41 mm c)) -∗ (ow c mB3 fullShare.left (XB mm (xo c 7))) -∗ (ow c ac7 fullShare X7) -∗ ((ow c ac2 fullShare (s21 mm c)) -∗ (ow c ac3 fullShare (s32 mm c)) -∗ (ow c ac4 fullShare (s42 mm c)) -∗ (ow c ac7 fullShare X7) -∗ (ow c w8M fullShare (Wc mm c)) -∗ (ow c mA2 fullShare.left (XA mm (xo c 3))) -∗ (ow c mA3 fullShare.left (XA mm (xo c 2))) -∗ (ow c mB2 fullShare.left (XB mm (xo c 4))) -∗ (ow c mB3 fullShare.left (XB mm (xo c 7))) -∗ Q ⟨(k0_pay18 (XB mm (xo c 7)) (WB mm c)), X7⟩) -∗ wpk c (k0_part18 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 ) Q) := by
  iintro #HR A2L w8 ac3 A3L ac2 B2L ac4 B3L ac7 Hk
  simp only [k0_part18_eq_skeleton]; unfold k0_part18_skel
  simp only [semSignalWord, semWaitWord, smemLoad, smemLoadElt, Prog.lift, Prog.bind_op, Prog.bind_ret, Prog.pure_eq_ret, wp_deviceId]
  iapply (own_load c (M := cA) (r := rA2)) $$ A2L
  iintro A2L
  iapply (own_load_whole c (M := w8M) (r := rWA)) $$ w8
  iintro w8
  iapply (own_load c (M := acM) (r := rac3)) $$ ac3
  iintro ac3
  iapply (own_load c (M := acM) (r := rac3)) $$ ac3
  iintro ac3
  iapply (own_store c (M := acM) (r := rac3)) $$ ac3
  iintro ac3
  ihave ac3 := (show ow c ac3 fullShare _ ⊢ ow c ac3 fullShare (s32 mm c) from by exact .rfl) $$ ac3
  iapply (own_load c (M := cA) (r := rA3)) $$ A3L
  iintro A3L
  iapply (own_load_whole c (M := w8M) (r := rWA)) $$ w8
  iintro w8
  icases ac2 with ⟨%Y_ac2, ac2⟩
  iapply (own_load c (M := acM) (r := rac2)) $$ ac2
  iintro ac2
  iapply (own_store c (M := acM) (r := rac2)) $$ ac2
  iintro ac2
  ihave ac2 := (show ow c ac2 fullShare _ ⊢ ow c ac2 fullShare (s21 mm c) from by exact .rfl) $$ ac2
  iapply (own_load c (M := cB) (r := rB2)) $$ B2L
  iintro B2L
  iapply (own_load_whole c (M := w8M) (r := rWB)) $$ w8
  iintro w8
  iapply (own_load c (M := acM) (r := rac4)) $$ ac4
  iintro ac4
  iapply (own_load c (M := acM) (r := rac4)) $$ ac4
  iintro ac4
  iapply (own_store c (M := acM) (r := rac4)) $$ ac4
  iintro ac4
  ihave ac4 := (show ow c ac4 fullShare _ ⊢ ow c ac4 fullShare (s42 mm c) from by exact .rfl) $$ ac4
  iapply (own_load c (M := cB) (r := rB3)) $$ B3L
  iintro B3L
  iapply (own_load_whole c (M := w8M) (r := rWB)) $$ w8
  iintro w8
  iapply (own_load c (M := acM) (r := rac7)) $$ ac7
  iintro ac7
  iapply (own_retEq c (a' := ⟨(k0_pay18 (XB mm (xo c 7)) (WB mm c)), X7⟩) (by exact rfl))
  iapply Hk $$ ac2 ac3 ac4 ac7 w8 A2L A3L B2L B3L

theorem part19 {Q : ((PUnit)) → sProp 𝕄} (c : Dev nD) (v263 : BitVec 32) (X7 : S512x1024.Idx → F .f32) :
    recs mm K ⊢ iprop((ow c ac7 fullShare X7) -∗ (ow c mC2 fullShare.left (XC mm (xo c 1))) -∗ (ow c w8M fullShare (Wc mm c)) -∗ (ow c ac1 fullShare (s11 mm c)) -∗ (ow c mC3 fullShare.left (XC mm (xo c 5))) -∗ ((∃ Y, ow (F := F) c ac5 fullShare Y)) -∗ (Wt mm c 9 0) -∗ (Owes (F := F) c 24) -∗ (Cr (F := F) c 9) -∗ ((Owes (F := F) c 24) -∗ (ow c ac1 fullShare (s12 mm c)) -∗ (ow c ac5 fullShare (s51 mm c)) -∗ (ow c ac7 fullShare (s71 mm c)) -∗ (Wt mm c 9 1) -∗ (ow c w8M fullShare (Wc mm c)) -∗ (ow c mC2 fullShare.left (XC mm (xo c 1))) -∗ (ow c mC3 fullShare.left (XC mm (xo c 5))) -∗ Q ⟨⟩) -∗ wpk c (k0_part19 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v263 (k0_pay18 (XB mm (xo c 7)) (WB mm c)) X7) Q) := by
  iintro #HR ac7 C2L w8 ac1 C3L ac5 W9 HO C9_0 Hk
  simp only [k0_part19_eq_skeleton]; unfold k0_part19_skel
  simp only [semSignalWord, semWaitWord, smemLoad, smemLoadElt, Prog.lift, Prog.bind_op, Prog.bind_ret, Prog.pure_eq_ret, wp_deviceId]
  iapply (own_store c (M := acM) (r := rac7)) $$ ac7
  iintro ac7
  ihave ac7 := (show ow c ac7 fullShare _ ⊢ ow c ac7 fullShare (s71 mm c) from by exact .rfl) $$ ac7
  iapply (own_load c (M := cC) (r := rC2)) $$ C2L
  iintro C2L
  iapply (own_load_whole c (M := w8M) (r := rWC)) $$ w8
  iintro w8
  iapply (own_load c (M := acM) (r := rac1)) $$ ac1
  iintro ac1
  iapply (own_load c (M := acM) (r := rac1)) $$ ac1
  iintro ac1
  iapply (own_store c (M := acM) (r := rac1)) $$ ac1
  iintro ac1
  ihave ac1 := (show ow c ac1 fullShare _ ⊢ ow c ac1 fullShare (s12 mm c) from by exact .rfl) $$ ac1
  iapply (own_load c (M := cC) (r := rC3)) $$ C3L
  iintro C3L
  iapply (own_load_whole c (M := w8M) (r := rWC)) $$ w8
  iintro w8
  icases ac5 with ⟨%Y_ac5, ac5⟩
  iapply (own_load c (M := acM) (r := rac5)) $$ ac5
  iintro ac5
  iapply (own_store c (M := acM) (r := rac5)) $$ ac5
  iintro ac5
  ihave ac5 := (show ow c ac5 fullShare _ ⊢ ow c ac5 fullShare (s51 mm c) from by exact .rfl) $$ ac5
  iapply (own_partD mm K c (n := 24) (srcw := mC4) (dstw := mC0) 9 csem9 rfl 0 (by decide)) $$ HR W9 C9_0 HO
  iintro W9 HO
  iapply (own_ret c)
  iapply Hk $$ HO ac1 ac5 ac7 W9 w8 C2L C3L

theorem part20 {Q : ((PUnit)) → sProp 𝕄} (c : Dev nD) (v2 : BitVec 32) (v27 : F .f32) :
    recs mm K ⊢ iprop((Wt mm c 24 0) -∗ (Owes (F := F) c 24) -∗ (Cr (F := F) c 24) -∗ (ow c w8M fullShare (Wc mm c)) -∗ (ow c ac3 fullShare (s32 mm c)) -∗ ((∃ Y, ow (F := F) c ob1 fullShare Y)) -∗ ((∃ Y, ow (F := F) c (ou3 c) fullShare Y)) -∗ (semVal ((c : Thread nD τ), SemLoc.dma oS1) 0) -∗ ((Owes (F := F) c 24) -∗ (ow c ac3 fullShare (s33 mm c)) -∗ (ow c w8M fullShare (Wc mm c)) -∗ (ow c mC4 fullShare (XC mm (xo c 3))) -∗ (semVal (cell c 24) 0) -∗ (FlyM c oS1 (ou3 c) iprop(ow c (ou3 c) fullShare (em v27 (s33 mm c)) ∗ ow c ob1 fullShare (em v27 (s33 mm c)))) -∗ Q ⟨⟩) -∗ wpk c (k0_part20 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v27) Q) := by
  iintro #HR W24 HO C24_0 w8 ac3 ob1 ou3 ov1 Hk
  simp only [k0_part20_eq_skeleton]; unfold k0_part20_skel
  simp only [semSignalWord, semWaitWord, smemLoad, smemLoadElt, Prog.lift, Prog.bind_op, Prog.bind_ret, Prog.pure_eq_ret, wp_deviceId]
  iapply (own_restD mm K c (n := 24) (srcw := mC0) (dstw := mC4) 24 csem24 rfl 0 (by decide) (by decide)) $$ HR W24 C24_0 HO
  iintro HP V24 HO
  ihave HP := (rest_24 mm c) $$ HP
  irename HP => C4
  iapply (own_load c (M := cC) (r := rC4)) $$ C4
  iintro C4
  iapply (own_load_whole c (M := w8M) (r := rWC)) $$ w8
  iintro w8
  iapply (own_load c (M := acM) (r := rac3)) $$ ac3
  iintro ac3
  iapply (own_load c (M := acM) (r := rac3)) $$ ac3
  iintro ac3
  iapply (own_store c (M := acM) (r := rac3)) $$ ac3
  iintro ac3
  ihave ac3 := (show ow c ac3 fullShare _ ⊢ ow c ac3 fullShare (s33 mm c) from by exact .rfl) $$ ac3
  iapply (own_load c (M := acM) (r := rac3)) $$ ac3
  iintro ac3
  icases ob1 with ⟨%Y_ob1, ob1⟩
  iapply (own_loadSq c (M := obM) (r := rob1)) $$ ob1
  iintro %v478 ob1
  iapply (own_storeSq c (M := obM) (r := rob1) shapeCasts_S1x512x1024_S512x1024) $$ ob1
  iintro ob1
  ihave ob1 := (show ow c ob1 fullShare _ ⊢ ow c ob1 fullShare (em v27 (s33 mm c)) from by exact Entails.of_eq (congrArg (fun v => ow c ob1 fullShare v) (show _ = em v27 (s33 mm c) from sq_cast _))) $$ ob1
  icases ou3 with ⟨%Y_ou3, ou3⟩
  iapply (own_copyM c (src := ob1) (dst := (ou3 c)) (sm := oS1) (by decide)) $$ ob1 ou3 ov1
  iintro FO1
  iapply (own_ret c)
  iapply Hk $$ HO ac3 w8 C4 V24 FO1

theorem part21 {Q : ((FVec F S512x1024 .f32)) → sProp 𝕄} (c : Dev nD) (v2 : BitVec 32) (v319 : BitVec 32) (v27 : F .f32) :
    recs mm K ⊢ iprop((Wt mm c 3 0) -∗ (Owes (F := F) c 24) -∗ (Cr (F := F) c 3) -∗ (Wt mm c 16 0) -∗ (Cr (F := F) c 16) -∗ (ow c w8M fullShare (Wc mm c)) -∗ (ow c ac4 fullShare (s42 mm c)) -∗ ((Owes (F := F) c 24) -∗ (ow c ac4 fullShare (s43 mm c)) -∗ (Wt mm c 3 1) -∗ (ow c w8M fullShare (Wc mm c)) -∗ (ow c mA4 fullShare (XA mm (xo c 4))) -∗ (semVal (cell c 16) 0) -∗ Q (k0_pay25 v27 (s43 mm c))) -∗ wpk c (k0_part21 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v2 v27 v319) Q) := by
  iintro #HR W3 HO C3_0 W16 C16_0 w8 ac4 Hk
  simp only [k0_part21_eq_skeleton]; unfold k0_part21_skel
  simp only [semSignalWord, semWaitWord, smemLoad, smemLoadElt, Prog.lift, Prog.bind_op, Prog.bind_ret, Prog.pure_eq_ret, wp_deviceId]
  iapply (own_partD mm K c (n := 24) (srcw := mA4) (dstw := mA0) 3 csem3 rfl 0 (by decide)) $$ HR W3 C3_0 HO
  iintro W3 HO
  iapply (own_restD mm K c (n := 24) (srcw := mA0) (dstw := mA4) 16 csem16 rfl 0 (by decide) (by decide)) $$ HR W16 C16_0 HO
  iintro HP V16 HO
  ihave HP := (rest_16 mm c) $$ HP
  irename HP => A4
  iapply (own_load c (M := cA) (r := rA4)) $$ A4
  iintro A4
  iapply (own_load_whole c (M := w8M) (r := rWA)) $$ w8
  iintro w8
  iapply (own_load c (M := acM) (r := rac4)) $$ ac4
  iintro ac4
  iapply (own_load c (M := acM) (r := rac4)) $$ ac4
  iintro ac4
  iapply (own_store c (M := acM) (r := rac4)) $$ ac4
  iintro ac4
  ihave ac4 := (show ow c ac4 fullShare _ ⊢ ow c ac4 fullShare (s43 mm c) from by exact .rfl) $$ ac4
  iapply (own_load c (M := acM) (r := rac4)) $$ ac4
  iintro ac4
  iapply (own_retEq c (a' := (k0_pay25 v27 (s43 mm c))) (by exact rfl))
  iapply Hk $$ HO ac4 W3 w8 A4 V16

theorem part22 {Q : ((Vec F S512x1408 .fp8e4m3)) → sProp 𝕄} (c : Dev nD) (v375 : BitVec 32) (v27 : F .f32) :
    recs mm K ⊢ iprop((FlyM c oS0 (ou0 c) iprop(ow c (ou0 c) fullShare (em v27 (s03 mm c)) ∗ ow c ob0 fullShare (em v27 (s03 mm c)))) -∗ (Owes (F := F) c 24) -∗ ((∃ Y, ow (F := F) c (ou4 c) fullShare Y)) -∗ (Wt mm c 6 0) -∗ (Cr (F := F) c 6) -∗ (Wt mm c 20 0) -∗ (Cr (F := F) c 20) -∗ ((Owes (F := F) c 24) -∗ (Wt mm c 6 1) -∗ (ow c (ou0 c) fullShare (em v27 (s03 mm c))) -∗ (FlyM c oS0 (ou4 c) iprop(ow c (ou4 c) fullShare (em v27 (s43 mm c)) ∗ ow c ob0 fullShare (em v27 (s43 mm c)))) -∗ (ow c mB4 fullShare (XB mm (xo c 1))) -∗ (semVal (cell c 20) 0) -∗ Q (XB mm (xo c 1))) -∗ wpk c (k0_part22 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v375 (k0_pay25 v27 (s43 mm c))) Q) := by
  iintro #HR FO0 HO ou4 W6 C6_0 W20 C20_0 Hk
  simp only [k0_part22_eq_skeleton]; unfold k0_part22_skel
  simp only [semSignalWord, semWaitWord, smemLoad, smemLoadElt, Prog.lift, Prog.bind_op, Prog.bind_ret, Prog.pure_eq_ret, wp_deviceId]
  iapply (own_waitM mm K c (ou0 c) (by exact rfl)) $$ HR FO0 HO
  iintro HD ov0 HO
  icases HD with ⟨ou0, ob0⟩
  iapply (own_loadSq c (M := obM) (r := rob0)) $$ ob0
  iintro %v516 ob0
  iapply (own_storeSq c (M := obM) (r := rob0) shapeCasts_S1x512x1024_S512x1024) $$ ob0
  iintro ob0
  ihave ob0 := (show ow c ob0 fullShare _ ⊢ ow c ob0 fullShare (em v27 (s43 mm c)) from by exact Entails.of_eq (congrArg (fun v => ow c ob0 fullShare v) (show _ = em v27 (s43 mm c) from sq_cast _))) $$ ob0
  icases ou4 with ⟨%Y_ou4, ou4⟩
  iapply (own_copyM c (src := ob0) (dst := (ou4 c)) (sm := oS0) (by decide)) $$ ob0 ou4 ov0
  iintro FO0
  iapply (own_partD mm K c (n := 24) (srcw := mB4) (dstw := mB0) 6 csem6 rfl 0 (by decide)) $$ HR W6 C6_0 HO
  iintro W6 HO
  iapply (own_restD mm K c (n := 24) (srcw := mB0) (dstw := mB4) 20 csem20 rfl 0 (by decide) (by decide)) $$ HR W20 C20_0 HO
  iintro HP V20 HO
  ihave HP := (rest_20 mm c) $$ HP
  irename HP => B4
  iapply (own_load c (M := cB) (r := rB4)) $$ B4
  iintro B4
  iapply (own_retEq c (a' := (XB mm (xo c 1))) (by exact rfl))
  iapply Hk $$ HO W6 ou0 FO0 B4 V20

end Parts

end Cert.KProof

end
-- ==== Proof.Parts5.lean ====
module

public import proofs.«01_k».proof.Proof.Cells
public import Idealize.ShloMosaic.Lib.Pipeline.Value

/-! The parts 23 to 28 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part23 {Q : ((PUnit)) → sProp 𝕄} (c : Dev nD) (v2 : BitVec 32) (v27 : F .f32) :
    recs mm K ⊢ iprop((ow c w8M fullShare (Wc mm c)) -∗ (ow c ac1 fullShare (s12 mm c)) -∗ (FlyM c oS1 (ou3 c) iprop(ow c (ou3 c) fullShare (em v27 (s33 mm c)) ∗ ow c ob1 fullShare (em v27 (s33 mm c)))) -∗ (Owes (F := F) c 24) -∗ ((∃ Y, ow (F := F) c (ou1 c) fullShare Y)) -∗ ((Owes (F := F) c 24) -∗ (ow c ac1 fullShare (s13 mm c)) -∗ (ow c w8M fullShare (Wc mm c)) -∗ (ow c (ou3 c) fullShare (em v27 (s33 mm c))) -∗ (FlyM c oS1 (ou1 c) iprop(ow c (ou1 c) fullShare (em v27 (s13 mm c)) ∗ ow c ob1 fullShare (em v27 (s13 mm c)))) -∗ Q ⟨⟩) -∗ wpk c (k0_part23 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v27 (XB mm (xo c 1))) Q) := by
  iintro #HR w8 ac1 FO1 HO ou1 Hk
  simp only [k0_part23_eq_skeleton]; unfold k0_part23_skel
  simp only [semSignalWord, semWaitWord, smemLoad, smemLoadElt, Prog.lift, Prog.bind_op, Prog.bind_ret, Prog.pure_eq_ret, wp_deviceId]
  iapply (own_load_whole c (M := w8M) (r := rWB)) $$ w8
  iintro w8
  iapply (own_load c (M := acM) (r := rac1)) $$ ac1
  iintro ac1
  iapply (own_load c (M := acM) (r := rac1)) $$ ac1
  iintro ac1
  iapply (own_store c (M := acM) (r := rac1)) $$ ac1
  iintro ac1
  ihave ac1 := (show ow c ac1 fullShare _ ⊢ ow c ac1 fullShare (s13 mm c) from by exact .rfl) $$ ac1
  iapply (own_load c (M := acM) (r := rac1)) $$ ac1
  iintro ac1
  iapply (own_waitM mm K c (ou3 c) (by exact rfl)) $$ HR FO1 HO
  iintro HD ov1 HO
  icases HD with ⟨ou3, ob1⟩
  iapply (own_loadSq c (M := obM) (r := rob1)) $$ ob1
  iintro %v554 ob1
  iapply (own_storeSq c (M := obM) (r := rob1) shapeCasts_S1x512x1024_S512x1024) $$ ob1
  iintro ob1
  ihave ob1 := (show ow c ob1 fullShare _ ⊢ ow c ob1 fullShare (em v27 (s13 mm c)) from by exact Entails.of_eq (congrArg (fun v => ow c ob1 fullShare v) (show _ = em v27 (s13 mm c) from sq_cast _))) $$ ob1
  icases ou1 with ⟨%Y_ou1, ou1⟩
  iapply (own_copyM c (src := ob1) (dst := (ou1 c)) (sm := oS1) (by decide)) $$ ob1 ou1 ov1
  iintro FO1
  iapply (own_ret c)
  iapply Hk $$ HO ac1 w8 ou3 FO1

theorem part24 {Q : ((PUnit)) → sProp 𝕄} (c : Dev nD) (v272 : BitVec 32) :
    recs mm K ⊢ iprop((Wt mm c 9 1) -∗ (Owes (F := F) c 24) -∗ (Cr (F := F) c 9) -∗ (Wt mm c 25 0) -∗ (Cr (F := F) c 25) -∗ (ow c w8M fullShare (Wc mm c)) -∗ (ow c ac7 fullShare (s71 mm c)) -∗ (Wt mm c 3 1) -∗ (Cr (F := F) c 3) -∗ ((Owes (F := F) c 24) -∗ (ow c ac7 fullShare (s72 mm c)) -∗ (Wt mm c 3 2) -∗ (Wt mm c 9 2) -∗ (ow c w8M fullShare (Wc mm c)) -∗ (ow c mC5 fullShare (XC mm (xo c 7))) -∗ (semVal (cell c 25) 0) -∗ Q ⟨⟩) -∗ wpk c (k0_part24 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v272) Q) := by
  iintro #HR W9 HO C9_1 W25 C25_0 w8 ac7 W3 C3_1 Hk
  simp only [k0_part24_eq_skeleton]; unfold k0_part24_skel
  simp only [semSignalWord, semWaitWord, smemLoad, smemLoadElt, Prog.lift, Prog.bind_op, Prog.bind_ret, Prog.pure_eq_ret, wp_deviceId]
  iapply (own_partD mm K c (n := 24) (srcw := mC5) (dstw := mC1) 9 csem9 rfl 1 (by decide)) $$ HR W9 C9_1 HO
  iintro W9 HO
  iapply (own_restD mm K c (n := 24) (srcw := mC1) (dstw := mC5) 25 csem25 rfl 0 (by decide) (by decide)) $$ HR W25 C25_0 HO
  iintro HP V25 HO
  ihave HP := (rest_25 mm c) $$ HP
  irename HP => C5
  iapply (own_load c (M := cC) (r := rC5)) $$ C5
  iintro C5
  iapply (own_load_whole c (M := w8M) (r := rWC)) $$ w8
  iintro w8
  iapply (own_load c (M := acM) (r := rac7)) $$ ac7
  iintro ac7
  iapply (own_load c (M := acM) (r := rac7)) $$ ac7
  iintro ac7
  iapply (own_store c (M := acM) (r := rac7)) $$ ac7
  iintro ac7
  ihave ac7 := (show ow c ac7 fullShare _ ⊢ ow c ac7 fullShare (s72 mm c) from by exact .rfl) $$ ac7
  iapply (own_partD mm K c (n := 24) (srcw := mA5) (dstw := mA1) 3 csem3 rfl 1 (by decide)) $$ HR W3 C3_1 HO
  iintro W3 HO
  iapply (own_ret c)
  iapply Hk $$ HO ac7 W3 W9 w8 C5 V25

theorem part25 {Q : ((PUnit)) → sProp 𝕄} (c : Dev nD) (v328 : BitVec 32) (v384 : BitVec 32) :
    recs mm K ⊢ iprop((Wt mm c 17 0) -∗ (Owes (F := F) c 24) -∗ (Cr (F := F) c 17) -∗ (ow c w8M fullShare (Wc mm c)) -∗ (ow c ac5 fullShare (s51 mm c)) -∗ (Wt mm c 6 1) -∗ (Cr (F := F) c 6) -∗ ((Owes (F := F) c 24) -∗ (ow c ac5 fullShare (s52 mm c)) -∗ (Wt mm c 6 2) -∗ (ow c w8M fullShare (Wc mm c)) -∗ (ow c mA5 fullShare (XA mm (xo c 5))) -∗ (semVal (cell c 17) 0) -∗ Q ⟨⟩) -∗ wpk c (k0_part25 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v328 v384) Q) := by
  iintro #HR W17 HO C17_0 w8 ac5 W6 C6_1 Hk
  simp only [k0_part25_eq_skeleton]; unfold k0_part25_skel
  simp only [semSignalWord, semWaitWord, smemLoad, smemLoadElt, Prog.lift, Prog.bind_op, Prog.bind_ret, Prog.pure_eq_ret, wp_deviceId]
  iapply (own_restD mm K c (n := 24) (srcw := mA1) (dstw := mA5) 17 csem17 rfl 0 (by decide) (by decide)) $$ HR W17 C17_0 HO
  iintro HP V17 HO
  ihave HP := (rest_17 mm c) $$ HP
  irename HP => A5
  iapply (own_load c (M := cA) (r := rA5)) $$ A5
  iintro A5
  iapply (own_load_whole c (M := w8M) (r := rWA)) $$ w8
  iintro w8
  iapply (own_load c (M := acM) (r := rac5)) $$ ac5
  iintro ac5
  iapply (own_load c (M := acM) (r := rac5)) $$ ac5
  iintro ac5
  iapply (own_store c (M := acM) (r := rac5)) $$ ac5
  iintro ac5
  ihave ac5 := (show ow c ac5 fullShare _ ⊢ ow c ac5 fullShare (s52 mm c) from by exact .rfl) $$ ac5
  iapply (own_partD mm K c (n := 24) (srcw := mB5) (dstw := mB1) 6 csem6 rfl 1 (by decide)) $$ HR W6 C6_1 HO
  iintro W6 HO
  iapply (own_ret c)
  iapply Hk $$ HO ac5 W6 w8 A5 V17

theorem part26 {Q : ((Σ' (v626 : Vec F S512x1280 .fp8e4m3), Vec F S1280x1024 .fp8e4m3)) → sProp 𝕄} (c : Dev nD) (v281 : BitVec 32) :
    recs mm K ⊢ iprop((Wt mm c 21 0) -∗ (Owes (F := F) c 24) -∗ (Cr (F := F) c 21) -∗ (ow c w8M fullShare (Wc mm c)) -∗ (ow c ac2 fullShare (s21 mm c)) -∗ (Wt mm c 9 2) -∗ (Cr (F := F) c 9) -∗ (Wt mm c 26 0) -∗ (Cr (F := F) c 26) -∗ ((Owes (F := F) c 24) -∗ (ow c ac2 fullShare (s22 mm c)) -∗ (Wt mm c 9 3) -∗ (ow c w8M fullShare (Wc mm c)) -∗ (ow c mB5 fullShare (XB mm (xo c 2))) -∗ (semVal (cell c 21) 0) -∗ (ow c mC6 fullShare (XC mm (xo c 2))) -∗ (semVal (cell c 26) 0) -∗ Q ⟨(XC mm (xo c 2)), (WC mm c)⟩) -∗ wpk c (k0_part26 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v281) Q) := by
  iintro #HR W21 HO C21_0 w8 ac2 W9 C9_2 W26 C26_0 Hk
  simp only [k0_part26_eq_skeleton]; unfold k0_part26_skel
  simp only [semSignalWord, semWaitWord, smemLoad, smemLoadElt, Prog.lift, Prog.bind_op, Prog.bind_ret, Prog.pure_eq_ret, wp_deviceId]
  iapply (own_restD mm K c (n := 24) (srcw := mB1) (dstw := mB5) 21 csem21 rfl 0 (by decide) (by decide)) $$ HR W21 C21_0 HO
  iintro HP V21 HO
  ihave HP := (rest_21 mm c) $$ HP
  irename HP => B5
  iapply (own_load c (M := cB) (r := rB5)) $$ B5
  iintro B5
  iapply (own_load_whole c (M := w8M) (r := rWB)) $$ w8
  iintro w8
  iapply (own_load c (M := acM) (r := rac2)) $$ ac2
  iintro ac2
  iapply (own_load c (M := acM) (r := rac2)) $$ ac2
  iintro ac2
  iapply (own_store c (M := acM) (r := rac2)) $$ ac2
  iintro ac2
  ihave ac2 := (show ow c ac2 fullShare _ ⊢ ow c ac2 fullShare (s22 mm c) from by exact .rfl) $$ ac2
  iapply (own_partD mm K c (n := 24) (srcw := mC6) (dstw := mC2) 9 csem9 rfl 2 (by decide)) $$ HR W9 C9_2 HO
  iintro W9 HO
  iapply (own_restD mm K c (n := 24) (srcw := mC2) (dstw := mC6) 26 csem26 rfl 0 (by decide) (by decide)) $$ HR W26 C26_0 HO
  iintro HP V26 HO
  ihave HP := (rest_26 mm c) $$ HP
  irename HP => C6
  iapply (own_load c (M := cC) (r := rC6)) $$ C6
  iintro C6
  iapply (own_load_whole c (M := w8M) (r := rWC)) $$ w8
  iintro w8
  iapply (own_retEq c (a' := ⟨(XC mm (xo c 2)), (WC mm c)⟩) (by exact rfl))
  iapply Hk $$ HO ac2 W9 w8 B5 V21 C6 V26

theorem part27 {Q : ((PUnit)) → sProp 𝕄} (c : Dev nD) (v2 : BitVec 32) (v27 : F .f32) :
    recs mm K ⊢ iprop((ow c ac2 fullShare (s22 mm c)) -∗ (FlyM c oS0 (ou4 c) iprop(ow c (ou4 c) fullShare (em v27 (s43 mm c)) ∗ ow c ob0 fullShare (em v27 (s43 mm c)))) -∗ (Owes (F := F) c 24) -∗ ((∃ Y, ow (F := F) c (ou2 c) fullShare Y)) -∗ ((Owes (F := F) c 24) -∗ (ow c ac2 fullShare (s23 mm c)) -∗ (ow c (ou4 c) fullShare (em v27 (s43 mm c))) -∗ (FlyM c oS0 (ou2 c) iprop(ow c (ou2 c) fullShare (em v27 (s23 mm c)) ∗ ow c ob0 fullShare (em v27 (s23 mm c)))) -∗ Q ⟨⟩) -∗ wpk c (k0_part27 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v27 (XC mm (xo c 2)) (WC mm c)) Q) := by
  iintro #HR ac2 FO0 HO ou2 Hk
  simp only [k0_part27_eq_skeleton]; unfold k0_part27_skel
  simp only [semSignalWord, semWaitWord, smemLoad, smemLoadElt, Prog.lift, Prog.bind_op, Prog.bind_ret, Prog.pure_eq_ret, wp_deviceId]
  iapply (own_load c (M := acM) (r := rac2)) $$ ac2
  iintro ac2
  iapply (own_load c (M := acM) (r := rac2)) $$ ac2
  iintro ac2
  iapply (own_store c (M := acM) (r := rac2)) $$ ac2
  iintro ac2
  ihave ac2 := (show ow c ac2 fullShare _ ⊢ ow c ac2 fullShare (s23 mm c) from by exact .rfl) $$ ac2
  iapply (own_load c (M := acM) (r := rac2)) $$ ac2
  iintro ac2
  iapply (own_waitM mm K c (ou4 c) (by exact rfl)) $$ HR FO0 HO
  iintro HD ov0 HO
  icases HD with ⟨ou4, ob0⟩
  iapply (own_loadSq c (M := obM) (r := rob0)) $$ ob0
  iintro %v646 ob0
  iapply (own_storeSq c (M := obM) (r := rob0) shapeCasts_S1x512x1024_S512x1024) $$ ob0
  iintro ob0
  ihave ob0 := (show ow c ob0 fullShare _ ⊢ ow c ob0 fullShare (em v27 (s23 mm c)) from by exact Entails.of_eq (congrArg (fun v => ow c ob0 fullShare v) (show _ = em v27 (s23 mm c) from sq_cast _))) $$ ob0
  icases ou2 with ⟨%Y_ou2, ou2⟩
  iapply (own_copyM c (src := ob0) (dst := (ou2 c)) (sm := oS0) (by decide)) $$ ob0 ou2 ov0
  iintro FO0
  iapply (own_ret c)
  iapply Hk $$ HO ac2 ou4 FO0

theorem part28 {Q : ((FVec F S512x1024 .f32)) → sProp 𝕄} (c : Dev nD) (v2 : BitVec 32) (v337 : BitVec 32) (v27 : F .f32) :
    recs mm K ⊢ iprop((Wt mm c 3 2) -∗ (Owes (F := F) c 24) -∗ (Cr (F := F) c 3) -∗ (Wt mm c 18 0) -∗ (Cr (F := F) c 18) -∗ (ow c w8M fullShare (Wc mm c)) -∗ (ow c ac7 fullShare (s72 mm c)) -∗ ((Owes (F := F) c 24) -∗ (ow c ac7 fullShare (s73 mm c)) -∗ (Wt mm c 3 3) -∗ (ow c w8M fullShare (Wc mm c)) -∗ (ow c mA6 fullShare (XA mm (xo c 7))) -∗ (semVal (cell c 18) 0) -∗ Q (k0_pay35 v27 (s73 mm c))) -∗ wpk c (k0_part28 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v2 v27 v337) Q) := by
  iintro #HR W3 HO C3_2 W18 C18_0 w8 ac7 Hk
  simp only [k0_part28_eq_skeleton]; unfold k0_part28_skel
  simp only [semSignalWord, semWaitWord, smemLoad, smemLoadElt, Prog.lift, Prog.bind_op, Prog.bind_ret, Prog.pure_eq_ret, wp_deviceId]
  iapply (own_partD mm K c (n := 24) (srcw := mA6) (dstw := mA2) 3 csem3 rfl 2 (by decide)) $$ HR W3 C3_2 HO
  iintro W3 HO
  iapply (own_restD mm K c (n := 24) (srcw := mA2) (dstw := mA6) 18 csem18 rfl 0 (by decide) (by decide)) $$ HR W18 C18_0 HO
  iintro HP V18 HO
  ihave HP := (rest_18 mm c) $$ HP
  irename HP => A6
  iapply (own_load c (M := cA) (r := rA6)) $$ A6
  iintro A6
  iapply (own_load_whole c (M := w8M) (r := rWA)) $$ w8
  iintro w8
  iapply (own_load c (M := acM) (r := rac7)) $$ ac7
  iintro ac7
  iapply (own_load c (M := acM) (r := rac7)) $$ ac7
  iintro ac7
  iapply (own_store c (M := acM) (r := rac7)) $$ ac7
  iintro ac7
  ihave ac7 := (show ow c ac7 fullShare _ ⊢ ow c ac7 fullShare (s73 mm c) from by exact .rfl) $$ ac7
  iapply (own_load c (M := acM) (r := rac7)) $$ ac7
  iintro ac7
  iapply (own_retEq c (a' := (k0_pay35 v27 (s73 mm c))) (by exact rfl))
  iapply Hk $$ HO ac7 W3 w8 A6 V18

end Parts

end Cert.KProof

end
-- ==== Proof.Parts6.lean ====
module

public import proofs.«01_k».proof.Proof.Cells
public import Idealize.ShloMosaic.Lib.Pipeline.Value

/-! The parts 29 to 33 of the kernel, each from what it touches to what it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

section Parts
variable (mm : (ℓ : Loc nD τ sig) → Buf (Elt F) ℓ) (K : Dev nD × Fin 28 → ℕ)

theorem part29 {Q : ((Vec F S512x1408 .fp8e4m3)) → sProp 𝕄} (c : Dev nD) (v393 : BitVec 32) (v27 : F .f32) :
    recs mm K ⊢ iprop((FlyM c oS1 (ou1 c) iprop(ow c (ou1 c) fullShare (em v27 (s13 mm c)) ∗ ow c ob1 fullShare (em v27 (s13 mm c)))) -∗ (Owes (F := F) c 24) -∗ ((∃ Y, ow (F := F) c (ou7 c) fullShare Y)) -∗ (Wt mm c 6 2) -∗ (Cr (F := F) c 6) -∗ (Wt mm c 22 0) -∗ (Cr (F := F) c 22) -∗ ((Owes (F := F) c 24) -∗ (Wt mm c 6 3) -∗ (ow c (ou1 c) fullShare (em v27 (s13 mm c))) -∗ (FlyM c oS1 (ou7 c) iprop(ow c (ou7 c) fullShare (em v27 (s73 mm c)) ∗ ow c ob1 fullShare (em v27 (s73 mm c)))) -∗ (ow c mB6 fullShare (XB mm (xo c 5))) -∗ (semVal (cell c 22) 0) -∗ Q (XB mm (xo c 5))) -∗ wpk c (k0_part29 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v393 (k0_pay35 v27 (s73 mm c))) Q) := by
  iintro #HR FO1 HO ou7 W6 C6_2 W22 C22_0 Hk
  simp only [k0_part29_eq_skeleton]; unfold k0_part29_skel
  simp only [semSignalWord, semWaitWord, smemLoad, smemLoadElt, Prog.lift, Prog.bind_op, Prog.bind_ret, Prog.pure_eq_ret, wp_deviceId]
  iapply (own_waitM mm K c (ou1 c) (by exact rfl)) $$ HR FO1 HO
  iintro HD ov1 HO
  icases HD with ⟨ou1, ob1⟩
  iapply (own_loadSq c (M := obM) (r := rob1)) $$ ob1
  iintro %v684 ob1
  iapply (own_storeSq c (M := obM) (r := rob1) shapeCasts_S1x512x1024_S512x1024) $$ ob1
  iintro ob1
  ihave ob1 := (show ow c ob1 fullShare _ ⊢ ow c ob1 fullShare (em v27 (s73 mm c)) from by exact Entails.of_eq (congrArg (fun v => ow c ob1 fullShare v) (show _ = em v27 (s73 mm c) from sq_cast _))) $$ ob1
  icases ou7 with ⟨%Y_ou7, ou7⟩
  iapply (own_copyM c (src := ob1) (dst := (ou7 c)) (sm := oS1) (by decide)) $$ ob1 ou7 ov1
  iintro FO1
  iapply (own_partD mm K c (n := 24) (srcw := mB6) (dstw := mB2) 6 csem6 rfl 2 (by decide)) $$ HR W6 C6_2 HO
  iintro W6 HO
  iapply (own_restD mm K c (n := 24) (srcw := mB2) (dstw := mB6) 22 csem22 rfl 0 (by decide) (by decide)) $$ HR W22 C22_0 HO
  iintro HP V22 HO
  ihave HP := (rest_22 mm c) $$ HP
  irename HP => B6
  iapply (own_load c (M := cB) (r := rB6)) $$ B6
  iintro B6
  iapply (own_retEq c (a' := (XB mm (xo c 5))) (by exact rfl))
  iapply Hk $$ HO W6 ou1 FO1 B6 V22

theorem part30 {Q : ((PUnit)) → sProp 𝕄} (c : Dev nD) (v2 : BitVec 32) (v27 : F .f32) :
    recs mm K ⊢ iprop((ow c w8M fullShare (Wc mm c)) -∗ (ow c ac5 fullShare (s52 mm c)) -∗ (FlyM c oS0 (ou2 c) iprop(ow c (ou2 c) fullShare (em v27 (s23 mm c)) ∗ ow c ob0 fullShare (em v27 (s23 mm c)))) -∗ (Owes (F := F) c 24) -∗ ((∃ Y, ow (F := F) c (ou5 c) fullShare Y)) -∗ ((Owes (F := F) c 24) -∗ (ow c ac5 fullShare (s53 mm c)) -∗ (ow c w8M fullShare (Wc mm c)) -∗ (ow c (ou2 c) fullShare (em v27 (s23 mm c))) -∗ (FlyM c oS0 (ou5 c) iprop(ow c (ou5 c) fullShare (em v27 (s53 mm c)) ∗ ow c ob0 fullShare (em v27 (s53 mm c)))) -∗ Q ⟨⟩) -∗ wpk c (k0_part30 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v27 (XB mm (xo c 5))) Q) := by
  iintro #HR w8 ac5 FO0 HO ou5 Hk
  simp only [k0_part30_eq_skeleton]; unfold k0_part30_skel
  simp only [semSignalWord, semWaitWord, smemLoad, smemLoadElt, Prog.lift, Prog.bind_op, Prog.bind_ret, Prog.pure_eq_ret, wp_deviceId]
  iapply (own_load_whole c (M := w8M) (r := rWB)) $$ w8
  iintro w8
  iapply (own_load c (M := acM) (r := rac5)) $$ ac5
  iintro ac5
  iapply (own_load c (M := acM) (r := rac5)) $$ ac5
  iintro ac5
  iapply (own_store c (M := acM) (r := rac5)) $$ ac5
  iintro ac5
  ihave ac5 := (show ow c ac5 fullShare _ ⊢ ow c ac5 fullShare (s53 mm c) from by exact .rfl) $$ ac5
  iapply (own_load c (M := acM) (r := rac5)) $$ ac5
  iintro ac5
  iapply (own_waitM mm K c (ou2 c) (by exact rfl)) $$ HR FO0 HO
  iintro HD ov0 HO
  icases HD with ⟨ou2, ob0⟩
  iapply (own_loadSq c (M := obM) (r := rob0)) $$ ob0
  iintro %v722 ob0
  iapply (own_storeSq c (M := obM) (r := rob0) shapeCasts_S1x512x1024_S512x1024) $$ ob0
  iintro ob0
  ihave ob0 := (show ow c ob0 fullShare _ ⊢ ow c ob0 fullShare (em v27 (s53 mm c)) from by exact Entails.of_eq (congrArg (fun v => ow c ob0 fullShare v) (show _ = em v27 (s53 mm c) from sq_cast _))) $$ ob0
  icases ou5 with ⟨%Y_ou5, ou5⟩
  iapply (own_copyM c (src := ob0) (dst := (ou5 c)) (sm := oS0) (by decide)) $$ ob0 ou5 ov0
  iintro FO0
  iapply (own_ret c)
  iapply Hk $$ HO ac5 w8 ou2 FO0

theorem part31 {Q : ((BitVec 32)) → sProp 𝕄} (c : Dev nD) (v290 : BitVec 32) :
    recs mm K ⊢ iprop((Wt mm c 9 3) -∗ (Owes (F := F) c 24) -∗ (Cr (F := F) c 9) -∗ (Wt mm c 27 0) -∗ (Cr (F := F) c 27) -∗ (ow c w8M fullShare (Wc mm c)) -∗ ((∃ Y, ow (F := F) c ac6 fullShare Y)) -∗ (Wt mm c 3 3) -∗ (Cr (F := F) c 3) -∗ (∀ (w0 : BitVec 32), (Owes (F := F) c 24) -∗ (ow c ac6 fullShare (s61 mm c)) -∗ (ow c w8M fullShare (Wc mm c)) -∗ (ow c mC0 fullShare.right (XC mm (xo c 0))) -∗ (ow c mC1 fullShare.right (XC mm (xo c 4))) -∗ (ow c mC2 fullShare.right (XC mm (xo c 1))) -∗ (ow c mC3 fullShare.right (XC mm (xo c 5))) -∗ (semVal (cell c 9) 0) -∗ (ow c mC7 fullShare (XC mm (xo c 6))) -∗ (semVal (cell c 27) 0) -∗ (ow c mA0 fullShare.right (XA mm (xo c 0))) -∗ (ow c mA1 fullShare.right (XA mm (xo c 1))) -∗ (ow c mA2 fullShare.right (XA mm (xo c 3))) -∗ (ow c mA3 fullShare.right (XA mm (xo c 2))) -∗ (semVal (cell c 3) 0) -∗ Q w0) -∗ wpk c (k0_part31 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v290) Q) := by
  iintro #HR W9 HO C9_3 W27 C27_0 w8 ac6 W3 C3_3 Hk
  simp only [k0_part31_eq_skeleton]; unfold k0_part31_skel
  simp only [semSignalWord, semWaitWord, smemLoad, smemLoadElt, Prog.lift, Prog.bind_op, Prog.bind_ret, Prog.pure_eq_ret, wp_deviceId]
  iapply (own_restD mm K c (n := 24) (srcw := mC7) (dstw := mC3) 9 csem9 rfl 3 (by decide) (by decide)) $$ HR W9 C9_3 HO
  iintro HP V9 HO
  ihave HP := (rest_9 mm c) $$ HP
  icases HP with ⟨C0R, C1R, C2R, C3R⟩
  iapply (own_restD mm K c (n := 24) (srcw := mC3) (dstw := mC7) 27 csem27 rfl 0 (by decide) (by decide)) $$ HR W27 C27_0 HO
  iintro HP V27 HO
  ihave HP := (rest_27 mm c) $$ HP
  irename HP => C7
  iapply (own_load c (M := cC) (r := rC7)) $$ C7
  iintro C7
  iapply (own_load_whole c (M := w8M) (r := rWC)) $$ w8
  iintro w8
  icases ac6 with ⟨%Y_ac6, ac6⟩
  iapply (own_load c (M := acM) (r := rac6)) $$ ac6
  iintro ac6
  iapply (own_store c (M := acM) (r := rac6)) $$ ac6
  iintro ac6
  ihave ac6 := (show ow c ac6 fullShare _ ⊢ ow c ac6 fullShare (s61 mm c) from by exact .rfl) $$ ac6
  iapply (own_restD mm K c (n := 24) (srcw := mA7) (dstw := mA3) 3 csem3 rfl 3 (by decide) (by decide)) $$ HR W3 C3_3 HO
  iintro HP V3 HO
  ihave HP := (rest_3 mm c) $$ HP
  icases HP with ⟨A0R, A1R, A2R, A3R⟩
  iapply (own_ret c)
  iapply Hk $$ HO ac6 w8 C0R C1R C2R C3R V9 C7 V27 A0R A1R A2R A3R V3

theorem part32 {Q : ((PUnit)) → sProp 𝕄} (c : Dev nD) (v346 : BitVec 32) (v402 : BitVec 32) (c1_i32_958 : BitVec 32) :
    recs mm K ⊢ iprop((Wt mm c 19 0) -∗ (Owes (F := F) c 24) -∗ (Cr (F := F) c 19) -∗ (ow c w8M fullShare (Wc mm c)) -∗ (ow c ac6 fullShare (s61 mm c)) -∗ (Wt mm c 6 3) -∗ (Cr (F := F) c 6) -∗ ((Owes (F := F) c 24) -∗ (ow c ac6 fullShare (s62 mm c)) -∗ (ow c w8M fullShare (Wc mm c)) -∗ (ow c mA7 fullShare (XA mm (xo c 6))) -∗ (semVal (cell c 19) 0) -∗ (ow c mB0 fullShare.right (XB mm (xo c 0))) -∗ (ow c mB1 fullShare.right (XB mm (xo c 3))) -∗ (ow c mB2 fullShare.right (XB mm (xo c 4))) -∗ (ow c mB3 fullShare.right (XB mm (xo c 7))) -∗ (semVal (cell c 6) 0) -∗ Q ⟨⟩) -∗ wpk c (k0_part32 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 v346 v402 c1_i32_958) Q) := by
  iintro #HR W19 HO C19_0 w8 ac6 W6 C6_3 Hk
  simp only [k0_part32_eq_skeleton]; unfold k0_part32_skel
  simp only [semSignalWord, semWaitWord, smemLoad, smemLoadElt, Prog.lift, Prog.bind_op, Prog.bind_ret, Prog.pure_eq_ret, wp_deviceId]
  iapply (own_restD mm K c (n := 24) (srcw := mA3) (dstw := mA7) 19 csem19 rfl 0 (by decide) (by decide)) $$ HR W19 C19_0 HO
  iintro HP V19 HO
  ihave HP := (rest_19 mm c) $$ HP
  irename HP => A7
  iapply (own_load c (M := cA) (r := rA7)) $$ A7
  iintro A7
  iapply (own_load_whole c (M := w8M) (r := rWA)) $$ w8
  iintro w8
  iapply (own_load c (M := acM) (r := rac6)) $$ ac6
  iintro ac6
  iapply (own_load c (M := acM) (r := rac6)) $$ ac6
  iintro ac6
  iapply (own_store c (M := acM) (r := rac6)) $$ ac6
  iintro ac6
  ihave ac6 := (show ow c ac6 fullShare _ ⊢ ow c ac6 fullShare (s62 mm c) from by exact .rfl) $$ ac6
  iapply (own_restD mm K c (n := 24) (srcw := mB7) (dstw := mB3) 6 csem6 rfl 3 (by decide) (by decide)) $$ HR W6 C6_3 HO
  iintro HP V6 HO
  ihave HP := (rest_6 mm c) $$ HP
  icases HP with ⟨B0R, B1R, B2R, B3R⟩
  iapply (own_ret c)
  iapply Hk $$ HO ac6 w8 A7 V19 B0R B1R B2R B3R V6

theorem part33 {Q : ((PUnit)) → sProp 𝕄} (c : Dev nD) (v2 : BitVec 32) (v27 : F .f32) :
    recs mm K ⊢ iprop((Wt mm c 23 0) -∗ (Owes (F := F) c 24) -∗ (Cr (F := F) c 23) -∗ (ow c w8M fullShare (Wc mm c)) -∗ (ow c ac6 fullShare (s62 mm c)) -∗ (FlyM c oS1 (ou7 c) iprop(ow c (ou7 c) fullShare (em v27 (s73 mm c)) ∗ ow c ob1 fullShare (em v27 (s73 mm c)))) -∗ ((Owes (F := F) c 24) -∗ (ow c ac6 fullShare (s63 mm c)) -∗ (ow c w8M fullShare (Wc mm c)) -∗ (ow c mB7 fullShare (XB mm (xo c 6))) -∗ (semVal (cell c 23) 0) -∗ (ow c (ou7 c) fullShare (em v27 (s73 mm c))) -∗ (ow c ob1 fullShare (em v27 (s63 mm c))) -∗ (semVal ((c : Thread nD τ), SemLoc.dma oS1) 0) -∗ Q ⟨⟩) -∗ wpk c (k0_part33 xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12 c v2 v27) Q) := by
  iintro #HR W23 HO C23_0 w8 ac6 FO1 Hk
  simp only [k0_part33_eq_skeleton]; unfold k0_part33_skel
  simp only [semSignalWord, semWaitWord, smemLoad, smemLoadElt, Prog.lift, Prog.bind_op, Prog.bind_ret, Prog.pure_eq_ret, wp_deviceId]
  iapply (own_restD mm K c (n := 24) (srcw := mB3) (dstw := mB7) 23 csem23 rfl 0 (by decide) (by decide)) $$ HR W23 C23_0 HO
  iintro HP V23 HO
  ihave HP := (rest_23 mm c) $$ HP
  irename HP => B7
  iapply (own_load c (M := cB) (r := rB7)) $$ B7
  iintro B7
  iapply (own_load_whole c (M := w8M) (r := rWB)) $$ w8
  iintro w8
  iapply (own_load c (M := acM) (r := rac6)) $$ ac6
  iintro ac6
  iapply (own_load c (M := acM) (r := rac6)) $$ ac6
  iintro ac6
  iapply (own_store c (M := acM) (r := rac6)) $$ ac6
  iintro ac6
  ihave ac6 := (show ow c ac6 fullShare _ ⊢ ow c ac6 fullShare (s63 mm c) from by exact .rfl) $$ ac6
  iapply (own_load c (M := acM) (r := rac6)) $$ ac6
  iintro ac6
  iapply (own_waitM mm K c (ou7 c) (by exact rfl)) $$ HR FO1 HO
  iintro HD ov1 HO
  icases HD with ⟨ou7, ob1⟩
  iapply (own_loadSq c (M := obM) (r := rob1)) $$ ob1
  iintro %v794 ob1
  iapply (own_storeSq c (M := obM) (r := rob1) shapeCasts_S1x512x1024_S512x1024) $$ ob1
  iintro ob1
  ihave ob1 := (show ow c ob1 fullShare _ ⊢ ow c ob1 fullShare (em v27 (s63 mm c)) from by exact Entails.of_eq (congrArg (fun v => ow c ob1 fullShare v) (show _ = em v27 (s63 mm c) from sq_cast _))) $$ ob1
  iapply (own_ret c)
  iapply Hk $$ HO ac6 w8 B7 V23 ou7 ob1 ov1

end Parts

end Cert.KProof

end
-- ==== Proof.Body.lean ====
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import Idealize.ShloMosaic.Lib.Pipeline.Value

/-! The kernel on one device, from the arrays and tokens it starts with to the arrays it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-- The product of the two scales. -/
abbrev V27 (X2 X3 : S1.Idx → F .f32) : F .f32 := (k0_pay1 (X2 ((Rect.unit (s := S1) ![0] S1.size inb_S1_S1_0).emb (Shape.Idx.first (by decide)))) (X3 ((Rect.unit (s := S1) ![0] S1.size inb_S1_S1_0).emb (Shape.Idx.first (by decide)))))

section Body
variable (mm : (ℓ : Loc nD τ sig) → Buf (Elt F) ℓ) (K : Dev nD × Fin 28 → ℕ)

set_option maxHeartbeats 4000000 in
/-- The kernel on device `c`: from its blocks, its buffers, its tokens and its credit, to the same
    blocks, the result's eight blocks of rows at their values and every semaphore's count at zero. -/
theorem body_run {Q : PUnit → sProp 𝕄} (c : Dev nD) (X2 X3 : S1.Idx → F .f32) (X7 : S512x1024.Idx → F .f32) :
    recs mm K ⊢ iprop((Owes (F := F) c 0) -∗ (ow c xA fullShare (fun j => xv mm c (rXA.emb j))) -∗ (ow c xB fullShare (fun j => xv mm c (rXB.emb j))) -∗ (ow c xC fullShare (fun j => xv mm c (rXC.emb j))) -∗ ((∃ Y, ow (F := F) c xfA fullShare Y)) -∗ ((∃ Y, ow (F := F) c xfB fullShare Y)) -∗ ((∃ Y, ow (F := F) c xfC fullShare Y)) -∗ (ow c wLo fullShare (fun j => wv mm c (rWLo.emb j))) -∗ (ow c wHi fullShare (fun j => wv mm c (rWHi.emb j))) -∗ ((∃ Y, ow (F := F) c w8Lo fullShare Y)) -∗ ((∃ Y, ow (F := F) c w8Hi fullShare Y)) -∗ ((∃ Y, ow (F := F) c wfM fullShare Y)) -∗ ((∃ Y, ow (F := F) c mA0 fullShare Y)) -∗ ((∃ Y, ow (F := F) c mB0 fullShare Y)) -∗ ((∃ Y, ow (F := F) c mC0 fullShare Y)) -∗ (barPay (F := F) c 0) -∗ (barPay (F := F) c 1) -∗ (barPay (F := F) c 2) -∗ ((∃ Y, ow (F := F) c ac0 fullShare Y)) -∗ ((∃ Y, ow (F := F) c ac1 fullShare Y)) -∗ ((∃ Y, ow (F := F) c ac2 fullShare Y)) -∗ ((∃ Y, ow (F := F) c ac3 fullShare Y)) -∗ ((∃ Y, ow (F := F) c ac4 fullShare Y)) -∗ ((∃ Y, ow (F := F) c ac5 fullShare Y)) -∗ ((∃ Y, ow (F := F) c ac6 fullShare Y)) -∗ (ow c ac7 fullShare X7) -∗ ((∃ Y, ow (F := F) c ob0 fullShare Y)) -∗ ((∃ Y, ow (F := F) c ob1 fullShare Y)) -∗ ((∃ Y, ow (F := F) c (ou0 c) fullShare Y)) -∗ ((∃ Y, ow (F := F) c (ou1 c) fullShare Y)) -∗ ((∃ Y, ow (F := F) c (ou2 c) fullShare Y)) -∗ ((∃ Y, ow (F := F) c (ou3 c) fullShare Y)) -∗ ((∃ Y, ow (F := F) c (ou4 c) fullShare Y)) -∗ ((∃ Y, ow (F := F) c (ou5 c) fullShare Y)) -∗ ((∃ Y, ow (F := F) c (ou6 c) fullShare Y)) -∗ ((∃ Y, ow (F := F) c (ou7 c) fullShare Y)) -∗ (semVal ((c : Thread nD τ), SemLoc.dma lS0) 0) -∗ (semVal ((c : Thread nD τ), SemLoc.dma lS1) 0) -∗ (semVal ((c : Thread nD τ), SemLoc.dma lS2) 0) -∗ (semVal ((c : Thread nD τ), SemLoc.dma lS3) 0) -∗ (semVal ((c : Thread nD τ), SemLoc.dma lS4) 0) -∗ (semVal ((c : Thread nD τ), SemLoc.dma oS0) 0) -∗ (semVal ((c : Thread nD τ), SemLoc.dma oS1) 0) -∗ (ow c g2M fullShare X2) -∗ (ow c g3M fullShare X3) -∗ (Tk (F := F) (xo c 1) 0 0) -∗ (Tk (F := F) (xo c 3) 0 1) -∗ (Tk (F := F) (xo c 4) 0 2) -∗ (Tk (F := F) c 1 0) -∗ (Tk (F := F) (xo c 1) 10 0) -∗ (Tk (F := F) c 4 0) -∗ (Tk (F := F) (xo c 3) 12 0) -∗ (Tk (F := F) c 7 0) -∗ (Tk (F := F) (xo c 4) 14 0) -∗ (Tk (F := F) c 8 0) -∗ (Tk (F := F) (xo c 1) 15 0) -∗ (Tk (F := F) c 8 1) -∗ (Tk (F := F) (xo c 1) 15 1) -∗ (Tk (F := F) c 2 0) -∗ (Tk (F := F) (xo c 3) 11 0) -∗ (Tk (F := F) c 2 1) -∗ (Tk (F := F) (xo c 3) 11 1) -∗ (Tk (F := F) c 5 0) -∗ (Tk (F := F) (xo c 4) 13 0) -∗ (Tk (F := F) c 5 1) -∗ (Tk (F := F) (xo c 4) 13 1) -∗ (Tk (F := F) c 9 0) -∗ (Tk (F := F) (xo c 3) 24 0) -∗ (Tk (F := F) c 9 1) -∗ (Tk (F := F) (xo c 3) 25 0) -∗ (Tk (F := F) c 9 2) -∗ (Tk (F := F) (xo c 3) 26 0) -∗ (Tk (F := F) c 9 3) -∗ (Tk (F := F) (xo c 3) 27 0) -∗ (Tk (F := F) c 3 0) -∗ (Tk (F := F) (xo c 4) 16 0) -∗ (Tk (F := F) c 3 1) -∗ (Tk (F := F) (xo c 4) 17 0) -∗ (Tk (F := F) c 3 2) -∗ (Tk (F := F) (xo c 4) 18 0) -∗ (Tk (F := F) c 3 3) -∗ (Tk (F := F) (xo c 4) 19 0) -∗ (Tk (F := F) c 6 0) -∗ (Tk (F := F) (xo c 1) 20 0) -∗ (Tk (F := F) c 6 1) -∗ (Tk (F := F) (xo c 1) 21 0) -∗ (Tk (F := F) c 6 2) -∗ (Tk (F := F) (xo c 1) 22 0) -∗ (Tk (F := F) c 6 3) -∗ (Tk (F := F) (xo c 1) 23 0) -∗ (Wt mm c 0 0) -∗ (Wt mm c 1 0) -∗ (Wt mm c 2 0) -∗ (Wt mm c 3 0) -∗ (Wt mm c 4 0) -∗ (Wt mm c 5 0) -∗ (Wt mm c 6 0) -∗ (Wt mm c 7 0) -∗ (Wt mm c 8 0) -∗ (Wt mm c 9 0) -∗ (Wt mm c 10 0) -∗ (Wt mm c 11 0) -∗ (Wt mm c 12 0) -∗ (Wt mm c 13 0) -∗ (Wt mm c 14 0) -∗ (Wt mm c 15 0) -∗ (Wt mm c 16 0) -∗ (Wt mm c 17 0) -∗ (Wt mm c 18 0) -∗ (Wt mm c 19 0) -∗ (Wt mm c 20 0) -∗ (Wt mm c 21 0) -∗ (Wt mm c 22 0) -∗ (Wt mm c 23 0) -∗ (Wt mm c 24 0) -∗ (Wt mm c 25 0) -∗ (Wt mm c 26 0) -∗ (Wt mm c 27 0) -∗ (cred (tallyAt (cell c 0) (lvl 0) 3)) -∗ (Cr (F := F) c 10) -∗ (Cr (F := F) c 11) -∗ (Cr (F := F) c 11) -∗ (Cr (F := F) c 12) -∗ (Cr (F := F) c 13) -∗ (Cr (F := F) c 13) -∗ (Cr (F := F) c 14) -∗ (Cr (F := F) c 15) -∗ (Cr (F := F) c 15) -∗ (Cr (F := F) c 16) -∗ (Cr (F := F) c 17) -∗ (Cr (F := F) c 18) -∗ (Cr (F := F) c 19) -∗ (Cr (F := F) c 20) -∗ (Cr (F := F) c 21) -∗ (Cr (F := F) c 22) -∗ (Cr (F := F) c 23) -∗ (Cr (F := F) c 24) -∗ (Cr (F := F) c 25) -∗ (Cr (F := F) c 26) -∗ (Cr (F := F) c 27) -∗ ((Owes (F := F) c 24) -∗ (ow c ac0 fullShare (s03 mm c)) -∗ (ow c ac1 fullShare (s13 mm c)) -∗ (ow c ac2 fullShare (s23 mm c)) -∗ (ow c ac3 fullShare (s33 mm c)) -∗ (ow c ac4 fullShare (s43 mm c)) -∗ (ow c ac5 fullShare (s53 mm c)) -∗ (ow c ac6 fullShare (s63 mm c)) -∗ (ow c ac7 fullShare (s73 mm c)) -∗ (ow c g2M fullShare X2) -∗ (ow c g3M fullShare X3) -∗ (semVal (cell c 0) 0) -∗ (ow c xfA fullShare (fun j => xv mm c (rXA.emb j))) -∗ (ow c xA fullShare (fun j => xv mm c (rXA.emb j))) -∗ (semVal ((c : Thread nD τ), SemLoc.dma lS0) 0) -∗ (ow c mA0 fullShare.left (XA mm (xo c 0))) -∗ (ow c xfB fullShare (fun j => xv mm c (rXB.emb j))) -∗ (ow c xB fullShare (fun j => xv mm c (rXB.emb j))) -∗ (semVal ((c : Thread nD τ), SemLoc.dma lS1) 0) -∗ (ow c mB0 fullShare.left (XB mm (xo c 0))) -∗ (ow c xfC fullShare (fun j => xv mm c (rXC.emb j))) -∗ (ow c xC fullShare (fun j => xv mm c (rXC.emb j))) -∗ (semVal ((c : Thread nD τ), SemLoc.dma lS2) 0) -∗ (ow c mC0 fullShare.left (XC mm (xo c 0))) -∗ (ow c wLo fullShare (fun j => wv mm c (rWLo.emb j))) -∗ (semVal ((c : Thread nD τ), SemLoc.dma lS3) 0) -∗ (ow c wfM fullShare (fun j => wv mm c (rWHi.emb j))) -∗ (ow c wHi fullShare (fun j => wv mm c (rWHi.emb j))) -∗ (semVal ((c : Thread nD τ), SemLoc.dma lS4) 0) -∗ (ow c w8M fullShare (Wc mm c)) -∗ (semVal (cell c 7) 0) -∗ (semVal (cell c 14) 0) -∗ (ow c mC1 fullShare.left (XC mm (xo c 4))) -∗ (semVal (cell c 1) 0) -∗ (semVal (cell c 10) 0) -∗ (ow c mA1 fullShare.left (XA mm (xo c 1))) -∗ (semVal (cell c 4) 0) -∗ (semVal (cell c 12) 0) -∗ (ow c mB1 fullShare.left (XB mm (xo c 3))) -∗ (semVal (cell c 8) 0) -∗ (semVal (cell c 15) 0) -∗ (ow c mC2 fullShare.left (XC mm (xo c 1))) -∗ (ow c mC3 fullShare.left (XC mm (xo c 5))) -∗ (semVal (cell c 2) 0) -∗ (semVal (cell c 11) 0) -∗ (ow c mA2 fullShare.left (XA mm (xo c 3))) -∗ (ow c mA3 fullShare.left (XA mm (xo c 2))) -∗ (semVal (cell c 5) 0) -∗ (semVal (cell c 13) 0) -∗ (ow c mB2 fullShare.left (XB mm (xo c 4))) -∗ (ow c mB3 fullShare.left (XB mm (xo c 7))) -∗ (ow c mC4 fullShare (XC mm (xo c 3))) -∗ (semVal (cell c 24) 0) -∗ (ow c mA4 fullShare (XA mm (xo c 4))) -∗ (semVal (cell c 16) 0) -∗ (ow c (ou0 c) fullShare (em (V27 X2 X3) (s03 mm c))) -∗ (ow c mB4 fullShare (XB mm (xo c 1))) -∗ (semVal (cell c 20) 0) -∗ (ow c (ou3 c) fullShare (em (V27 X2 X3) (s33 mm c))) -∗ (ow c mC5 fullShare (XC mm (xo c 7))) -∗ (semVal (cell c 25) 0) -∗ (ow c mA5 fullShare (XA mm (xo c 5))) -∗ (semVal (cell c 17) 0) -∗ (ow c mB5 fullShare (XB mm (xo c 2))) -∗ (semVal (cell c 21) 0) -∗ (ow c mC6 fullShare (XC mm (xo c 2))) -∗ (semVal (cell c 26) 0) -∗ (ow c (ou4 c) fullShare (em (V27 X2 X3) (s43 mm c))) -∗ (ow c mA6 fullShare (XA mm (xo c 7))) -∗ (semVal (cell c 18) 0) -∗ (ow c (ou1 c) fullShare (em (V27 X2 X3) (s13 mm c))) -∗ (ow c mB6 fullShare (XB mm (xo c 5))) -∗ (semVal (cell c 22) 0) -∗ (ow c (ou2 c) fullShare (em (V27 X2 X3) (s23 mm c))) -∗ (ow c mC0 fullShare.right (XC mm (xo c 0))) -∗ (ow c mC1 fullShare.right (XC mm (xo c 4))) -∗ (ow c mC2 fullShare.right (XC mm (xo c 1))) -∗ (ow c mC3 fullShare.right (XC mm (xo c 5))) -∗ (semVal (cell c 9) 0) -∗ (ow c mC7 fullShare (XC mm (xo c 6))) -∗ (semVal (cell c 27) 0) -∗ (ow c mA0 fullShare.right (XA mm (xo c 0))) -∗ (ow c mA1 fullShare.right (XA mm (xo c 1))) -∗ (ow c mA2 fullShare.right (XA mm (xo c 3))) -∗ (ow c mA3 fullShare.right (XA mm (xo c 2))) -∗ (semVal (cell c 3) 0) -∗ (ow c mA7 fullShare (XA mm (xo c 6))) -∗ (semVal (cell c 19) 0) -∗ (ow c mB0 fullShare.right (XB mm (xo c 0))) -∗ (ow c mB1 fullShare.right (XB mm (xo c 3))) -∗ (ow c mB2 fullShare.right (XB mm (xo c 4))) -∗ (ow c mB3 fullShare.right (XB mm (xo c 7))) -∗ (semVal (cell c 6) 0) -∗ (ow c mB7 fullShare (XB mm (xo c 6))) -∗ (semVal (cell c 23) 0) -∗ (ow c (ou7 c) fullShare (em (V27 X2 X3) (s73 mm c))) -∗ (ow c (ou5 c) fullShare (em (V27 X2 X3) (s53 mm c))) -∗ (ow c ob0 fullShare (em (V27 X2 X3) (s53 mm c))) -∗ (semVal ((c : Thread nD τ), SemLoc.dma oS0) 0) -∗ (ow c (ou6 c) fullShare (em (V27 X2 X3) (s63 mm c))) -∗ (ow c ob1 fullShare (em (V27 X2 X3) (s63 mm c))) -∗ (semVal ((c : Thread nD τ), SemLoc.dma oS1) 0) -∗ Q ⟨⟩) -∗ wpk c (cc0_body xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12) Q) := by
  iintro #HR HO xA xB xC xfA xfB xfC wLo wHi w8Lo w8Hi wf A0 B0 C0 Bd0 Bd1 Bd2 ac0 ac1 ac2 ac3 ac4 ac5 ac6 ac7 ob0 ob1 ou0 ou1 ou2 ou3 ou4 ou5 ou6 ou7 lv0 lv1 lv2 lv3 lv4 ov0 ov1 g2 g3 Tb0 Tb1 Tb2 Ts4 Tr4 Ts5 Tr5 Ts6 Tr6 Ts7 Tr7 Ts8 Tr8 Ts9 Tr9 Ts10 Tr10 Ts11 Tr11 Ts12 Tr12 Ts13 Tr13 Ts14 Tr14 Ts15 Tr15 Ts16 Tr16 Ts17 Tr17 Ts18 Tr18 Ts19 Tr19 Ts20 Tr20 Ts21 Tr21 Ts22 Tr22 Ts23 Tr23 Ts24 Tr24 W0 W1 W2 W3 W4 W5 W6 W7 W8 W9 W10 W11 W12 W13 W14 W15 W16 W17 W18 W19 W20 W21 W22 W23 W24 W25 W26 W27 CB C10_0 C11_0 C11_1 C12_0 C13_0 C13_1 C14_0 C15_0 C15_1 C16_0 C17_0 C18_0 C19_0 C20_0 C21_0 C22_0 C23_0 C24_0 C25_0 C26_0 C27_0 Hk
  simp only [cc0_body_eq_skeleton]; unfold cc0_body_skel
  simp only [Prog.lift, Prog.bind_op, Prog.bind_ret, Prog.pure_eq_ret]
  iapply (own_bind c)
  iapply (part1 mm K c ) $$ HR xA xfA lv0 xB xfB lv1 xC xfC lv2 Bd0 Tb0 HO Bd1 Tb1
  iintro %w1_0 HO FL0 FL1 FL2
  iapply (own_bind c)
  iapply (part2 mm K c _ _ _) $$ HR Bd2 Tb2 HO W0 CB g2 g3 FL0 A0 Ts4 Tr4 FL1
  iintro %w2_0 HO g2 g3 PB4 PB5 PB6 PB7 PC2 PC3 PA2 PA3 PB1 PC4 PC5 PC6 PC7 PA4 PA5 PA6 PA7 PB2 PB3 PC1 V0 xfA xA lv0 A0L C1_0 xfB xB lv1
  iapply (own_bind c)
  iapply (part3 mm K c _) $$ HR xfB B0 PB1 Ts5 Tr5 HO FL2 C0
  iintro %w3_0 %w3_1 %w3_2 %w3_3 HO xfB B0L C4_0 xfC xC lv2 C0L C0R
  iapply (own_bind c)
  iapply (part4 mm K c _ _) $$ HR C0R PC1 Ts6 Tr6 HO wLo wf lv3 w8Lo A0L ac0 wHi lv4
  iintro HO w8Lo ac0 A0L C7_0 wLo lv3 FL4
  iapply (own_bind c)
  iapply (part5 mm K c _ _) $$ HR FL4 HO w8Hi w8Lo B0L ac0 C0L
  iintro %w5_0 HO ac0 B0L C0L wf wHi lv4 w8
  iapply (own_bind c)
  iapply (part6 mm K c _ _ _ _) $$ HR ob0 ou0 ov0 W7 HO C7_0 W14 C14_0
  iintro %w6_0 %w6_1 %w6_2 HO FO0 C0R V7 V14 C1L C1R
  iapply (own_bind c)
  iapply (part7 mm K c _ _ _ _) $$ HR C0R PC2 Ts7 Tr7 HO C1R PC3 Ts8 Tr8 W1 C1_0
  iintro %w7_0 HO C8_0 C8_1 A0R V1
  iapply (own_bind c)
  iapply (part8 mm K c _) $$ HR W10 HO C10_0 A0R PA2 Ts9 Tr9 PA3 Ts10 Tr10 W4 C4_0
  iintro %w8_0 %w8_1 HO V10 A1L C2_0 C2_1 B0R V4
  iapply (own_bind c)
  iapply (part9 mm K c _ _) $$ HR W12 HO C12_0 B0R PB2 Ts11 Tr11 PB3 Ts12 Tr12
  iintro %w9_0 %w9_1 HO V12 B1L C5_0 C5_1
  iapply (own_bind c)
  iapply (part10 mm K c ) $$ HR A1L w8 ac1 B1L ac3 C1L ac4 W8 HO C8_0
  iintro %w10_0 HO ac1 ac3 ac4 W8 w8 C1L A1L B1L
  iapply (own_bind c)
  iapply (part11 mm K c _ _ _ _) $$ HR W15 HO C15_0 W8 C8_1 C15_1
  iintro %w11_0 HO C0R C1R V8 V15 C2L C2R C3L C3R
  iapply (own_bind c)
  iapply (part12 mm K c _) $$ HR C0R PC4 Ts13 Tr13 HO C1R PC5 Ts14 Tr14 C2R PC6 Ts15 Tr15
  iintro %w12_0 %w12_1 %w12_2 HO C9_0 C9_1 C9_2
  iapply (own_bind c)
  iapply (part13 mm K c _ _) $$ HR C3R PC7 Ts16 Tr16 HO W2 C2_0 W11 C11_0 C2_1
  iintro HO W11 C9_3 A0R A1R V2
  iapply (own_bind c)
  iapply (part14 mm K c _) $$ HR W11 HO C11_1 A0R PA4 Ts17 Tr17 A1R PA5 Ts18 Tr18
  iintro %w14_0 %w14_1 %w14_2 %w14_3 %w14_4 HO V11 A2L A2R A3L A3R C3_0 C3_1
  iapply (own_bind c)
  iapply (part15 mm K c _ _ _ _) $$ HR A2R PA6 Ts19 Tr19 HO A3R PA7 Ts20 Tr20 W5 C5_0
  iintro %w15_0 HO W5 C3_2 C3_3
  iapply (own_bind c)
  iapply (part16 mm K c _ _) $$ HR W13 HO C13_0 W5 C5_1 C13_1 PB4 Ts21 Tr21
  iintro %w16_0 %w16_1 HO B1R V5 V13 B2L B2R B3L B3R C6_0
  iapply (own_bind c)
  iapply (part17 mm K c _ _) $$ HR B1R PB5 Ts22 Tr22 HO B2R PB6 Ts23 Tr23 B3R PB7 Ts24 Tr24
  iintro %w17_0 %w17_1 HO C6_1 C6_2 C6_3
  iapply (own_bind c)
  iapply (part18 mm K c _) $$ HR A2L w8 ac3 A3L ac2 B2L ac4 B3L ac7
  iintro ac2 ac3 ac4 ac7 w8 A2L A3L B2L B3L
  iapply (own_bind c)
  iapply (part19 mm K c _ _) $$ HR ac7 C2L w8 ac1 C3L ac5 W9 HO C9_0
  iintro HO ac1 ac5 ac7 W9 w8 C2L C3L
  iapply (own_bind c)
  iapply (part20 mm K c _ _) $$ HR W24 HO C24_0 w8 ac3 ob1 ou3 ov1
  iintro HO ac3 w8 C4 V24 FO1
  iapply (own_bind c)
  iapply (part21 mm K c _ _ _) $$ HR W3 HO C3_0 W16 C16_0 w8 ac4
  iintro HO ac4 W3 w8 A4 V16
  iapply (own_bind c)
  iapply (part22 mm K c _ _) $$ HR FO0 HO ou4 W6 C6_0 W20 C20_0
  iintro HO W6 ou0 FO0 B4 V20
  iapply (own_bind c)
  iapply (part23 mm K c _ _) $$ HR w8 ac1 FO1 HO ou1
  iintro HO ac1 w8 ou3 FO1
  iapply (own_bind c)
  iapply (part24 mm K c _) $$ HR W9 HO C9_1 W25 C25_0 w8 ac7 W3 C3_1
  iintro HO ac7 W3 W9 w8 C5 V25
  iapply (own_bind c)
  iapply (part25 mm K c _ _) $$ HR W17 HO C17_0 w8 ac5 W6 C6_1
  iintro HO ac5 W6 w8 A5 V17
  iapply (own_bind c)
  iapply (part26 mm K c _) $$ HR W21 HO C21_0 w8 ac2 W9 C9_2 W26 C26_0
  iintro HO ac2 W9 w8 B5 V21 C6 V26
  iapply (own_bind c)
  iapply (part27 mm K c _ _) $$ HR ac2 FO0 HO ou2
  iintro HO ac2 ou4 FO0
  iapply (own_bind c)
  iapply (part28 mm K c _ _ _) $$ HR W3 HO C3_2 W18 C18_0 w8 ac7
  iintro HO ac7 W3 w8 A6 V18
  iapply (own_bind c)
  iapply (part29 mm K c _ _) $$ HR FO1 HO ou7 W6 C6_2 W22 C22_0
  iintro HO W6 ou1 FO1 B6 V22
  iapply (own_bind c)
  iapply (part30 mm K c _ _) $$ HR w8 ac5 FO0 HO ou5
  iintro HO ac5 w8 ou2 FO0
  iapply (own_bind c)
  iapply (part31 mm K c _) $$ HR W9 HO C9_3 W27 C27_0 w8 ac6 W3 C3_3
  iintro %w31_0 HO ac6 w8 C0R C1R C2R C3R V9 C7 V27 A0R A1R A2R A3R V3
  iapply (own_bind c)
  iapply (part32 mm K c _ _ _) $$ HR W19 HO C19_0 w8 ac6 W6 C6_3
  iintro HO ac6 w8 A7 V19 B0R B1R B2R B3R V6
  iapply (own_bind c)
  iapply (part33 mm K c _ _) $$ HR W23 HO C23_0 w8 ac6 FO1
  iintro HO ac6 w8 B7 V23 ou7 ob1 ov1
  icases ou6 with ⟨%Y_ou6, ou6⟩
  iapply (own_copyM c (src := ob1) (dst := (ou6 c)) (sm := oS1) (by decide)) $$ ob1 ou6 ov1
  iintro FO1
  iapply (own_waitM mm K c (ou5 c) (by exact rfl)) $$ HR FO0 HO
  iintro HD ov0 HO
  icases HD with ⟨ou5, ob0⟩
  iapply (own_waitM mm K c (ou6 c) (by exact rfl)) $$ HR FO1 HO
  iintro HD ov1 HO
  icases HD with ⟨ou6, ob1⟩
  iapply (own_ret c)
  iapply Hk $$ HO ac0 ac1 ac2 ac3 ac4 ac5 ac6 ac7 g2 g3 V0 xfA xA lv0 A0L xfB xB lv1 B0L xfC xC lv2 C0L wLo lv3 wf wHi lv4 w8 V7 V14 C1L V1 V10 A1L V4 V12 B1L V8 V15 C2L C3L V2 V11 A2L A3L V5 V13 B2L B3L C4 V24 A4 V16 ou0 B4 V20 ou3 C5 V25 A5 V17 B5 V21 C6 V26 ou4 A6 V18 ou1 B6 V22 ou2 C0R C1R C2R C3R V9 C7 V27 A0R A1R A2R A3R V3 A7 V19 B0R B1R B2R B3R V6 B7 V23 ou7 ou5 ob0 ov0 ou6 ob1 ov1

end Body

end Cert.KProof

end
-- ==== Proof.Pieces.lean ====
module

public import proofs.«01_k».proof.Proof.Body
public import Idealize.ShloMosaic.Lib.Pipeline.Value

/-! The buffers and arrays of a device cut into the pieces the kernel works on, and put together again. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## Cutting and joining in general -/

section General
variable {c : Dev nD} {sp : Space} {s : Shape} {e : EltTy} {ι : Type} [Fintype ι] [DecidableEq ι] (M : Memref sig .tc sp s e) (r : ι → Rect s)
  (hr : ∀ t a, (r t).stride a = 1) (hd : ∀ t t', t ≠ t' → Disjoint (r t).set (r t').set)
  (hcov : (Finset.univ : Finset ι).biUnion (fun t => (r t).set) = Finset.univ)

include hd in
theorem exists_parts (v : (t : ι) → (r t).shape.Idx → Elt F e) : ∃ X : s.Idx → Elt F e, ∀ t j, X ((r t).emb j) = v t j := by
  classical
  have hinj : Function.Injective (fun p : Σ t, (r t).shape.Idx => (r p.1).emb p.2) := by
    rintro ⟨t, j⟩ ⟨t', j'⟩ h
    have h' : (r t).emb j = (r t').emb j' := h
    have ht : t = t' := by
      by_contra hne
      have h1 : (r t).emb j ∈ (r t).set := (r t).toLoadRect.idx_mem j
      have h2 : (r t).emb j ∈ (r t').set := by rw [h']; exact (r t').toLoadRect.idx_mem j'
      exact Finset.disjoint_left.mp (hd t t' hne) h1 h2
    subst ht
    rw [(r t).emb.injective h']
  exact ⟨Function.extend (fun p : Σ t, (r t).shape.Idx => (r p.1).emb p.2) (fun p => v p.1 p.2) (fun _ => Classical.choice inferInstance),
    fun t j => hinj.extend_apply (fun p : Σ t, (r t).shape.Idx => v p.1 p.2) _ ⟨t, j⟩⟩

include hd hcov in
/-- The slices of a disjoint covering family at given contents are the whole at contents that restrict to them. -/
theorem join_parts (v : (t : ι) → (r t).shape.Idx → Elt F e) :
    bigSep Finset.univ (fun t => ow c (M.slice (r t) (hr t)) fullShare (v t))
      ⊢ (iprop(∃ X : s.Idx → Elt F e, ⌜∀ t j, X ((r t).emb j) = v t j⌝ ∗ ow c M fullShare X) : sProp 𝕄) := by
  obtain ⟨X, hX⟩ := exists_parts r hd v
  iintro H
  iexists X
  isplitr
  · ipureintro; exact hX
  · iapply (owns_of_rects (Val := Elt F) (Ix := ℕ) (Name := ℕ) (U := UU) (Lvl := ℕ) (c : Thread nD τ) M fullShare r hr hd hcov X)
    iapply (show bigSep Finset.univ (fun t => ow c (M.slice (r t) (hr t)) fullShare (v t)) ⊢ (bigSep Finset.univ (fun t => ow c (M.slice (r t) (hr t)) fullShare (fun j => X ((r t).emb j))) : sProp 𝕄) from
      Entails.of_eq (bigSep_congr fun t _ => by rw [show (fun j => X ((r t).emb j)) = v t from funext (hX t)]))
    iexact H

include hd hcov in
/-- The slices at any contents are the whole at some contents. -/
theorem join_any : bigSep Finset.univ (fun t => iprop(∃ Y, ow (F := F) c (M.slice (r t) (hr t)) fullShare Y))
      ⊢ (iprop(∃ X, ow (F := F) c M fullShare X) : sProp 𝕄) := by
  iintro H
  ihave H' := (BI.bigSep_exists_pi Finset.univ (fun (t : ι) (Y : (r t).shape.Idx → Elt F e) => (ow c (M.slice (r t) (hr t)) fullShare Y : sProp 𝕄))) $$ H
  icases H' with ⟨%v, H⟩
  ihave H2 := (join_parts M r hr hd hcov v) $$ H
  icases H2 with ⟨%X, -, H⟩
  iexists X
  iexact H

include hd hcov in
/-- The whole at some contents is each slice at some contents. -/
theorem split_any : (iprop(∃ X, ow (F := F) c M fullShare X) : sProp 𝕄)
      ⊢ bigSep Finset.univ (fun t => iprop(∃ Y, ow (F := F) c (M.slice (r t) (hr t)) fullShare Y)) := by
  iintro ⟨%X, H⟩
  ihave H := (owns_rects (Val := Elt F) (Ix := ℕ) (Name := ℕ) (U := UU) (Lvl := ℕ) (c : Thread nD τ) M fullShare r hr hd hcov X) $$ H
  iapply (show bigSep Finset.univ (fun t => ow c (M.slice (r t) (hr t)) fullShare (fun j => X ((r t).emb j)))
      ⊢ (bigSep Finset.univ (fun t => iprop(∃ Y, ow (F := F) c (M.slice (r t) (hr t)) fullShare Y)) : sProp 𝕄) from
    bigSep_mono fun t _ => show (ow c (M.slice (r t) (hr t)) fullShare (fun j => X ((r t).emb j)) : sProp 𝕄) ⊢ iprop(∃ Y, ow (F := F) c (M.slice (r t) (hr t)) fullShare Y) from by
      iintro H
      iexists (fun j => X ((r t).emb j))
      iexact H)
  iexact H

omit [Fintype ι] [DecidableEq ι] in
/-- A whole buffer owned is the buffer's points-to. -/
theorem own_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [Fintype ι] [DecidableEq ι] in
theorem whole_in (c : Dev nD) (b : Ref sig .tc) (X : b.ty.Contents (Elt F)) :
    (((c : Thread nD τ).loc b) ↦{fullShare} X) ⊢ (owns (Ix := ℕ) (Name := ℕ) (U := UU) (Lvl := ℕ) (c : Thread nD τ) (Memref.whole b) fullShare X : sProp 𝕄) := by
  rw [own_whole]
  iintro H
  iexists X
  isplitr
  · ipureintro; rfl
  · iexact H
omit [Fintype ι] [DecidableEq ι] in
theorem whole_out (c : Dev nD) (b : Ref sig .tc) (X : b.ty.Contents (Elt F)) :
    (owns (Ix := ℕ) (Name := ℕ) (U := UU) (Lvl := ℕ) (c : Thread nD τ) (Memref.whole b) fullShare X : sProp 𝕄) ⊢ (((c : Thread nD τ).loc b) ↦{fullShare} X) := by
  rw [own_whole]
  iintro ⟨%f, %hf, H⟩
  subst hf
  iexact H

omit [Fintype ι] [DecidableEq ι] in
/-- Dropping a leading axis of extent one changes nothing of who owns a slice at some contents. -/
theorem squeeze_any {s' : Shape} {hq : s.Squeezes s'} : (iprop(∃ Y, ow (F := F) c M fullShare Y) : sProp 𝕄) ⊢ iprop(∃ Y, ow (F := F) c (M.squeeze s' hq) fullShare Y) := by
  unfold ow owns
  iintro ⟨%Y, %g, -, H⟩
  iexists _
  iexists g
  isplitr
  · ipureintro; rfl
  · iapply (show (M.view.loc (c : Thread nD τ) ↦[M.view.set]{fullShare} g : sProp 𝕄) ⊢ ((M.squeeze s' hq).view.loc (c : Thread nD τ) ↦[(M.squeeze s' hq).view.set]{fullShare} g)
      from Entails.of_eq (congrArg (fun S => (M.view.loc (c : Thread nD τ) ↦[S]{fullShare} g : sProp 𝕄)) (View.set_reshape _ _).symm))
    iexact H
omit [Fintype ι] [DecidableEq ι] in
theorem unsqueeze_any {s' : Shape} {hq : s.Squeezes s'} : (iprop(∃ Y, ow (F := F) c (M.squeeze s' hq) fullShare Y) : sProp 𝕄) ⊢ iprop(∃ Y, ow (F := F) c M fullShare Y) := by
  unfold ow owns
  iintro ⟨%Y, %g, -, H⟩
  iexists _
  iexists g
  isplitr
  · ipureintro; rfl
  · iapply (show ((M.squeeze s' hq).view.loc (c : Thread nD τ) ↦[(M.squeeze s' hq).view.set]{fullShare} g : sProp 𝕄) ⊢ (M.view.loc (c : Thread nD τ) ↦[M.view.set]{fullShare} g)
      from Entails.of_eq (congrArg (fun S => (M.view.loc (c : Thread nD τ) ↦[S]{fullShare} g : sProp 𝕄)) (View.set_reshape _ _)))
    iexact H

end General

/-! ## The families of rectangles -/

theorem mem_rows_of {N M o h : ℕ} {f : Fin 2 → ℕ} (hf : f = ![o, 0]) {inb : ∀ a, f a + (![h, M] : Fin 2 → ℕ) a ≤ (⟨2, ![N, M]⟩ : Shape).size a} {i : (⟨2, ![N, M]⟩ : Shape).Idx} :
    i ∈ (Rect.unit (s := ⟨2, ![N, M]⟩) f ![h, M] inb).set ↔ o ≤ (i 0).val ∧ (i 0).val < o + h := by
  subst hf; exact mem_rows

/-- The eight slots of a communication buffer of 1408 columns. -/
def rA8 : Fin 8 → Rect S4096x1408
  | 0 => rA0
  | 1 => rA1
  | 2 => rA2
  | 3 => rA3
  | 4 => rA4
  | 5 => rA5
  | 6 => rA6
  | 7 => rA7
theorem rA8_unit : ∀ t a, (rA8 t).stride a = 1
  | 0, _ => rfl
  | 1, _ => rfl
  | 2, _ => rfl
  | 3, _ => rfl
  | 4, _ => rfl
  | 5, _ => rfl
  | 6, _ => rfl
  | 7, _ => rfl
theorem rA8_mem (t : Fin 8) (i : S4096x1408.Idx) : i ∈ (rA8 t).set ↔ 512 * t.val ≤ (i 0).val ∧ (i 0).val < 512 * t.val + 512 := by
  match t with
  | 0 => exact mem_rows (inb := inb_S4096x1408_S512x1408_0_0)
  | 1 => exact mem_rows (inb := inb_S4096x1408_S512x1408_512_0)
  | 2 => exact mem_rows (inb := inb_S4096x1408_S512x1408_1024_0)
  | 3 => exact mem_rows (inb := inb_S4096x1408_S512x1408_1536_0)
  | 4 => exact mem_rows (inb := inb_S4096x1408_S512x1408_2048_0)
  | 5 => exact mem_rows (inb := inb_S4096x1408_S512x1408_2560_0)
  | 6 => exact mem_rows (inb := inb_S4096x1408_S512x1408_3072_0)
  | 7 => exact mem_rows (inb := inb_S4096x1408_S512x1408_3584_0)
theorem rA8_disj (t t' : Fin 8) (h : t ≠ t') : Disjoint (rA8 t).set (rA8 t').set := by
  rw [Finset.disjoint_left]; intro i h₁ h₂
  rw [rA8_mem] at h₁ h₂
  exact h (Fin.ext (by omega))
theorem rA8_cover : (Finset.univ : Finset (Fin 8)).biUnion (fun t => (rA8 t).set) = Finset.univ := by
  ext i
  simp only [Finset.mem_biUnion, Finset.mem_univ, true_and, iff_true]
  have h0 : (i 0).val < 4096 := (i 0).isLt
  exact ⟨⟨(i 0).val / 512, by omega⟩, (rA8_mem _ i).mpr (by simp only; omega)⟩

/-- The eight slots of the communication buffer of 1280 columns. -/
def rC8 : Fin 8 → Rect S4096x1280
  | 0 => rC0
  | 1 => rC1
  | 2 => rC2
  | 3 => rC3
  | 4 => rC4
  | 5 => rC5
  | 6 => rC6
  | 7 => rC7
theorem rC8_unit : ∀ t a, (rC8 t).stride a = 1
  | 0, _ => rfl
  | 1, _ => rfl
  | 2, _ => rfl
  | 3, _ => rfl
  | 4, _ => rfl
  | 5, _ => rfl
  | 6, _ => rfl
  | 7, _ => rfl
theorem rC8_mem (t : Fin 8) (i : S4096x1280.Idx) : i ∈ (rC8 t).set ↔ 512 * t.val ≤ (i 0).val ∧ (i 0).val < 512 * t.val + 512 := by
  match t with
  | 0 => exact mem_rows (inb := inb_S4096x1280_S512x1280_0_0)
  | 1 => exact mem_rows (inb := inb_S4096x1280_S512x1280_512_0)
  | 2 => exact mem_rows (inb := inb_S4096x1280_S512x1280_1024_0)
  | 3 => exact mem_rows (inb := inb_S4096x1280_S512x1280_1536_0)
  | 4 => exact mem_rows (inb := inb_S4096x1280_S512x1280_2048_0)
  | 5 => exact mem_rows (inb := inb_S4096x1280_S512x1280_2560_0)
  | 6 => exact mem_rows (inb := inb_S4096x1280_S512x1280_3072_0)
  | 7 => exact mem_rows (inb := inb_S4096x1280_S512x1280_3584_0)
theorem rC8_disj (t t' : Fin 8) (h : t ≠ t') : Disjoint (rC8 t).set (rC8 t').set := by
  rw [Finset.disjoint_left]; intro i h₁ h₂
  rw [rC8_mem] at h₁ h₂
  exact h (Fin.ext (by omega))
theorem rC8_cover : (Finset.univ : Finset (Fin 8)).biUnion (fun t => (rC8 t).set) = Finset.univ := by
  ext i
  simp only [Finset.mem_biUnion, Finset.mem_univ, true_and, iff_true]
  have h0 : (i 0).val < 4096 := (i 0).isLt
  exact ⟨⟨(i 0).val / 512, by omega⟩, (rC8_mem _ i).mpr (by simp only; omega)⟩

/-- The eight blocks of rows of the accumulator. -/
def rac8 : Fin 8 → Rect S4096x1024
  | 0 => rac0
  | 1 => rac1
  | 2 => rac2
  | 3 => rac3
  | 4 => rac4
  | 5 => rac5
  | 6 => rac6
  | 7 => rac7
theorem rac8_unit : ∀ t a, (rac8 t).stride a = 1
  | 0, _ => rfl
  | 1, _ => rfl
  | 2, _ => rfl
  | 3, _ => rfl
  | 4, _ => rfl
  | 5, _ => rfl
  | 6, _ => rfl
  | 7, _ => rfl
theorem rac8_mem (t : Fin 8) (i : S4096x1024.Idx) : i ∈ (rac8 t).set ↔ 512 * t.val ≤ (i 0).val ∧ (i 0).val < 512 * t.val + 512 := by
  match t with
  | 0 => exact mem_rows (inb := inb_S4096x1024_S512x1024_0_0)
  | 1 => exact mem_rows (inb := inb_S4096x1024_S512x1024_512_0)
  | 2 => exact mem_rows (inb := inb_S4096x1024_S512x1024_1024_0)
  | 3 => exact mem_rows (inb := inb_S4096x1024_S512x1024_1536_0)
  | 4 => exact mem_rows (inb := inb_S4096x1024_S512x1024_2048_0)
  | 5 => exact mem_rows (inb := inb_S4096x1024_S512x1024_2560_0)
  | 6 => exact mem_rows (inb := inb_S4096x1024_S512x1024_3072_0)
  | 7 => exact mem_rows (inb := inb_S4096x1024_S512x1024_3584_0)
theorem rac8_disj (t t' : Fin 8) (h : t ≠ t') : Disjoint (rac8 t).set (rac8 t').set := by
  rw [Finset.disjoint_left]; intro i h₁ h₂
  rw [rac8_mem] at h₁ h₂
  exact h (Fin.ext (by omega))
theorem rac8_cover : (Finset.univ : Finset (Fin 8)).biUnion (fun t => (rac8 t).set) = Finset.univ := by
  ext i
  simp only [Finset.mem_biUnion, Finset.mem_univ, true_and, iff_true]
  have h0 : (i 0).val < 4096 := (i 0).isLt
  exact ⟨⟨(i 0).val / 512, by omega⟩, (rac8_mem _ i).mpr (by simp only; omega)⟩

/-- The three stripes of the left matrix. -/
def rX3 : Fin 3 → Rect S512x4096
  | 0 => rXA
  | 1 => rXB
  | 2 => rXC
theorem rX3_unit : ∀ t a, (rX3 t).stride a = 1
  | 0, _ => rfl
  | 1, _ => rfl
  | 2, _ => rfl
theorem rX3_mem (t : Fin 3) (i : S512x4096.Idx) : i ∈ (rX3 t).set ↔ 1408 * t.val ≤ (i 1).val ∧ (i 1).val < min (1408 * t.val + 1408) 4096 := by
  match t with
  | 0 => exact mem_cols (inb := inb_S512x4096_S512x1408_0_0)
  | 1 => exact mem_cols (inb := inb_S512x4096_S512x1408_0_1408)
  | 2 => exact mem_cols (inb := inb_S512x4096_S512x1280_0_2816)
theorem rX3_disj (t t' : Fin 3) (h : t ≠ t') : Disjoint (rX3 t).set (rX3 t').set := by
  rw [Finset.disjoint_left]; intro i h₁ h₂
  rw [rX3_mem] at h₁ h₂
  exact h (Fin.ext (by omega))
theorem rX3_cover : (Finset.univ : Finset (Fin 3)).biUnion (fun t => (rX3 t).set) = Finset.univ := by
  ext i
  simp only [Finset.mem_biUnion, Finset.mem_univ, true_and, iff_true]
  have h0 : (i 1).val < 4096 := (i 1).isLt
  exact ⟨⟨(i 1).val / 1408, by omega⟩, (rX3_mem _ i).mpr (by simp only; omega)⟩

/-- The two halves of the buffer the results leave from. -/
def rob2 : Fin 2 → Rect S2x512x1024
  | 0 => rob0
  | 1 => rob1
theorem rob2_unit : ∀ t a, (rob2 t).stride a = 1
  | 0, _ => rfl
  | 1, _ => rfl
theorem rob2_mem (t : Fin 2) (i : S2x512x1024.Idx) : i ∈ (rob2 t).set ↔ (i 0).val = t.val := by
  have h0 : (i 0).val < 2 := (i 0).isLt
  have h1 : (i 1).val < 512 := (i 1).isLt
  have h2 : (i 2).val < 1024 := (i 2).isLt
  match t with
  | 0 =>
    show i ∈ rob0.set ↔ (i 0).val = 0
    rw [show rob0.set = (Rect.unit (s := S2x512x1024) ![0, 0, 0] S1x512x1024.size inb_S2x512x1024_S1x512x1024_0_0_0).set from rfl, Rect.mem_set_unit]
    constructor
    · intro H; have h := (H 0).2; change (i 0).val < 0 + 1 at h; omega
    · intro H a
      fin_cases a
      · change 0 ≤ (i 0).val ∧ (i 0).val < 0 + 1; omega
      · change 0 ≤ (i 1).val ∧ (i 1).val < 0 + 512; omega
      · change 0 ≤ (i 2).val ∧ (i 2).val < 0 + 1024; omega
  | 1 =>
    show i ∈ rob1.set ↔ (i 0).val = 1
    rw [show rob1.set = (Rect.unit (s := S2x512x1024) ![1, 0, 0] S1x512x1024.size inb_S2x512x1024_S1x512x1024_1_0_0).set from rfl, Rect.mem_set_unit]
    constructor
    · intro H; have h := (H 0).1; change 1 ≤ (i 0).val at h; omega
    · intro H a
      fin_cases a
      · change 1 ≤ (i 0).val ∧ (i 0).val < 1 + 1; omega
      · change 0 ≤ (i 1).val ∧ (i 1).val < 0 + 512; omega
      · change 0 ≤ (i 2).val ∧ (i 2).val < 0 + 1024; omega
theorem rob2_disj (t t' : Fin 2) (h : t ≠ t') : Disjoint (rob2 t).set (rob2 t').set := by
  rw [Finset.disjoint_left]; intro i h₁ h₂
  rw [rob2_mem] at h₁ h₂
  exact h (Fin.ext (by omega))
theorem rob2_cover : (Finset.univ : Finset (Fin 2)).biUnion (fun t => (rob2 t).set) = Finset.univ := by
  ext i
  simp only [Finset.mem_biUnion, Finset.mem_univ, true_and, iff_true]
  exact ⟨⟨(i 0).val, (i 0).isLt⟩, (rob2_mem _ i).mpr rfl⟩

/-- The eight blocks of rows of the result, as device `c` writes them. -/
def rou8 (c : Dev nD) : Fin 8 → Rect S4096x1024
  | 0 => Rect.unit (s := S4096x1024) (k0_off1 c 0#32) S512x1024.size (k0_off1_inb c 0)
  | 1 => Rect.unit (s := S4096x1024) (k0_off1 c 1#32) S512x1024.size (k0_off1_inb c 1)
  | 2 => Rect.unit (s := S4096x1024) (k0_off1 c 2#32) S512x1024.size (k0_off1_inb c 2)
  | 3 => Rect.unit (s := S4096x1024) (k0_off1 c 3#32) S512x1024.size (k0_off1_inb c 3)
  | 4 => Rect.unit (s := S4096x1024) (k0_off1 c 4#32) S512x1024.size (k0_off1_inb c 4)
  | 5 => Rect.unit (s := S4096x1024) (k0_off1 c 5#32) S512x1024.size (k0_off1_inb c 5)
  | 6 => Rect.unit (s := S4096x1024) (k0_off1 c 6#32) S512x1024.size (k0_off1_inb c 6)
  | 7 => Rect.unit (s := S4096x1024) (k0_off1 c 7#32) S512x1024.size (k0_off1_inb c 7)
theorem rou8_unit (c : Dev nD) : ∀ t a, (rou8 c t).stride a = 1
  | 0, _ => rfl
  | 1, _ => rfl
  | 2, _ => rfl
  | 3, _ => rfl
  | 4, _ => rfl
  | 5, _ => rfl
  | 6, _ => rfl
  | 7, _ => rfl
theorem out_off0 (c : Dev nD) : k0_off1 c 0#32 = ![512 * (xo c 0).val, 0] := by revert c; decide +kernel
theorem out_off1 (c : Dev nD) : k0_off1 c 1#32 = ![512 * (xo c 1).val, 0] := by revert c; decide +kernel
theorem out_off2 (c : Dev nD) : k0_off1 c 2#32 = ![512 * (xo c 2).val, 0] := by revert c; decide +kernel
theorem out_off3 (c : Dev nD) : k0_off1 c 3#32 = ![512 * (xo c 3).val, 0] := by revert c; decide +kernel
theorem out_off4 (c : Dev nD) : k0_off1 c 4#32 = ![512 * (xo c 4).val, 0] := by revert c; decide +kernel
theorem out_off5 (c : Dev nD) : k0_off1 c 5#32 = ![512 * (xo c 5).val, 0] := by revert c; decide +kernel
theorem out_off6 (c : Dev nD) : k0_off1 c 6#32 = ![512 * (xo c 6).val, 0] := by revert c; decide +kernel
theorem out_off7 (c : Dev nD) : k0_off1 c 7#32 = ![512 * (xo c 7).val, 0] := by revert c; decide +kernel
theorem rou8_mem (c : Dev nD) (t : Fin 8) (i : S4096x1024.Idx) : i ∈ (rou8 c t).set ↔ 512 * (xo c t.val).val ≤ (i 0).val ∧ (i 0).val < 512 * (xo c t.val).val + 512 := by
  match t with
  | 0 => exact mem_rows_of (out_off0 c) (inb := k0_off1_inb c 0)
  | 1 => exact mem_rows_of (out_off1 c) (inb := k0_off1_inb c 1)
  | 2 => exact mem_rows_of (out_off2 c) (inb := k0_off1_inb c 2)
  | 3 => exact mem_rows_of (out_off3 c) (inb := k0_off1_inb c 3)
  | 4 => exact mem_rows_of (out_off4 c) (inb := k0_off1_inb c 4)
  | 5 => exact mem_rows_of (out_off5 c) (inb := k0_off1_inb c 5)
  | 6 => exact mem_rows_of (out_off6 c) (inb := k0_off1_inb c 6)
  | 7 => exact mem_rows_of (out_off7 c) (inb := k0_off1_inb c 7)
theorem xo_inj (c : Dev nD) : ∀ t t' : Fin 8, (xo c t.val).val = (xo c t'.val).val → t = t' := by revert c; decide +kernel
theorem xo_self (c d : Dev nD) : xo c (xo c d.val).val = d := by revert c d; decide +kernel
theorem rou8_disj (c : Dev nD) (t t' : Fin 8) (h : t ≠ t') : Disjoint (rou8 c t).set (rou8 c t').set := by
  rw [Finset.disjoint_left]; intro i h₁ h₂
  rw [rou8_mem] at h₁ h₂
  exact h (xo_inj c t t' (by omega))
theorem rou8_cover (c : Dev nD) : (Finset.univ : Finset (Fin 8)).biUnion (fun t => (rou8 c t).set) = Finset.univ := by
  ext i
  simp only [Finset.mem_biUnion, Finset.mem_univ, true_and, iff_true]
  have h0 : (i 0).val < 4096 := (i 0).isLt
  let d : Dev nD := ⟨(i 0).val / 512, by show _ < 8; omega⟩
  refine ⟨⟨(xo c d.val).val, (xo c d.val).isLt⟩, (rou8_mem c _ i).mpr ?_⟩
  show 512 * (xo c (xo c d.val).val).val ≤ (i 0).val ∧ (i 0).val < 512 * (xo c (xo c d.val).val).val + 512
  rw [xo_self]
  show 512 * ((i 0).val / 512) ≤ (i 0).val ∧ (i 0).val < 512 * ((i 0).val / 512) + 512
  omega

/-! ## The kernel's buffers -/

section Buffers
variable (mm : (ℓ : Loc nD τ sig) → Buf (Elt F) ℓ) (c : Dev nD)

theorem split_A : (iprop(∃ X, ow (F := F) c cA fullShare X) : sProp 𝕄) ⊢ iprop((∃ Y, ow (F := F) c mA0 fullShare Y) ∗ (∃ Y, ow (F := F) c mA1 fullShare Y) ∗ (∃ Y, ow (F := F) c mA2 fullShare Y) ∗ (∃ Y, ow (F := F) c mA3 fullShare Y) ∗ (∃ Y, ow (F := F) c mA4 fullShare Y) ∗ (∃ Y, ow (F := F) c mA5 fullShare Y) ∗ (∃ Y, ow (F := F) c mA6 fullShare Y) ∗ (∃ Y, ow (F := F) c mA7 fullShare Y)) := by
  have H := split_any (F := F) (c := c) cA rA8 rA8_unit rA8_disj rA8_cover
  rw [bigSep_univ_eq_bigSepL [0, 1, 2, 3, 4, 5, 6, 7] (by decide) (by decide)] at H
  exact H
theorem join_A : iprop((∃ Y, ow (F := F) c mA0 fullShare Y) ∗ (∃ Y, ow (F := F) c mA1 fullShare Y) ∗ (∃ Y, ow (F := F) c mA2 fullShare Y) ∗ (∃ Y, ow (F := F) c mA3 fullShare Y) ∗ (∃ Y, ow (F := F) c mA4 fullShare Y) ∗ (∃ Y, ow (F := F) c mA5 fullShare Y) ∗ (∃ Y, ow (F := F) c mA6 fullShare Y) ∗ (∃ Y, ow (F := F) c mA7 fullShare Y)) ⊢ (iprop(∃ X, ow (F := F) c cA fullShare X) : sProp 𝕄) := by
  have H := join_any (F := F) (c := c) cA rA8 rA8_unit rA8_disj rA8_cover
  rw [bigSep_univ_eq_bigSepL [0, 1, 2, 3, 4, 5, 6, 7] (by decide) (by decide)] at H
  exact H

theorem split_B : (iprop(∃ X, ow (F := F) c cB fullShare X) : sProp 𝕄) ⊢ iprop((∃ Y, ow (F := F) c mB0 fullShare Y) ∗ (∃ Y, ow (F := F) c mB1 fullShare Y) ∗ (∃ Y, ow (F := F) c mB2 fullShare Y) ∗ (∃ Y, ow (F := F) c mB3 fullShare Y) ∗ (∃ Y, ow (F := F) c mB4 fullShare Y) ∗ (∃ Y, ow (F := F) c mB5 fullShare Y) ∗ (∃ Y, ow (F := F) c mB6 fullShare Y) ∗ (∃ Y, ow (F := F) c mB7 fullShare Y)) := by
  have H := split_any (F := F) (c := c) cB rA8 rA8_unit rA8_disj rA8_cover
  rw [bigSep_univ_eq_bigSepL [0, 1, 2, 3, 4, 5, 6, 7] (by decide) (by decide)] at H
  exact H
theorem join_B : iprop((∃ Y, ow (F := F) c mB0 fullShare Y) ∗ (∃ Y, ow (F := F) c mB1 fullShare Y) ∗ (∃ Y, ow (F := F) c mB2 fullShare Y) ∗ (∃ Y, ow (F := F) c mB3 fullShare Y) ∗ (∃ Y, ow (F := F) c mB4 fullShare Y) ∗ (∃ Y, ow (F := F) c mB5 fullShare Y) ∗ (∃ Y, ow (F := F) c mB6 fullShare Y) ∗ (∃ Y, ow (F := F) c mB7 fullShare Y)) ⊢ (iprop(∃ X, ow (F := F) c cB fullShare X) : sProp 𝕄) := by
  have H := join_any (F := F) (c := c) cB rA8 rA8_unit rA8_disj rA8_cover
  rw [bigSep_univ_eq_bigSepL [0, 1, 2, 3, 4, 5, 6, 7] (by decide) (by decide)] at H
  exact H

theorem split_C : (iprop(∃ X, ow (F := F) c cC fullShare X) : sProp 𝕄) ⊢ iprop((∃ Y, ow (F := F) c mC0 fullShare Y) ∗ (∃ Y, ow (F := F) c mC1 fullShare Y) ∗ (∃ Y, ow (F := F) c mC2 fullShare Y) ∗ (∃ Y, ow (F := F) c mC3 fullShare Y) ∗ (∃ Y, ow (F := F) c mC4 fullShare Y) ∗ (∃ Y, ow (F := F) c mC5 fullShare Y) ∗ (∃ Y, ow (F := F) c mC6 fullShare Y) ∗ (∃ Y, ow (F := F) c mC7 fullShare Y)) := by
  have H := split_any (F := F) (c := c) cC rC8 rC8_unit rC8_disj rC8_cover
  rw [bigSep_univ_eq_bigSepL [0, 1, 2, 3, 4, 5, 6, 7] (by decide) (by decide)] at H
  exact H
theorem join_C : iprop((∃ Y, ow (F := F) c mC0 fullShare Y) ∗ (∃ Y, ow (F := F) c mC1 fullShare Y) ∗ (∃ Y, ow (F := F) c mC2 fullShare Y) ∗ (∃ Y, ow (F := F) c mC3 fullShare Y) ∗ (∃ Y, ow (F := F) c mC4 fullShare Y) ∗ (∃ Y, ow (F := F) c mC5 fullShare Y) ∗ (∃ Y, ow (F := F) c mC6 fullShare Y) ∗ (∃ Y, ow (F := F) c mC7 fullShare Y)) ⊢ (iprop(∃ X, ow (F := F) c cC fullShare X) : sProp 𝕄) := by
  have H := join_any (F := F) (c := c) cC rC8 rC8_unit rC8_disj rC8_cover
  rw [bigSep_univ_eq_bigSepL [0, 1, 2, 3, 4, 5, 6, 7] (by decide) (by decide)] at H
  exact H

theorem split_ac : (iprop(∃ X, ow (F := F) c acM fullShare X) : sProp 𝕄) ⊢ iprop((∃ Y, ow (F := F) c ac0 fullShare Y) ∗ (∃ Y, ow (F := F) c ac1 fullShare Y) ∗ (∃ Y, ow (F := F) c ac2 fullShare Y) ∗ (∃ Y, ow (F := F) c ac3 fullShare Y) ∗ (∃ Y, ow (F := F) c ac4 fullShare Y) ∗ (∃ Y, ow (F := F) c ac5 fullShare Y) ∗ (∃ Y, ow (F := F) c ac6 fullShare Y) ∗ (∃ Y, ow (F := F) c ac7 fullShare Y)) := by
  have H := split_any (F := F) (c := c) acM rac8 rac8_unit rac8_disj rac8_cover
  rw [bigSep_univ_eq_bigSepL [0, 1, 2, 3, 4, 5, 6, 7] (by decide) (by decide)] at H
  exact H
theorem join_ac : iprop((∃ Y, ow (F := F) c ac0 fullShare Y) ∗ (∃ Y, ow (F := F) c ac1 fullShare Y) ∗ (∃ Y, ow (F := F) c ac2 fullShare Y) ∗ (∃ Y, ow (F := F) c ac3 fullShare Y) ∗ (∃ Y, ow (F := F) c ac4 fullShare Y) ∗ (∃ Y, ow (F := F) c ac5 fullShare Y) ∗ (∃ Y, ow (F := F) c ac6 fullShare Y) ∗ (∃ Y, ow (F := F) c ac7 fullShare Y)) ⊢ (iprop(∃ X, ow (F := F) c acM fullShare X) : sProp 𝕄) := by
  have H := join_any (F := F) (c := c) acM rac8 rac8_unit rac8_disj rac8_cover
  rw [bigSep_univ_eq_bigSepL [0, 1, 2, 3, 4, 5, 6, 7] (by decide) (by decide)] at H
  exact H

theorem split_xf : (iprop(∃ X, ow (F := F) c xfM fullShare X) : sProp 𝕄) ⊢ iprop((∃ Y, ow (F := F) c xfA fullShare Y) ∗ (∃ Y, ow (F := F) c xfB fullShare Y) ∗ (∃ Y, ow (F := F) c xfC fullShare Y)) := by
  have H := split_any (F := F) (c := c) xfM rX3 rX3_unit rX3_disj rX3_cover
  rw [bigSep_univ_eq_bigSepL [0, 1, 2] (by decide) (by decide)] at H
  exact H
theorem join_xf : iprop((∃ Y, ow (F := F) c xfA fullShare Y) ∗ (∃ Y, ow (F := F) c xfB fullShare Y) ∗ (∃ Y, ow (F := F) c xfC fullShare Y)) ⊢ (iprop(∃ X, ow (F := F) c xfM fullShare X) : sProp 𝕄) := by
  have H := join_any (F := F) (c := c) xfM rX3 rX3_unit rX3_disj rX3_cover
  rw [bigSep_univ_eq_bigSepL [0, 1, 2] (by decide) (by decide)] at H
  exact H

theorem split_w8 : (iprop(∃ X, ow (F := F) c w8M fullShare X) : sProp 𝕄) ⊢ iprop((∃ Y, ow (F := F) c w8Lo fullShare Y) ∗ (∃ Y, ow (F := F) c w8Hi fullShare Y)) := by
  have H := split_any (F := F) (c := c) w8M rW2 rW2_unit rW2_disj rW2_cover
  rw [bigSep_univ_eq_bigSepL [0, 1] (by decide) (by decide)] at H
  exact H
theorem join_w8 : iprop((∃ Y, ow (F := F) c w8Lo fullShare Y) ∗ (∃ Y, ow (F := F) c w8Hi fullShare Y)) ⊢ (iprop(∃ X, ow (F := F) c w8M fullShare X) : sProp 𝕄) := by
  have H := join_any (F := F) (c := c) w8M rW2 rW2_unit rW2_disj rW2_cover
  rw [bigSep_univ_eq_bigSepL [0, 1] (by decide) (by decide)] at H
  exact H

theorem split_ou : (iprop(∃ X, ow (F := F) c oM fullShare X) : sProp 𝕄) ⊢ iprop((∃ Y, ow (F := F) c (ou0 c) fullShare Y) ∗ (∃ Y, ow (F := F) c (ou1 c) fullShare Y) ∗ (∃ Y, ow (F := F) c (ou2 c) fullShare Y) ∗ (∃ Y, ow (F := F) c (ou3 c) fullShare Y) ∗ (∃ Y, ow (F := F) c (ou4 c) fullShare Y) ∗ (∃ Y, ow (F := F) c (ou5 c) fullShare Y) ∗ (∃ Y, ow (F := F) c (ou6 c) fullShare Y) ∗ (∃ Y, ow (F := F) c (ou7 c) fullShare Y)) := by
  have H := split_any (F := F) (c := c) oM (rou8 c) (rou8_unit c) (rou8_disj c) (rou8_cover c)
  rw [bigSep_univ_eq_bigSepL [0, 1, 2, 3, 4, 5, 6, 7] (by decide) (by decide)] at H
  exact H
theorem join_ou : iprop((∃ Y, ow (F := F) c (ou0 c) fullShare Y) ∗ (∃ Y, ow (F := F) c (ou1 c) fullShare Y) ∗ (∃ Y, ow (F := F) c (ou2 c) fullShare Y) ∗ (∃ Y, ow (F := F) c (ou3 c) fullShare Y) ∗ (∃ Y, ow (F := F) c (ou4 c) fullShare Y) ∗ (∃ Y, ow (F := F) c (ou5 c) fullShare Y) ∗ (∃ Y, ow (F := F) c (ou6 c) fullShare Y) ∗ (∃ Y, ow (F := F) c (ou7 c) fullShare Y)) ⊢ (iprop(∃ X, ow (F := F) c oM fullShare X) : sProp 𝕄) := by
  have H := join_any (F := F) (c := c) oM (rou8 c) (rou8_unit c) (rou8_disj c) (rou8_cover c)
  rw [bigSep_univ_eq_bigSepL [0, 1, 2, 3, 4, 5, 6, 7] (by decide) (by decide)] at H
  exact H

theorem split_ob_ : (iprop(∃ X, ow (F := F) c obM fullShare X) : sProp 𝕄) ⊢ iprop((∃ Y, ow (F := F) c ((obM).slice rob0 (fun _ => rfl)) fullShare Y) ∗ (∃ Y, ow (F := F) c ((obM).slice rob1 (fun _ => rfl)) fullShare Y)) := by
  have H := split_any (F := F) (c := c) obM rob2 rob2_unit rob2_disj rob2_cover
  rw [bigSep_univ_eq_bigSepL [0, 1] (by decide) (by decide)] at H
  exact H
theorem join_ob_ : iprop((∃ Y, ow (F := F) c ((obM).slice rob0 (fun _ => rfl)) fullShare Y) ∗ (∃ Y, ow (F := F) c ((obM).slice rob1 (fun _ => rfl)) fullShare Y)) ⊢ (iprop(∃ X, ow (F := F) c obM fullShare X) : sProp 𝕄) := by
  have H := join_any (F := F) (c := c) obM rob2 rob2_unit rob2_disj rob2_cover
  rw [bigSep_univ_eq_bigSepL [0, 1] (by decide) (by decide)] at H
  exact H

theorem split_ob : (iprop(∃ X, ow (F := F) c obM fullShare X) : sProp 𝕄) ⊢ iprop((∃ Y, ow (F := F) c ob0 fullShare Y) ∗ (∃ Y, ow (F := F) c ob1 fullShare Y)) := by
  iintro H
  ihave H := (split_ob_ c) $$ H
  icases H with ⟨H0, H1⟩
  isplitl [H0]
  · iapply (squeeze_any (c := c) ((obM).slice rob0 (fun _ => rfl)) (hq := squeezes_S1x512x1024_S512x1024)); iexact H0
  · iapply (squeeze_any (c := c) ((obM).slice rob1 (fun _ => rfl)) (hq := squeezes_S1x512x1024_S512x1024)); iexact H1
theorem join_ob : iprop((∃ Y, ow (F := F) c ob0 fullShare Y) ∗ (∃ Y, ow (F := F) c ob1 fullShare Y)) ⊢ (iprop(∃ X, ow (F := F) c obM fullShare X) : sProp 𝕄) := by
  iintro ⟨H0, H1⟩
  iapply (join_ob_ c)
  isplitl [H0]
  · iapply (unsqueeze_any (c := c) ((obM).slice rob0 (fun _ => rfl)) (hq := squeezes_S1x512x1024_S512x1024)); iexact H0
  · iapply (unsqueeze_any (c := c) ((obM).slice rob1 (fun _ => rfl)) (hq := squeezes_S1x512x1024_S512x1024)); iexact H1

/-- The left matrix's block as its three stripes, and back. -/
theorem split_x : ow c xM fullShare (xv mm c) ⊢ iprop(ow c xA fullShare (fun j => xv mm c (rXA.emb j)) ∗ ow c xB fullShare (fun j => xv mm c (rXB.emb j)) ∗ ow c xC fullShare (fun j => xv mm c (rXC.emb j))) := by
  have H := owns_rects (Val := Elt F) (Ix := ℕ) (Name := ℕ) (U := UU) (Lvl := ℕ) (c : Thread nD τ) xM fullShare rX3 rX3_unit rX3_disj rX3_cover (xv mm c)
  rw [bigSep_univ_eq_bigSepL [0, 1, 2] (by decide) (by decide)] at H
  exact H
theorem join_x : iprop(ow c xA fullShare (fun j => xv mm c (rXA.emb j)) ∗ ow c xB fullShare (fun j => xv mm c (rXB.emb j)) ∗ ow c xC fullShare (fun j => xv mm c (rXC.emb j))) ⊢ ow c xM fullShare (xv mm c) := by
  have H := owns_of_rects (Val := Elt F) (Ix := ℕ) (Name := ℕ) (U := UU) (Lvl := ℕ) (c : Thread nD τ) xM fullShare rX3 rX3_unit rX3_disj rX3_cover (xv mm c)
  rw [bigSep_univ_eq_bigSepL [0, 1, 2] (by decide) (by decide)] at H
  exact H
/-- The weights' block as its two halves, and back. -/
theorem split_w : ow c wM fullShare (wv mm c) ⊢ iprop(ow c wLo fullShare (fun j => wv mm c (rWLo.emb j)) ∗ ow c wHi fullShare (fun j => wv mm c (rWHi.emb j))) := by
  have H := owns_rects (Val := Elt F) (Ix := ℕ) (Name := ℕ) (U := UU) (Lvl := ℕ) (c : Thread nD τ) wM fullShare rW2 rW2_unit rW2_disj rW2_cover (wv mm c)
  rw [bigSep_univ_eq_bigSepL [0, 1] (by decide) (by decide)] at H
  exact H
theorem join_w : iprop(ow c wLo fullShare (fun j => wv mm c (rWLo.emb j)) ∗ ow c wHi fullShare (fun j => wv mm c (rWHi.emb j))) ⊢ ow c wM fullShare (wv mm c) := by
  have H := owns_of_rects (Val := Elt F) (Ix := ℕ) (Name := ℕ) (U := UU) (Lvl := ℕ) (c : Thread nD τ) wM fullShare rW2 rW2_unit rW2_disj rW2_cover (wv mm c)
  rw [bigSep_univ_eq_bigSepL [0, 1] (by decide) (by decide)] at H
  exact H

/-- The rectangles of the result's blocks all have the block's shape. -/
def outAt (c : Dev nD) (f : Fin 8 → S512x1024.Idx → F .f32) : (t : Fin 8) → (rou8 c t).shape.Idx → Elt F .f32
  | 0 => f 0
  | 1 => f 1
  | 2 => f 2
  | 3 => f 3
  | 4 => f 4
  | 5 => f 5
  | 6 => f 6
  | 7 => f 7

/-- The result's eight blocks of rows are a whole array that restricts to them. -/
theorem join_out (f : Fin 8 → S512x1024.Idx → F .f32) : iprop(ow c (ou0 c) fullShare (f 0) ∗ ow c (ou1 c) fullShare (f 1) ∗ ow c (ou2 c) fullShare (f 2) ∗ ow c (ou3 c) fullShare (f 3) ∗ ow c (ou4 c) fullShare (f 4) ∗ ow c (ou5 c) fullShare (f 5) ∗ ow c (ou6 c) fullShare (f 6) ∗ ow c (ou7 c) fullShare (f 7))
    ⊢ iprop(∃ X : S4096x1024.Idx → Elt F .f32, ⌜∀ t j, X ((rou8 c t).emb j) = outAt c f t j⌝ ∗ ow c oM fullShare X) := by
  have H := join_parts (F := F) (c := c) oM (rou8 c) (rou8_unit c) (rou8_disj c) (rou8_cover c) (outAt c f)
  rw [bigSep_univ_eq_bigSepL [0, 1, 2, 3, 4, 5, 6, 7] (by decide) (by decide)] at H
  exact H

end Buffers

end Cert.KProof

end
-- ==== Proof.Launch.lean ====
module

public import proofs.«01_k».proof.Proof.Ghost
public import proofs.«01_k».proof.Proof.Body
public import proofs.«01_k».proof.Proof.Pieces
public import Idealize.ShloMosaic.Lib.Pipeline.Value

/-! The run of @main: the kernel on all devices from one launch. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

/-! ## Buffers whole and in pieces -/

section Bufs
variable (c : Dev nD)

theorem own_any {sp : Space} {sh : Shape} {e : EltTy} (M : Memref sig .tc sp sh e) (X : sh.Idx → Elt F e) : (ow c M fullShare X : sProp 𝕄) ⊢ iprop(∃ Y, ow (F := F) c M fullShare Y) := by
  iintro H; iexists X; iexact H

theorem halves_any {sp : Space} {sh : Shape} {e : EltTy} (M : Memref sig .tc sp sh e) (X : sh.Idx → Elt F e) :
    (iprop(ow c M fullShare.left X ∗ ow c M fullShare.right X) : sProp 𝕄) ⊢ iprop(∃ Y, ow (F := F) c M fullShare Y) :=
  BIBase.Entails.trans (owns_halves (Ix := ℕ) (Name := ℕ) (U := UU) (Lvl := ℕ) (c : Thread nD τ) M fullShare X).2 (own_any c M X)

/-- A buffer's points-to at any contents is the whole buffer owned at any contents. -/
theorem any_in (b : Ref sig .tc) : (iprop(∃ f : Buf (Elt F) ((c : Thread nD τ).loc b), ((c : Thread nD τ).loc b) ↦{fullShare} f) : sProp 𝕄)
    ⊢ iprop(∃ X : b.ty.Contents (Elt F), owns (Ix := ℕ) (Name := ℕ) (U := UU) (Lvl := ℕ) (c : Thread nD τ) (Memref.whole b) fullShare X) := by
  iintro ⟨%f, H⟩
  iexists f
  iapply (whole_in c b f)
  iexact H

theorem any_out (b : Ref sig .tc) : (iprop(∃ X : b.ty.Contents (Elt F), owns (Ix := ℕ) (Name := ℕ) (U := UU) (Lvl := ℕ) (c : Thread nD τ) (Memref.whole b) fullShare X) : sProp 𝕄)
    ⊢ iprop(∃ f : Buf (Elt F) ((c : Thread nD τ).loc b), ((c : Thread nD τ).loc b) ↦{fullShare} f) := by
  iintro ⟨%f, H⟩
  iexists f
  iapply (whole_out c b f)
  iexact H

theorem open_A : (iprop(∃ f : Buf (Elt F) ((c : Thread nD τ).loc cc0_scratch0), ((c : Thread nD τ).loc cc0_scratch0) ↦{fullShare} f) : sProp 𝕄) ⊢ iprop((∃ Y, ow (F := F) c mA0 fullShare Y) ∗ (∃ Y, ow (F := F) c mA1 fullShare Y) ∗ (∃ Y, ow (F := F) c mA2 fullShare Y) ∗ (∃ Y, ow (F := F) c mA3 fullShare Y) ∗ (∃ Y, ow (F := F) c mA4 fullShare Y) ∗ (∃ Y, ow (F := F) c mA5 fullShare Y) ∗ (∃ Y, ow (F := F) c mA6 fullShare Y) ∗ (∃ Y, ow (F := F) c mA7 fullShare Y)) := BIBase.Entails.trans (any_in c cc0_scratch0) (split_A c)

theorem close_A : iprop((∃ Y, ow (F := F) c mA0 fullShare Y) ∗ (∃ Y, ow (F := F) c mA1 fullShare Y) ∗ (∃ Y, ow (F := F) c mA2 fullShare Y) ∗ (∃ Y, ow (F := F) c mA3 fullShare Y) ∗ (∃ Y, ow (F := F) c mA4 fullShare Y) ∗ (∃ Y, ow (F := F) c mA5 fullShare Y) ∗ (∃ Y, ow (F := F) c mA6 fullShare Y) ∗ (∃ Y, ow (F := F) c mA7 fullShare Y)) ⊢ (iprop(∃ f : Buf (Elt F) ((c : Thread nD τ).loc cc0_scratch0), ((c : Thread nD τ).loc cc0_scratch0) ↦{fullShare} f) : sProp 𝕄) := BIBase.Entails.trans (join_A c) (any_out c cc0_scratch0)

/-- The buffer's pieces, four of them in halves, back to the whole buffer. -/
theorem reclose_A (X0 X1 X2 X3 X4 X5 X6 X7 : S512x1408.Idx → Elt F .fp8e4m3) : (iprop(ow c mA0 fullShare.left X0 ∗ ow c mA0 fullShare.right X0 ∗ ow c mA1 fullShare.left X1 ∗ ow c mA1 fullShare.right X1 ∗ ow c mA2 fullShare.left X2 ∗ ow c mA2 fullShare.right X2 ∗ ow c mA3 fullShare.left X3 ∗ ow c mA3 fullShare.right X3 ∗ ow c mA4 fullShare X4 ∗ ow c mA5 fullShare X5 ∗ ow c mA6 fullShare X6 ∗ ow c mA7 fullShare X7) : sProp 𝕄) ⊢ iprop(∃ f : Buf (Elt F) ((c : Thread nD τ).loc cc0_scratch0), ((c : Thread nD τ).loc cc0_scratch0) ↦{fullShare} f) := by
  iintro ⟨L0, R0, L1, R1, L2, R2, L3, R3, H4, H5, H6, H7⟩
  iapply (close_A c)
  isplitl [L0 R0]
  · iapply (halves_any c mA0 X0)
    isplitl [L0] <;> iassumption
  isplitl [L1 R1]
  · iapply (halves_any c mA1 X1)
    isplitl [L1] <;> iassumption
  isplitl [L2 R2]
  · iapply (halves_any c mA2 X2)
    isplitl [L2] <;> iassumption
  isplitl [L3 R3]
  · iapply (halves_any c mA3 X3)
    isplitl [L3] <;> iassumption
  isplitl [H4]
  · iapply (own_any c mA4 X4); iexact H4
  isplitl [H5]
  · iapply (own_any c mA5 X5); iexact H5
  isplitl [H6]
  · iapply (own_any c mA6 X6); iexact H6
  iapply (own_any c mA7 X7); iexact H7

theorem open_B : (iprop(∃ f : Buf (Elt F) ((c : Thread nD τ).loc cc0_scratch1), ((c : Thread nD τ).loc cc0_scratch1) ↦{fullShare} f) : sProp 𝕄) ⊢ iprop((∃ Y, ow (F := F) c mB0 fullShare Y) ∗ (∃ Y, ow (F := F) c mB1 fullShare Y) ∗ (∃ Y, ow (F := F) c mB2 fullShare Y) ∗ (∃ Y, ow (F := F) c mB3 fullShare Y) ∗ (∃ Y, ow (F := F) c mB4 fullShare Y) ∗ (∃ Y, ow (F := F) c mB5 fullShare Y) ∗ (∃ Y, ow (F := F) c mB6 fullShare Y) ∗ (∃ Y, ow (F := F) c mB7 fullShare Y)) := BIBase.Entails.trans (any_in c cc0_scratch1) (split_B c)

theorem close_B : iprop((∃ Y, ow (F := F) c mB0 fullShare Y) ∗ (∃ Y, ow (F := F) c mB1 fullShare Y) ∗ (∃ Y, ow (F := F) c mB2 fullShare Y) ∗ (∃ Y, ow (F := F) c mB3 fullShare Y) ∗ (∃ Y, ow (F := F) c mB4 fullShare Y) ∗ (∃ Y, ow (F := F) c mB5 fullShare Y) ∗ (∃ Y, ow (F := F) c mB6 fullShare Y) ∗ (∃ Y, ow (F := F) c mB7 fullShare Y)) ⊢ (iprop(∃ f : Buf (Elt F) ((c : Thread nD τ).loc cc0_scratch1), ((c : Thread nD τ).loc cc0_scratch1) ↦{fullShare} f) : sProp 𝕄) := BIBase.Entails.trans (join_B c) (any_out c cc0_scratch1)

/-- The buffer's pieces, four of them in halves, back to the whole buffer. -/
theorem reclose_B (X0 X1 X2 X3 X4 X5 X6 X7 : S512x1408.Idx → Elt F .fp8e4m3) : (iprop(ow c mB0 fullShare.left X0 ∗ ow c mB0 fullShare.right X0 ∗ ow c mB1 fullShare.left X1 ∗ ow c mB1 fullShare.right X1 ∗ ow c mB2 fullShare.left X2 ∗ ow c mB2 fullShare.right X2 ∗ ow c mB3 fullShare.left X3 ∗ ow c mB3 fullShare.right X3 ∗ ow c mB4 fullShare X4 ∗ ow c mB5 fullShare X5 ∗ ow c mB6 fullShare X6 ∗ ow c mB7 fullShare X7) : sProp 𝕄) ⊢ iprop(∃ f : Buf (Elt F) ((c : Thread nD τ).loc cc0_scratch1), ((c : Thread nD τ).loc cc0_scratch1) ↦{fullShare} f) := by
  iintro ⟨L0, R0, L1, R1, L2, R2, L3, R3, H4, H5, H6, H7⟩
  iapply (close_B c)
  isplitl [L0 R0]
  · iapply (halves_any c mB0 X0)
    isplitl [L0] <;> iassumption
  isplitl [L1 R1]
  · iapply (halves_any c mB1 X1)
    isplitl [L1] <;> iassumption
  isplitl [L2 R2]
  · iapply (halves_any c mB2 X2)
    isplitl [L2] <;> iassumption
  isplitl [L3 R3]
  · iapply (halves_any c mB3 X3)
    isplitl [L3] <;> iassumption
  isplitl [H4]
  · iapply (own_any c mB4 X4); iexact H4
  isplitl [H5]
  · iapply (own_any c mB5 X5); iexact H5
  isplitl [H6]
  · iapply (own_any c mB6 X6); iexact H6
  iapply (own_any c mB7 X7); iexact H7

theorem open_C : (iprop(∃ f : Buf (Elt F) ((c : Thread nD τ).loc cc0_scratch2), ((c : Thread nD τ).loc cc0_scratch2) ↦{fullShare} f) : sProp 𝕄) ⊢ iprop((∃ Y, ow (F := F) c mC0 fullShare Y) ∗ (∃ Y, ow (F := F) c mC1 fullShare Y) ∗ (∃ Y, ow (F := F) c mC2 fullShare Y) ∗ (∃ Y, ow (F := F) c mC3 fullShare Y) ∗ (∃ Y, ow (F := F) c mC4 fullShare Y) ∗ (∃ Y, ow (F := F) c mC5 fullShare Y) ∗ (∃ Y, ow (F := F) c mC6 fullShare Y) ∗ (∃ Y, ow (F := F) c mC7 fullShare Y)) := BIBase.Entails.trans (any_in c cc0_scratch2) (split_C c)

theorem close_C : iprop((∃ Y, ow (F := F) c mC0 fullShare Y) ∗ (∃ Y, ow (F := F) c mC1 fullShare Y) ∗ (∃ Y, ow (F := F) c mC2 fullShare Y) ∗ (∃ Y, ow (F := F) c mC3 fullShare Y) ∗ (∃ Y, ow (F := F) c mC4 fullShare Y) ∗ (∃ Y, ow (F := F) c mC5 fullShare Y) ∗ (∃ Y, ow (F := F) c mC6 fullShare Y) ∗ (∃ Y, ow (F := F) c mC7 fullShare Y)) ⊢ (iprop(∃ f : Buf (Elt F) ((c : Thread nD τ).loc cc0_scratch2), ((c : Thread nD τ).loc cc0_scratch2) ↦{fullShare} f) : sProp 𝕄) := BIBase.Entails.trans (join_C c) (any_out c cc0_scratch2)

/-- The buffer's pieces, four of them in halves, back to the whole buffer. -/
theorem reclose_C (X0 X1 X2 X3 X4 X5 X6 X7 : S512x1280.Idx → Elt F .fp8e4m3) : (iprop(ow c mC0 fullShare.left X0 ∗ ow c mC0 fullShare.right X0 ∗ ow c mC1 fullShare.left X1 ∗ ow c mC1 fullShare.right X1 ∗ ow c mC2 fullShare.left X2 ∗ ow c mC2 fullShare.right X2 ∗ ow c mC3 fullShare.left X3 ∗ ow c mC3 fullShare.right X3 ∗ ow c mC4 fullShare X4 ∗ ow c mC5 fullShare X5 ∗ ow c mC6 fullShare X6 ∗ ow c mC7 fullShare X7) : sProp 𝕄) ⊢ iprop(∃ f : Buf (Elt F) ((c : Thread nD τ).loc cc0_scratch2), ((c : Thread nD τ).loc cc0_scratch2) ↦{fullShare} f) := by
  iintro ⟨L0, R0, L1, R1, L2, R2, L3, R3, H4, H5, H6, H7⟩
  iapply (close_C c)
  isplitl [L0 R0]
  · iapply (halves_any c mC0 X0)
    isplitl [L0] <;> iassumption
  isplitl [L1 R1]
  · iapply (halves_any c mC1 X1)
    isplitl [L1] <;> iassumption
  isplitl [L2 R2]
  · iapply (halves_any c mC2 X2)
    isplitl [L2] <;> iassumption
  isplitl [L3 R3]
  · iapply (halves_any c mC3 X3)
    isplitl [L3] <;> iassumption
  isplitl [H4]
  · iapply (own_any c mC4 X4); iexact H4
  isplitl [H5]
  · iapply (own_any c mC5 X5); iexact H5
  isplitl [H6]
  · iapply (own_any c mC6 X6); iexact H6
  iapply (own_any c mC7 X7); iexact H7

theorem open_xf : (iprop(∃ f : Buf (Elt F) ((c : Thread nD τ).loc cc0_scratch3), ((c : Thread nD τ).loc cc0_scratch3) ↦{fullShare} f) : sProp 𝕄) ⊢ iprop((∃ Y, ow (F := F) c xfA fullShare Y) ∗ (∃ Y, ow (F := F) c xfB fullShare Y) ∗ (∃ Y, ow (F := F) c xfC fullShare Y)) := BIBase.Entails.trans (any_in c cc0_scratch3) (split_xf c)

theorem close_xf : iprop((∃ Y, ow (F := F) c xfA fullShare Y) ∗ (∃ Y, ow (F := F) c xfB fullShare Y) ∗ (∃ Y, ow (F := F) c xfC fullShare Y)) ⊢ (iprop(∃ f : Buf (Elt F) ((c : Thread nD τ).loc cc0_scratch3), ((c : Thread nD τ).loc cc0_scratch3) ↦{fullShare} f) : sProp 𝕄) := BIBase.Entails.trans (join_xf c) (any_out c cc0_scratch3)

theorem open_w8 : (iprop(∃ f : Buf (Elt F) ((c : Thread nD τ).loc cc0_scratch5), ((c : Thread nD τ).loc cc0_scratch5) ↦{fullShare} f) : sProp 𝕄) ⊢ iprop((∃ Y, ow (F := F) c w8Lo fullShare Y) ∗ (∃ Y, ow (F := F) c w8Hi fullShare Y)) := BIBase.Entails.trans (any_in c cc0_scratch5) (split_w8 c)

theorem close_w8 : iprop((∃ Y, ow (F := F) c w8Lo fullShare Y) ∗ (∃ Y, ow (F := F) c w8Hi fullShare Y)) ⊢ (iprop(∃ f : Buf (Elt F) ((c : Thread nD τ).loc cc0_scratch5), ((c : Thread nD τ).loc cc0_scratch5) ↦{fullShare} f) : sProp 𝕄) := BIBase.Entails.trans (join_w8 c) (any_out c cc0_scratch5)

theorem open_ac : (iprop(∃ f : Buf (Elt F) ((c : Thread nD τ).loc cc0_scratch6), ((c : Thread nD τ).loc cc0_scratch6) ↦{fullShare} f) : sProp 𝕄) ⊢ iprop((∃ Y, ow (F := F) c ac0 fullShare Y) ∗ (∃ Y, ow (F := F) c ac1 fullShare Y) ∗ (∃ Y, ow (F := F) c ac2 fullShare Y) ∗ (∃ Y, ow (F := F) c ac3 fullShare Y) ∗ (∃ Y, ow (F := F) c ac4 fullShare Y) ∗ (∃ Y, ow (F := F) c ac5 fullShare Y) ∗ (∃ Y, ow (F := F) c ac6 fullShare Y) ∗ (∃ Y, ow (F := F) c ac7 fullShare Y)) := BIBase.Entails.trans (any_in c cc0_scratch6) (split_ac c)

theorem close_ac : iprop((∃ Y, ow (F := F) c ac0 fullShare Y) ∗ (∃ Y, ow (F := F) c ac1 fullShare Y) ∗ (∃ Y, ow (F := F) c ac2 fullShare Y) ∗ (∃ Y, ow (F := F) c ac3 fullShare Y) ∗ (∃ Y, ow (F := F) c ac4 fullShare Y) ∗ (∃ Y, ow (F := F) c ac5 fullShare Y) ∗ (∃ Y, ow (F := F) c ac6 fullShare Y) ∗ (∃ Y, ow (F := F) c ac7 fullShare Y)) ⊢ (iprop(∃ f : Buf (Elt F) ((c : Thread nD τ).loc cc0_scratch6), ((c : Thread nD τ).loc cc0_scratch6) ↦{fullShare} f) : sProp 𝕄) := BIBase.Entails.trans (join_ac c) (any_out c cc0_scratch6)

theorem open_ob : (iprop(∃ f : Buf (Elt F) ((c : Thread nD τ).loc cc0_scratch7), ((c : Thread nD τ).loc cc0_scratch7) ↦{fullShare} f) : sProp 𝕄) ⊢ iprop((∃ Y, ow (F := F) c ob0 fullShare Y) ∗ (∃ Y, ow (F := F) c ob1 fullShare Y)) := BIBase.Entails.trans (any_in c cc0_scratch7) (split_ob c)

theorem close_ob : iprop((∃ Y, ow (F := F) c ob0 fullShare Y) ∗ (∃ Y, ow (F := F) c ob1 fullShare Y)) ⊢ (iprop(∃ f : Buf (Elt F) ((c : Thread nD τ).loc cc0_scratch7), ((c : Thread nD τ).loc cc0_scratch7) ↦{fullShare} f) : sProp 𝕄) := BIBase.Entails.trans (join_ob c) (any_out c cc0_scratch7)

theorem open_wf : (iprop(∃ f : Buf (Elt F) ((c : Thread nD τ).loc cc0_scratch4), ((c : Thread nD τ).loc cc0_scratch4) ↦{fullShare} f) : sProp 𝕄) ⊢ iprop(∃ Y, ow (F := F) c wfM fullShare Y) := any_in c cc0_scratch4
end Bufs

theorem bar_pay0 (c : Dev nD) : (iprop((∃ Y, ow (F := F) c mA1 fullShare Y) ∗ (∃ Y, ow (F := F) c mB4 fullShare Y) ∗ (∃ Y, ow (F := F) c mB5 fullShare Y) ∗ (∃ Y, ow (F := F) c mB6 fullShare Y) ∗ (∃ Y, ow (F := F) c mB7 fullShare Y) ∗ (∃ Y, ow (F := F) c mC2 fullShare Y) ∗ (∃ Y, ow (F := F) c mC3 fullShare Y)) : sProp 𝕄) ⊢ barPay (F := F) c 0 := BI.Entails.refl _

theorem bar_pay1 (c : Dev nD) : (iprop((∃ Y, ow (F := F) c mA2 fullShare Y) ∗ (∃ Y, ow (F := F) c mA3 fullShare Y) ∗ (∃ Y, ow (F := F) c mB1 fullShare Y) ∗ (∃ Y, ow (F := F) c mC4 fullShare Y) ∗ (∃ Y, ow (F := F) c mC5 fullShare Y) ∗ (∃ Y, ow (F := F) c mC6 fullShare Y) ∗ (∃ Y, ow (F := F) c mC7 fullShare Y)) : sProp 𝕄) ⊢ barPay (F := F) c 1 := BI.Entails.refl _

theorem bar_pay2 (c : Dev nD) : (iprop((∃ Y, ow (F := F) c mA4 fullShare Y) ∗ (∃ Y, ow (F := F) c mA5 fullShare Y) ∗ (∃ Y, ow (F := F) c mA6 fullShare Y) ∗ (∃ Y, ow (F := F) c mA7 fullShare Y) ∗ (∃ Y, ow (F := F) c mB2 fullShare Y) ∗ (∃ Y, ow (F := F) c mB3 fullShare Y) ∗ (∃ Y, ow (F := F) c mC1 fullShare Y)) : sProp 𝕄) ⊢ barPay (F := F) c 2 := BI.Entails.refl _

/-! ## The pipeline's data -/

section Run
variable (m : (ℓ : Loc nD τ sig) → Buf (Elt F) ℓ) (ρ : Dev nD → PrngReg)

def s₀ : MemSt nD τ sig (Elt F) := ⟨m, fun _ => 0, ρ⟩

/-- The two scales as the kernel is handed them. -/
def xstg0 (c : Dev nD) : S1.Idx → F .f32 := (win0_0.blk (0 : Fin 1)).view.read (Elt F) (m ((c : Thread nD τ).loc main_arg2))
def xstg1 (c : Dev nD) : S1.Idx → F .f32 := (win0_1.blk (0 : Fin 1)).view.read (Elt F) (m ((c : Thread nD τ).loc main_arg3))

/-- The eight blocks of rows of device `c`'s result, in the order of the masks. -/
def res (c : Dev nD) (o : Fin 8) : S512x1024.Idx → F .f32 := em (V27 (xstg0 m c) (xstg1 m c)) (fin m c o)

/-- A result array that holds the eight blocks of rows at their places. -/
def Good (c : Dev nD) (Z : S4096x1024.Idx → F .f32) : Prop := ∀ t j, Z ((rou8 c t).emb j) = outAt c (res m c) t j

/-- The three arrays the pipeline does not window: both blocks unchanged, the result at its value. -/
def outs (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ ∃ Z : Buf (Elt F) ((c : Thread nD τ).loc main_v1), ⌜Good m c Z⌝ ∗ (((c : Thread nD τ).loc main_v1) ↦{fullShare} Z))

/-- What device `c` starts with beside its scratch buffers. -/
def start (c : Dev nD) : sProp 𝕄 :=
  iprop((∃ K, recs m K ∗ mine (F := F) c) ∗ iprop(cred (tallyAt (cell c 0) (lvl 0) 3) ∗ Cr (F := F) c 10 ∗ Cr (F := F) c 11 ∗ Cr (F := F) c 11 ∗ Cr (F := F) c 12 ∗ Cr (F := F) c 13 ∗ Cr (F := F) c 13 ∗ Cr (F := F) c 14 ∗ Cr (F := F) c 15 ∗ Cr (F := F) c 15 ∗ Cr (F := F) c 16 ∗ Cr (F := F) c 17 ∗ Cr (F := F) c 18 ∗ Cr (F := F) c 19 ∗ Cr (F := F) c 20 ∗ Cr (F := F) c 21 ∗ Cr (F := F) c 22 ∗ Cr (F := F) c 23 ∗ Cr (F := F) c 24 ∗ Cr (F := F) c 25 ∗ Cr (F := F) c 26 ∗ Cr (F := F) c 27)
    ∗ (((c : Thread nD τ).loc main_arg0) ↦{fullShare} m ((c : Thread nD τ).loc main_arg0)) ∗ (((c : Thread nD τ).loc main_arg1) ↦{fullShare} m ((c : Thread nD τ).loc main_arg1))
    ∗ ∃ f : Buf (Elt F) ((c : Thread nD τ).loc main_v1), (((c : Thread nD τ).loc main_v1) ↦{fullShare} f))

def Φ₀ (c : Dev nD) : sProp 𝕄 := iprop(start m c ∗ Pipeline.scopedRest cfg0.spec c)
def Φ₁ (c : Dev nD) : sProp 𝕄 := iprop((unscopedSems0 c ∗ outs m c) ∗ Pipeline.ownSems0 osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg0 m c
    | ⟨1, _⟩ => xstg1 m c
  Φ t := match t with
    | ⟨0, _⟩ => Φ₀ m c
    | ⟨_ + 1, _⟩ => Φ₁ m c
  q _ := fullShare
  owed t := match t with
    | ⟨0, _⟩ => due c 0
    | ⟨_ + 1, _⟩ => 0

/-! ## The body -/

def bodyPre (c : Dev nD) : sProp 𝕄 :=
  iprop(Φ₀ m c ∗ (dats m ρ 0 c).owesAt 0 t0_0.castSucc
    ∗ (∃ d, ow c g2M fullShare ((dats m ρ 0 c).before (0 : Fin 2) t0_0 d))
    ∗ (∃ d, ow c g3M fullShare ((dats m ρ 0 c).before (1 : Fin 2) t0_0 d)))
def bodyPost (c : Dev nD) : sProp 𝕄 :=
  iprop(Φ₁ m c ∗ (dats m ρ 0 c).owesAt 0 t0_0.succ ∗ ow c g2M fullShare (xstg0 m c) ∗ ow c g3M fullShare (xstg1 m c))

theorem before_0 (c : Dev nD) (d) : (dats m ρ 0 c).before (0 : Fin 2) t0_0 d = xstg0 m c := by
  unfold Dat.before; rw [if_pos (fetch0_0 t0_0)]; rfl
theorem before_1 (c : Dev nD) (d) : (dats m ρ 0 c).before (1 : Fin 2) t0_0 d = xstg1 m c := by
  unfold Dat.before; rw [if_pos (fetch0_1 t0_0)]; rfl

theorem owes_in (c : Dev nD) : (dats m ρ 0 c).owesAt 0 t0_0.castSucc ⊢ Owes (F := F) c 0 := by
  unfold Dat.owesAt Pipeline.owesWithin Owes
  iintro ⟨%W, -, H⟩
  iexists W; iexact H
theorem owes_out (c : Dev nD) : Owes (F := F) c 24 ⊢ (dats m ρ 0 c).owesAt 0 t0_0.succ := by
  unfold Dat.owesAt Pipeline.owesWithin Owes
  iintro ⟨%W, H⟩
  iexists W
  isplitr
  · ipureintro; exact fun _ _ => Or.inl trivial
  · iexact H

theorem out_in (c : Dev nD) : (iprop(∃ f : Buf (Elt F) ((c : Thread nD τ).loc main_v1), (((c : Thread nD τ).loc main_v1) ↦{fullShare} f)) : sProp 𝕄)
    ⊢ iprop((∃ Y, ow (F := F) c (ou0 c) fullShare Y) ∗ (∃ Y, ow (F := F) c (ou1 c) fullShare Y) ∗ (∃ Y, ow (F := F) c (ou2 c) fullShare Y) ∗ (∃ Y, ow (F := F) c (ou3 c) fullShare Y) ∗ (∃ Y, ow (F := F) c (ou4 c) fullShare Y) ∗ (∃ Y, ow (F := F) c (ou5 c) fullShare Y) ∗ (∃ Y, ow (F := F) c (ou6 c) fullShare Y) ∗ (∃ Y, ow (F := F) c (ou7 c) fullShare Y)) := BIBase.Entails.trans (any_in c main_v1) (split_ou c)
theorem out_out (c : Dev nD) : (iprop(ow c (ou0 c) fullShare (em (V27 (xstg0 m c) (xstg1 m c)) (s03 m c)) ∗ ow c (ou1 c) fullShare (em (V27 (xstg0 m c) (xstg1 m c)) (s13 m c)) ∗ ow c (ou2 c) fullShare (em (V27 (xstg0 m c) (xstg1 m c)) (s23 m c)) ∗ ow c (ou3 c) fullShare (em (V27 (xstg0 m c) (xstg1 m c)) (s33 m c)) ∗ ow c (ou4 c) fullShare (em (V27 (xstg0 m c) (xstg1 m c)) (s43 m c)) ∗ ow c (ou5 c) fullShare (em (V27 (xstg0 m c) (xstg1 m c)) (s53 m c)) ∗ ow c (ou6 c) fullShare (em (V27 (xstg0 m c) (xstg1 m c)) (s63 m c)) ∗ ow c (ou7 c) fullShare (em (V27 (xstg0 m c) (xstg1 m c)) (s73 m c))) : sProp 𝕄)
    ⊢ iprop(∃ Z : Buf (Elt F) ((c : Thread nD τ).loc main_v1), ⌜Good m c Z⌝ ∗ (((c : Thread nD τ).loc main_v1) ↦{fullShare} Z)) := by
  refine BIBase.Entails.trans (show _ ⊢ _ from join_out c (res m c)) ?_
  iintro ⟨%X, %hX, H⟩
  iexists X
  isplitr
  · ipureintro; exact hX
  · iapply (whole_out c main_v1 X); iexact H

set_option maxHeartbeats 4000000 in
set_option maxRecDepth 8000 in
theorem sound (c : Dev nD) : bodyPre m ρ c ⊢ wpk c (cc0_body xM (Memref.isWhole_whole _) wM (Memref.isWhole_whole _) g2M (Memref.isWhole_whole _) g3M (Memref.isWhole_whole _) oM (Memref.isWhole_whole _) cA (Memref.isWhole_whole _) cB (Memref.isWhole_whole _) cC (Memref.isWhole_whole _) xfM (Memref.isWhole_whole _) wfM (Memref.isWhole_whole _) w8M (Memref.isWhole_whole _) acM (Memref.isWhole_whole _) obM (Memref.isWhole_whole _) cc0_scratch8 cc0_scratch9 cc0_scratch10 cc0_scratch11 cc0_scratch12) (fun _ => bodyPost m ρ c) := by
  unfold bodyPre Φ₀ start mine
  rw [scopedRest0_eq]
  iintro ⟨⟨⟨⟨%K, HR, Hat, Htok, H7⟩, Hcr, Hx, Hw, Ho⟩, ⟨SA, SB, SC, Sxf, Swf, Sw8, Sac, Sob⟩⟩, HO, ⟨%d0, g2⟩, ⟨%d1, g3⟩⟩
  ihave g2 := (Entails.of_eq (congrArg (fun X => ow c g2M fullShare X) (before_0 m ρ c d0))) $$ g2
  ihave g3 := (Entails.of_eq (congrArg (fun X => ow c g3M fullShare X) (before_1 m ρ c d1))) $$ g3
  ihave HO := (owes_in m ρ c) $$ HO
  ihave Hat := (waits_list m c) $$ Hat
  icases Hat with ⟨W0, W1, W2, W3, W4, W5, W6, W7, W8, W9, W10, W11, W12, W13, W14, W15, W16, W17, W18, W19, W20, W21, W22, W23, W24, W25, W26, W27⟩
  ihave Htok := (payToks_list (F := F) c) $$ Htok
  icases Htok with ⟨Tb0, Tb1, Tb2, Ts4, Tr4, Ts5, Tr5, Ts6, Tr6, Ts7, Tr7, Ts8, Tr8, Ts9, Tr9, Ts10, Tr10, Ts11, Tr11, Ts12, Tr12, Ts13, Tr13, Ts14, Tr14, Ts15, Tr15, Ts16, Tr16, Ts17, Tr17, Ts18, Tr18, Ts19, Tr19, Ts20, Tr20, Ts21, Tr21, Ts22, Tr22, Ts23, Tr23, Ts24, Tr24⟩
  unfold sem7
  icases H7 with ⟨lv0, lv1, lv2, lv3, lv4, ov0, ov1⟩
  icases Hcr with ⟨CB, C10_0, C11_0, C11_1, C12_0, C13_0, C13_1, C14_0, C15_0, C15_1, C16_0, C17_0, C18_0, C19_0, C20_0, C21_0, C22_0, C23_0, C24_0, C25_0, C26_0, C27_0⟩
  ihave SA := (open_A c) $$ SA
  icases SA with ⟨A0, A1, A2, A3, A4, A5, A6, A7⟩
  ihave SB := (open_B c) $$ SB
  icases SB with ⟨B0, B1, B2, B3, B4, B5, B6, B7⟩
  ihave SC := (open_C c) $$ SC
  icases SC with ⟨C0, C1, C2, C3, C4, C5, C6, C7⟩
  ihave Sxf := (open_xf c) $$ Sxf
  icases Sxf with ⟨xfA, xfB, xfC⟩
  ihave wf := (open_wf c) $$ Swf
  ihave Sw8 := (open_w8 c) $$ Sw8
  icases Sw8 with ⟨w8Lo, w8Hi⟩
  ihave Sac := (open_ac c) $$ Sac
  icases Sac with ⟨ac0, ac1, ac2, ac3, ac4, ac5, ac6, ⟨%X7, ac7⟩⟩
  ihave Sob := (open_ob c) $$ Sob
  icases Sob with ⟨ob0, ob1⟩
  ihave Ho := (out_in c) $$ Ho
  icases Ho with ⟨ou0, ou1, ou2, ou3, ou4, ou5, ou6, ou7⟩
  ihave Hx := (show (((c : Thread nD τ).loc main_arg0) ↦{fullShare} m ((c : Thread nD τ).loc main_arg0)) ⊢ _ from BIBase.Entails.trans (whole_in c main_arg0 _) (split_x m c)) $$ Hx
  icases Hx with ⟨xA, xB, xC⟩
  ihave Hw := (show (((c : Thread nD τ).loc main_arg1) ↦{fullShare} m ((c : Thread nD τ).loc main_arg1)) ⊢ _ from BIBase.Entails.trans (whole_in c main_arg1 _) (split_w m c)) $$ Hw
  icases Hw with ⟨wLo, wHi⟩
  ihave Bd0 := (bar_pay0 c) $$ [A1 B4 B5 B6 B7 C2 C3]
  · isplitl [A1]; · iexact A1
    isplitl [B4]; · iexact B4
    isplitl [B5]; · iexact B5
    isplitl [B6]; · iexact B6
    isplitl [B7]; · iexact B7
    isplitl [C2]; · iexact C2
    iexact C3
  ihave Bd1 := (bar_pay1 c) $$ [A2 A3 B1 C4 C5 C6 C7]
  · isplitl [A2]; · iexact A2
    isplitl [A3]; · iexact A3
    isplitl [B1]; · iexact B1
    isplitl [C4]; · iexact C4
    isplitl [C5]; · iexact C5
    isplitl [C6]; · iexact C6
    iexact C7
  ihave Bd2 := (bar_pay2 c) $$ [A4 A5 A6 A7 B2 B3 C1]
  · isplitl [A4]; · iexact A4
    isplitl [A5]; · iexact A5
    isplitl [A6]; · iexact A6
    isplitl [A7]; · iexact A7
    isplitl [B2]; · iexact B2
    isplitl [B3]; · iexact B3
    iexact C1
  iapply (body_run m K c (xstg0 m c) (xstg1 m c) X7 (Q := fun _ => bodyPost m ρ c)) $$ HR HO xA xB xC xfA xfB xfC wLo wHi w8Lo w8Hi wf A0 B0 C0 Bd0 Bd1 Bd2 ac0 ac1 ac2 ac3 ac4 ac5 ac6 ac7 ob0 ob1 ou0 ou1 ou2 ou3 ou4 ou5 ou6 ou7 lv0 lv1 lv2 lv3 lv4 ov0 ov1 g2 g3 Tb0 Tb1 Tb2 Ts4 Tr4 Ts5 Tr5 Ts6 Tr6 Ts7 Tr7 Ts8 Tr8 Ts9 Tr9 Ts10 Tr10 Ts11 Tr11 Ts12 Tr12 Ts13 Tr13 Ts14 Tr14 Ts15 Tr15 Ts16 Tr16 Ts17 Tr17 Ts18 Tr18 Ts19 Tr19 Ts20 Tr20 Ts21 Tr21 Ts22 Tr22 Ts23 Tr23 Ts24 Tr24 W0 W1 W2 W3 W4 W5 W6 W7 W8 W9 W10 W11 W12 W13 W14 W15 W16 W17 W18 W19 W20 W21 W22 W23 W24 W25 W26 W27 CB C10_0 C11_0 C11_1 C12_0 C13_0 C13_1 C14_0 C15_0 C15_1 C16_0 C17_0 C18_0 C19_0 C20_0 C21_0 C22_0 C23_0 C24_0 C25_0 C26_0 C27_0
  iintro HO ac0 ac1 ac2 ac3 ac4 ac5 ac6 ac7 g2 g3 V0 xfA xA lv0 A0L xfB xB lv1 B0L xfC xC lv2 C0L wLo lv3 wf wHi lv4 w8 V7 V14 C1L V1 V10 A1L V4 V12 B1L V8 V15 C2L C3L V2 V11 A2L A3L V5 V13 B2L B3L C4 V24 A4 V16 ou0 B4 V20 ou3 C5 V25 A5 V17 B5 V21 C6 V26 ou4 A6 V18 ou1 B6 V22 ou2 C0R C1R C2R C3R V9 C7 V27 A0R A1R A2R A3R V3 A7 V19 B0R B1R B2R B3R V6 B7 V23 ou7 ou5 ob0 ov0 ou6 ob1 ov1
  unfold bodyPost Φ₁ outs
  rw [scopedRest0_eq, unscopedSems0_eq]
  isplitr [HO g2 g3]
  · isplitl [V0 xA xB xC wLo wHi ou0 ou1 ou2 ou3 ou4 ou5 ou6 ou7]
    · isplitl [V0]; · iexact V0
      isplitl [xA xB xC]
      · iapply (show _ ⊢ (((c : Thread nD τ).loc main_arg0) ↦{fullShare} m ((c : Thread nD τ).loc main_arg0)) from BIBase.Entails.trans (join_x m c) (whole_out c main_arg0 _))
        isplitl [xA]; · iexact xA
        isplitl [xB]; · iexact xB
        iexact xC
      isplitl [wLo wHi]
      · iapply (show _ ⊢ (((c : Thread nD τ).loc main_arg1) ↦{fullShare} m ((c : Thread nD τ).loc main_arg1)) from BIBase.Entails.trans (join_w m c) (whole_out c main_arg1 _))
        isplitl [wLo]; · iexact wLo
        iexact wHi
      · iapply (out_out m c)
        isplitl [ou0]; · iexact ou0
        isplitl [ou1]; · iexact ou1
        isplitl [ou2]; · iexact ou2
        isplitl [ou3]; · iexact ou3
        isplitl [ou4]; · iexact ou4
        isplitl [ou5]; · iexact ou5
        isplitl [ou6]; · iexact ou6
        iexact ou7
    isplitl [lv0 lv1 lv2 lv3 lv4 ov0 ov1 V1 V2 V3 V4 V5 V6 V7 V8 V9 V10 V11 V12 V13 V14 V15 V16 V17 V18 V19 V20 V21 V22 V23 V24 V25 V26 V27]
    · iapply (sems_out c)
      unfold sem7 semD
      isplitl [lv0 lv1 lv2 lv3 lv4 ov0 ov1]
      · isplitl [lv0]; · iexact lv0
        isplitl [lv1]; · iexact lv1
        isplitl [lv2]; · iexact lv2
        isplitl [lv3]; · iexact lv3
        isplitl [lv4]; · iexact lv4
        isplitl [ov0]; · iexact ov0
        iexact ov1
      · isplitl [V1]; · iexact V1
        isplitl [V2]; · iexact V2
        isplitl [V3]; · iexact V3
        isplitl [V4]; · iexact V4
        isplitl [V5]; · iexact V5
        isplitl [V6]; · iexact V6
        isplitl [V7]; · iexact V7
        isplitl [V8]; · iexact V8
        isplitl [V9]; · iexact V9
        isplitl [V10]; · iexact V10
        isplitl [V11]; · iexact V11
        isplitl [V12]; · iexact V12
        isplitl [V13]; · iexact V13
        isplitl [V14]; · iexact V14
        isplitl [V15]; · iexact V15
        isplitl [V16]; · iexact V16
        isplitl [V17]; · iexact V17
        isplitl [V18]; · iexact V18
        isplitl [V19]; · iexact V19
        isplitl [V20]; · iexact V20
        isplitl [V21]; · iexact V21
        isplitl [V22]; · iexact V22
        isplitl [V23]; · iexact V23
        isplitl [V24]; · iexact V24
        isplitl [V25]; · iexact V25
        isplitl [V26]; · iexact V26
        iexact V27
    isplitl [A0L A0R A1L A1R A2L A2R A3L A3R A4 A5 A6 A7]
    · iapply (reclose_A c _ _ _ _ _ _ _ _)
      isplitl [A0L]; · iexact A0L
      isplitl [A0R]; · iexact A0R
      isplitl [A1L]; · iexact A1L
      isplitl [A1R]; · iexact A1R
      isplitl [A2L]; · iexact A2L
      isplitl [A2R]; · iexact A2R
      isplitl [A3L]; · iexact A3L
      isplitl [A3R]; · iexact A3R
      isplitl [A4]; · iexact A4
      isplitl [A5]; · iexact A5
      isplitl [A6]; · iexact A6
      iexact A7
    isplitl [B0L B0R B1L B1R B2L B2R B3L B3R B4 B5 B6 B7]
    · iapply (reclose_B c _ _ _ _ _ _ _ _)
      isplitl [B0L]; · iexact B0L
      isplitl [B0R]; · iexact B0R
      isplitl [B1L]; · iexact B1L
      isplitl [B1R]; · iexact B1R
      isplitl [B2L]; · iexact B2L
      isplitl [B2R]; · iexact B2R
      isplitl [B3L]; · iexact B3L
      isplitl [B3R]; · iexact B3R
      isplitl [B4]; · iexact B4
      isplitl [B5]; · iexact B5
      isplitl [B6]; · iexact B6
      iexact B7
    isplitl [C0L C0R C1L C1R C2L C2R C3L C3R C4 C5 C6 C7]
    · iapply (reclose_C c _ _ _ _ _ _ _ _)
      isplitl [C0L]; · iexact C0L
      isplitl [C0R]; · iexact C0R
      isplitl [C1L]; · iexact C1L
      isplitl [C1R]; · iexact C1R
      isplitl [C2L]; · iexact C2L
      isplitl [C2R]; · iexact C2R
      isplitl [C3L]; · iexact C3L
      isplitl [C3R]; · iexact C3R
      isplitl [C4]; · iexact C4
      isplitl [C5]; · iexact C5
      isplitl [C6]; · iexact C6
      iexact C7
    isplitl [xfA xfB xfC]
    · iapply (close_xf c)
      isplitl [xfA]; · iapply (own_any c xfA _); iexact xfA
      isplitl [xfB]; · iapply (own_any c xfB _); iexact xfB
      iapply (own_any c xfC _); iexact xfC
    isplitl [wf]
    · iapply (any_out c cc0_scratch4); iapply (own_any c wfM _); iexact wf
    isplitl [w8]
    · iapply (any_out c cc0_scratch5); iapply (own_any c w8M _); iexact w8
    isplitl [ac0 ac1 ac2 ac3 ac4 ac5 ac6 ac7]
    · iapply (close_ac c)
      isplitl [ac0]; · iapply (own_any c ac0 _); iexact ac0
      isplitl [ac1]; · iapply (own_any c ac1 _); iexact ac1
      isplitl [ac2]; · iapply (own_any c ac2 _); iexact ac2
      isplitl [ac3]; · iapply (own_any c ac3 _); iexact ac3
      isplitl [ac4]; · iapply (own_any c ac4 _); iexact ac4
      isplitl [ac5]; · iapply (own_any c ac5 _); iexact ac5
      isplitl [ac6]; · iapply (own_any c ac6 _); iexact ac6
      iapply (own_any c ac7 _); iexact ac7
    · iapply (close_ob c)
      isplitl [ob0]; · iapply (own_any c ob0 _); iexact ob0
      iapply (own_any c ob1 _); iexact ob1
  · isplitl [HO]; · iapply (owes_out m ρ c); iexact HO
    isplitl [g2] <;> iassumption

end Run

end Cert.KProof

end
-- ==== Proof.Run.lean ====
module

public import proofs.«01_k».proof.Proof.Launch
public import Idealize.ShloMosaic.Lib.Pipeline.Launch
public import Idealize.ShloMosaic.Lib.Pipeline.Kit
public import Idealize.ShloMosaic.Lib.Pipeline.CollectiveSegs

/-! The run of @main on eight devices: it ends, leaves the arguments as they were, and each result holds its eight blocks of rows. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

section Run
variable (m : (ℓ : Loc nD τ sig) → Buf (Elt F) ℓ) (ρ : Dev nD → PrngReg)

set_option maxRecDepth 100000 in
theorem body_obligation (c : Dev nD) : BodyObligation (dats (F := F) m ρ 0 c) (defs₀ (F := F)) 𝒱₀ 0 Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  exact sound m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts LL lv
        ∗ Pipeline.launchCred (fun d => due d 0) c ∗ prngReg c (ρ c) ∗ G' m c)
      ⊢ |={Set.univ}=> iprop(start m c ∗ emp) := by
  rw [Pipeline.unscopedRestP_none, unscopedRest0_eq]
  unfold start G' invs
  iintro ⟨⟨Hx, Hw, Ho⟩, #Hlev, Hcr, -, ⟨%K, ⟨#HI, #HR⟩, Hmine⟩⟩
  ihave Hc := (creds (F := F) c) $$ Hcr
  imodintro
  isplitl
  · isplitl [Hmine]
    · iexists K
      isplitr
      · unfold recs
        isplitr; · iexact HI
        isplitr; · iexact HR
        iexact Hlev
      · iexact Hmine
    isplitl [Hc]; · iexact Hc
    isplitl [Hx]; · iexact Hx
    isplitl [Hw]; · iexact Hw
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ outs m c) ∗ Pipeline.ownSems0 osem c ∗ Pipeline.scopedRest cfg0.spec c) :=
  BI.Entails.refl _

theorem waits (c : Dev nD) : (levAts LL lv : sProp 𝕄) ⊢ Pipeline.cellsWaits cfgs (dats m ρ) 0 0 c :=
  Pipeline.cellsWaits_intro cfgs (dats m ρ) 0 0 c fun w s t => by
    rcases t with ⟨_ | _, ht⟩
    · exact mayWait_at c _ 0 0 (by decide) fun x hx => lvl_pos x hx
    · have := mayWait_at (F := F) c (.dma (((cfgs 0).win w).sem s)) 0 24 (by decide) (fun x hx => absurd hx (by decide +revert))
      rw [due_end] at this
      exact this

/-- What is owned of a location is what the memory holds there. -/
theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := ℕ) (Name := ℕ) (U := UU) (Lvl := ℕ) (q := fullShare) ({()} : Finset Unit) (fun _ => ℓ) (fun _ => f) s'
  rw [bigSep_singleton] at h
  refine BIBase.Entails.trans h ?_
  iintro ⟨%h, H⟩
  isplitr
  · ipureintro; exact h () (Finset.mem_singleton_self _)
  · iexact H

/-- What the run leaves of device `c`: its semaphores at zero, its two blocks unchanged, its result's blocks of rows at their values. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ Good m c (s.mem ((c : Thread nD τ).loc main_v1))

theorem left_read (c : Dev nD) (s' : Phys nD τ sig (Elt F)) :
    (iprop((unscopedSems0 c ∗ outs m c) ∗ emp ∗ SI s') : sProp 𝕄) ⊢ |={Set.univ}=> iprop(⌜Left m c s'.mem⌝ ∗ SI s') := by
  unfold outs
  iintro ⟨⟨Hu, Hx, Hw, ⟨%Z, %hZ, Ho⟩⟩, -, HSI⟩
  ihave H := (read_one _ _ s') $$ [Hx HSI]
  · isplitl [Hx] <;> iassumption
  icases H with ⟨%h0, HSI⟩
  ihave H := (read_one _ _ s') $$ [Hw HSI]
  · isplitl [Hw] <;> iassumption
  icases H with ⟨%h1, HSI⟩
  ihave H := (read_one _ _ s') $$ [Ho HSI]
  · isplitl [Ho] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro
    exact ⟨h3, h0, h1, by rw [h2]; exact hZ⟩
  · iexact HSI

/-- What the run of @main leaves: the four arguments unchanged and the result's blocks of rows at their values, on every device. -/
def Ran (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ Good m c (r.2.mem ((c : Thread nD τ).loc main_v1))) ∧ r.2.sem = fun _ => 0

set_option maxRecDepth 100000 in
/-- On eight devices, for any float values, from any memory with zero counters: every weakly fair execution of @main
    ends, and in every final state the arguments are unchanged, each device's result holds its eight blocks of
    rows at their values, and every semaphore's count is zero. -/
theorem run_main : θ_run defs (onTc (τ := τ) (main (F := F))) (s₀ m ρ) (Ran m) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => due c 0) (howed₀ := fun _ => rfl) (howedN := fun _ => rfl)
    (L := LL) (lv := lv) (hL := SiteBlocks.hL 5) (hwaits := waits m ρ)
    (G := G m) (G' := G' m) (u₀ := u₀)
    (hu₀ := by
      unfold u₀
      iintro Hu
      ihave H := (ownU_pair _ _) $$ Hu
      icases H with ⟨HP, HX⟩
      imod (show (own (embR (initOf kCells kToks, (1 : Counters))) : sProp 𝕄) ⊢ _ from fund_cells m) $$ HX with HG
      imodintro
      isplitl [HP] <;> iassumption)
    (hglob := glob m)
    (hA := fun _ _ => rfl) (hpf := fun _ k => k.elim0)
    (X := start m) (Y := fun c => iprop(unscopedSems0 c ∗ outs m c)) (Z := fun _ => iprop(emp))
    (hX := start_intro m ρ) (hin := phi0_intro m ρ) (hout := phi1_exit m ρ)
    (QY := fun c s => Left m c s)
    (hY := fun c s' => left_read m c s')
    (hQ := fun _ h hs => ⟨fun c => ⟨(h c).2.2.2.1, (h c).2.2.2.2.1,
        ((h c).1 (0 : Fin 2)).trans ((dats (F := F) m ρ 0 c).arrAt_in (0 : Fin 2) rfl _),
        ((h c).1 (1 : Fin 2)).trans ((dats (F := F) m ρ 0 c).arrAt_in (1 : Fin 2) rfl _),
        (h c).2.2.2.2.2⟩, sem_eq_zero hs fun c => (h c).2.2.1⟩)

end Run

end Cert.KProof

end
-- ==== Proof.Value.lean ====
/- At exact arithmetic: what the kernel leaves in a device's result is that device's columns of the whole product, scaled
   and clamped at zero. The three stripes of the contraction, in whatever order they were added, make up the whole sum. -/
module

public import proofs.«01_k».proof.Proof.Run
public import proofs.«01_k».proof.Proof.Gen.ReferenceIdeal.Run
public import Idealize.ShloMosaic.Lib.Pointwise

@[expose] public section

noncomputable section

namespace Cert.KProof

open Idealize.ShloMosaic Idealize.ShloMosaic.TcCoe Idealize.SL.Sem
open Cert.KernelIdeal Cert.KernelIdeal.Gen
open scoped BigOperators

variable (mm : (ℓ : Loc nD τ sig) → Buf (Elt Ideal) ℓ)

/-! ## The payloads at an element -/

/-- A wide stripe's product into nothing, at an element: the sum over the stripe. -/
theorem m1_apply (x : FVec Ideal S512x1408 .fp8e4m3) (w : FVec Ideal S1408x1024 .fp8e4m3) (r : Fin 512) (l : Fin 1024) :
    m1 x w (ix2 r l) = ∑ k : Fin 1408, x (ix2 r k) * w (ix2 k l) := by
  unfold m1 k0_pay6
  pointwise

/-- A narrow stripe's product into nothing. -/
theorem m2_apply (x : FVec Ideal S512x1280 .fp8e4m3) (w : FVec Ideal S1280x1024 .fp8e4m3) (r : Fin 512) (l : Fin 1024) :
    m2 x w (ix2 r l) = ∑ k : Fin 1280, x (ix2 r k) * w (ix2 k l) := by
  unfold m2 k0_pay14
  pointwise

/-- A wide stripe's product onto a sum. -/
theorem a1_apply (x : FVec Ideal S512x1408 .fp8e4m3) (w : FVec Ideal S1408x1024 .fp8e4m3) (a : FVec Ideal S512x1024 .f32) (r : Fin 512) (l : Fin 1024) :
    a1 x w a (ix2 r l) = a (ix2 r l) + ∑ k : Fin 1408, x (ix2 r k) * w (ix2 k l) := by
  unfold a1 k0_pay8
  pointwise

/-- A narrow stripe's product onto a sum. -/
theorem a2_apply (x : FVec Ideal S512x1280 .fp8e4m3) (w : FVec Ideal S1280x1024 .fp8e4m3) (a : FVec Ideal S512x1024 .f32) (r : Fin 512) (l : Fin 1024) :
    a2 x w a (ix2 r l) = a (ix2 r l) + ∑ k : Fin 1280, x (ix2 r k) * w (ix2 k l) := by
  unfold a2 k0_pay9
  pointwise

/-- The epilogue at an element: times the scale, and the larger of that and zero. -/
theorem em_apply (s : Ideal .f32) (a : FVec Ideal S512x1024 .f32) (r : Fin 512) (l : Fin 1024) :
    em s a (ix2 r l) = max (a (ix2 r l) * s) (0 : EReal) := by
  unfold em k0_pay10
  pointwise

/-! ## The three stripes -/

/-- A sum over the whole contraction is the sums over its three stripes. -/
theorem sum_stripes (f : Fin 4096 → EReal) : ∑ k : Fin 4096, f k
    = (∑ k : Fin 1408, f ⟨k.val, by have := k.isLt; omega⟩) + (∑ k : Fin 1408, f ⟨1408 + k.val, by have := k.isLt; omega⟩)
      + ∑ k : Fin 1280, f ⟨2816 + k.val, by have := k.isLt; omega⟩ := by
  rw [show (∑ k : Fin 4096, f k) = ∑ k : Fin (2816 + 1280), f k from rfl, Fin.sum_univ_add]
  rw [show (∑ k : Fin 2816, f (Fin.castAdd 1280 k)) = ∑ k : Fin (1408 + 1408), f (Fin.castAdd 1280 k) from rfl, Fin.sum_univ_add]
  rfl

/-- One stripe's share of an element of the product of device `o`'s rows with device `c`'s columns. -/
def pA (o c : Dev nD) (r : Fin 512) (l : Fin 1024) : EReal := ∑ k : Fin 1408, xv mm o (ix2 r ⟨k.val, by have := k.isLt; omega⟩) * wv mm c (ix2 ⟨k.val, by have := k.isLt; omega⟩ l)
def pB (o c : Dev nD) (r : Fin 512) (l : Fin 1024) : EReal := ∑ k : Fin 1408, xv mm o (ix2 r ⟨1408 + k.val, by have := k.isLt; omega⟩) * wv mm c (ix2 ⟨1408 + k.val, by have := k.isLt; omega⟩ l)
def pC (o c : Dev nD) (r : Fin 512) (l : Fin 1024) : EReal := ∑ k : Fin 1280, xv mm o (ix2 r ⟨2816 + k.val, by have := k.isLt; omega⟩) * wv mm c (ix2 ⟨2816 + k.val, by have := k.isLt; omega⟩ l)

theorem XA_apply (o : Dev nD) (r : Fin 512) (k : Fin 1408) : XA mm o (ix2 r k) = xv mm o (ix2 r ⟨k.val, by have := k.isLt; omega⟩) := by
  unfold XA k0_pay2
  rw [shapeCast_self]
  show xv mm o (rXA.emb (ix2 r k)) = _
  congr 1; funext a; apply Fin.ext
  match a with
  | ⟨0, _⟩ => show 0 + 1 * r.val = r.val; omega
  | ⟨1, _⟩ => show 0 + 1 * k.val = k.val; omega

theorem XB_apply (o : Dev nD) (r : Fin 512) (k : Fin 1408) : XB mm o (ix2 r k) = xv mm o (ix2 r ⟨1408 + k.val, by have := k.isLt; omega⟩) := by
  unfold XB k0_pay3
  rw [shapeCast_self]
  show xv mm o (rXB.emb (ix2 r k)) = _
  congr 1; funext a; apply Fin.ext
  match a with
  | ⟨0, _⟩ => show 0 + 1 * r.val = r.val; omega
  | ⟨1, _⟩ => show 1408 + 1 * k.val = 1408 + k.val; omega

theorem XC_apply (o : Dev nD) (r : Fin 512) (k : Fin 1280) : XC mm o (ix2 r k) = xv mm o (ix2 r ⟨2816 + k.val, by have := k.isLt; omega⟩) := by
  unfold XC k0_pay4
  rw [shapeCast_self]
  show xv mm o (rXC.emb (ix2 r k)) = _
  congr 1; funext a; apply Fin.ext
  match a with
  | ⟨0, _⟩ => show 0 + 1 * r.val = r.val; omega
  | ⟨1, _⟩ => show 2816 + 1 * k.val = 2816 + k.val; omega

theorem WA_apply (c : Dev nD) (k : Fin 1408) (l : Fin 1024) : WA mm c (ix2 k l) = wv mm c (ix2 ⟨k.val, by have := k.isLt; omega⟩ l) := by
  show wv mm c (rWA.emb (ix2 k l)) = _
  congr 1; funext a; apply Fin.ext
  match a with
  | ⟨0, _⟩ => show 0 + 1 * k.val = k.val; omega
  | ⟨1, _⟩ => show 0 + 1 * l.val = l.val; omega

theorem WB_apply (c : Dev nD) (k : Fin 1408) (l : Fin 1024) : WB mm c (ix2 k l) = wv mm c (ix2 ⟨1408 + k.val, by have := k.isLt; omega⟩ l) := by
  show wv mm c (rWB.emb (ix2 k l)) = _
  congr 1; funext a; apply Fin.ext
  match a with
  | ⟨0, _⟩ => show 1408 + 1 * k.val = 1408 + k.val; omega
  | ⟨1, _⟩ => show 0 + 1 * l.val = l.val; omega

theorem WC_apply (c : Dev nD) (k : Fin 1280) (l : Fin 1024) : WC mm c (ix2 k l) = wv mm c (ix2 ⟨2816 + k.val, by have := k.isLt; omega⟩ l) := by
  show wv mm c (rWC.emb (ix2 k l)) = _
  congr 1; funext a; apply Fin.ext
  match a with
  | ⟨0, _⟩ => show 2816 + 1 * k.val = 2816 + k.val; omega
  | ⟨1, _⟩ => show 0 + 1 * l.val = l.val; omega

theorem m1A (o c : Dev nD) (r : Fin 512) (l : Fin 1024) : m1 (XA mm o) (WA mm c) (ix2 r l) = pA mm o c r l := by
  rw [m1_apply]; exact Finset.sum_congr rfl fun k _ => by rw [XA_apply, WA_apply]
theorem m1B (o c : Dev nD) (r : Fin 512) (l : Fin 1024) : m1 (XB mm o) (WB mm c) (ix2 r l) = pB mm o c r l := by
  rw [m1_apply]; exact Finset.sum_congr rfl fun k _ => by rw [XB_apply, WB_apply]
theorem m2C (o c : Dev nD) (r : Fin 512) (l : Fin 1024) : m2 (XC mm o) (WC mm c) (ix2 r l) = pC mm o c r l := by
  rw [m2_apply]; exact Finset.sum_congr rfl fun k _ => by rw [XC_apply, WC_apply]
theorem a1A (o c : Dev nD) (a : FVec Ideal S512x1024 .f32) (r : Fin 512) (l : Fin 1024) : a1 (XA mm o) (WA mm c) a (ix2 r l) = a (ix2 r l) + pA mm o c r l := by
  rw [a1_apply]; exact congrArg (a (ix2 r l) + ·) (Finset.sum_congr rfl fun k _ => by rw [XA_apply, WA_apply])
theorem a1B (o c : Dev nD) (a : FVec Ideal S512x1024 .f32) (r : Fin 512) (l : Fin 1024) : a1 (XB mm o) (WB mm c) a (ix2 r l) = a (ix2 r l) + pB mm o c r l := by
  rw [a1_apply]; exact congrArg (a (ix2 r l) + ·) (Finset.sum_congr rfl fun k _ => by rw [XB_apply, WB_apply])
theorem a2C (o c : Dev nD) (a : FVec Ideal S512x1024 .f32) (r : Fin 512) (l : Fin 1024) : a2 (XC mm o) (WC mm c) a (ix2 r l) = a (ix2 r l) + pC mm o c r l := by
  rw [a2_apply]; exact congrArg (a (ix2 r l) + ·) (Finset.sum_congr rfl fun k _ => by rw [XC_apply, WC_apply])

/-- Whatever order its stripes were added in, a finished block is the whole product of its device's rows with the
    device's own columns. -/
theorem fin_apply (c : Dev nD) (o : Fin 8) (r : Fin 512) (l : Fin 1024) :
    fin mm c o (ix2 r l) = ∑ k : Fin 4096, xv mm (xo c o.val) (ix2 r k) * wv mm c (ix2 k l) := by
  have H : fin mm c o (ix2 r l) = pA mm (xo c o.val) c r l + pB mm (xo c o.val) c r l + pC mm (xo c o.val) c r l := by
    match o with
    | 0 => show s03 mm c _ = _; unfold s03 s02 s01; rw [a2C, a1B, m1A]; rfl
    | 1 => show s13 mm c _ = _; unfold s13 s12 s11; rw [a1B, a2C, m1A]; exact add_right_comm _ _ _
    | 2 => show s23 mm c _ = _; unfold s23 s22 s21; rw [a2C, a1B, m1A]; rfl
    | 3 => show s33 mm c _ = _; unfold s33 s32 s31; rw [a2C, a1A, m1B]; exact congrArg (· + _) (add_comm _ _)
    | 4 => show s43 mm c _ = _; unfold s43 s42 s41; rw [a1A, a1B, m2C]; exact (add_comm _ _).trans ((congrArg (_ + ·) (add_comm _ _)).trans (add_assoc _ _ _).symm)
    | 5 => show s53 mm c _ = _; unfold s53 s52 s51; rw [a1B, a1A, m2C]; exact (add_assoc _ _ _).trans (add_comm _ _)
    | 6 => show s63 mm c _ = _; unfold s63 s62 s61; rw [a1B, a1A, m2C]; exact (add_assoc _ _ _).trans (add_comm _ _)
    | 7 => show s73 mm c _ = _; unfold s73 s72 s71; rw [a1A, a2C, m1B]; exact (add_comm _ _).trans (add_assoc _ _ _).symm
  rw [H, sum_stripes]
  rfl

/-! ## The reference -/

/-- The reference's result from its arrays. -/
def refOut (A : FVec Ideal ReferenceIdeal.S4096x4096 .f32) (B : FVec Ideal ReferenceIdeal.S4096x8192 .f32) (s t : FVec Ideal ReferenceIdeal.S1 .f32) : FVec Ideal ReferenceIdeal.S4096x8192 .f32 :=
  maximumf (mulf (Host.dotGeneral ReferenceIdeal.dot_S4096x4096_S4096x8192_S4096x8192_1_0_0_1_n_n none A B)
    (broadcastInDim ReferenceIdeal.S4096x8192 ![0, 1] ReferenceIdeal.Gen.facts.bcast_S1x1_S4096x8192_0_1 (broadcastInDim ReferenceIdeal.S1x1 ![1] ReferenceIdeal.Gen.facts.bcast_S1_S1x1_1 (mulf s t))))
    (broadcastInDim ReferenceIdeal.S4096x8192 ![] ReferenceIdeal.Gen.facts.bcast_S_S4096x8192 (constant ReferenceIdeal.S_ .f32 0x00000000#32))

/-- At an element: the sum of products, times the product of the scales, and the larger of that and zero. -/
theorem refOut_apply (A : FVec Ideal ReferenceIdeal.S4096x4096 .f32) (B : FVec Ideal ReferenceIdeal.S4096x8192 .f32) (s t : FVec Ideal ReferenceIdeal.S1 .f32) (r : Fin 4096) (l : Fin 8192) :
    refOut A B s t (ix2 r l) = max ((∑ k : Fin 4096, A (ix2 r k) * B (ix2 k l)) * (s (ix1 0) * t (ix1 0))) (0 : EReal) := by
  unfold refOut
  pointwise

/-! ## The kernel's result against the reference's -/

/-- Where an element of a block of 512 whole rows lies. -/
theorem emb_row {off : Fin 2 → ℕ} {q : ℕ} (e : off = ![512 * q, 0]) (inb : ∀ a, off a + S512x1024.size a ≤ S4096x1024.size a) (r : Fin 512) (l : Fin 1024)
    {hq : 512 * q + r.val < 4096} : ((Rect.unit (s := S4096x1024) off S512x1024.size inb).emb (ix2 r l : S512x1024.Idx) : S4096x1024.Idx) = ix2 ⟨512 * q + r.val, hq⟩ l := by
  subst e
  funext a; apply Fin.ext
  match a with
  | ⟨0, _⟩ => show 512 * q + 1 * r.val = 512 * q + r.val; omega
  | ⟨1, _⟩ => show 0 + 1 * l.val = l.val; omega

variable (m : (ℓ : Loc nD τ sig) → Buf (Elt Ideal) ℓ)

/-- A good result, in the rows of the device at exclusive-or `t`: that block, scaled and clamped. -/
theorem good_row (c : Dev nD) (Z : S4096x1024.Idx → Ideal .f32) (h : Good m c Z) (t : Fin 8) (r : Fin 512) (l : Fin 1024)
    (hq : 512 * (xo c t.val).val + r.val < 4096) : Z (ix2 ⟨512 * (xo c t.val).val + r.val, hq⟩ l) = res m c t (ix2 r l) := by
  match t, hq with
  | 0, hq => exact (emb_row (out_off0 c) (k0_off1_inb c 0) r l (hq := hq)) ▸ h 0 (ix2 r l : S512x1024.Idx)
  | 1, hq => exact (emb_row (out_off1 c) (k0_off1_inb c 1) r l (hq := hq)) ▸ h 1 (ix2 r l : S512x1024.Idx)
  | 2, hq => exact (emb_row (out_off2 c) (k0_off1_inb c 2) r l (hq := hq)) ▸ h 2 (ix2 r l : S512x1024.Idx)
  | 3, hq => exact (emb_row (out_off3 c) (k0_off1_inb c 3) r l (hq := hq)) ▸ h 3 (ix2 r l : S512x1024.Idx)
  | 4, hq => exact (emb_row (out_off4 c) (k0_off1_inb c 4) r l (hq := hq)) ▸ h 4 (ix2 r l : S512x1024.Idx)
  | 5, hq => exact (emb_row (out_off5 c) (k0_off1_inb c 5) r l (hq := hq)) ▸ h 5 (ix2 r l : S512x1024.Idx)
  | 6, hq => exact (emb_row (out_off6 c) (k0_off1_inb c 6) r l (hq := hq)) ▸ h 6 (ix2 r l : S512x1024.Idx)
  | 7, hq => exact (emb_row (out_off7 c) (k0_off1_inb c 7) r l (hq := hq)) ▸ h 7 (ix2 r l : S512x1024.Idx)

/-- The device's two scales. -/
def sx (c : Dev nD) : S1.Idx → EReal := m ((c : Thread nD τ).loc main_arg2)
def sw (c : Dev nD) : S1.Idx → EReal := m ((c : Thread nD τ).loc main_arg3)

/-- An array of one element has one index. -/
theorem idx1_eq (i j : S1.Idx) : i = j := by
  funext a; apply Fin.ext
  match a with
  | ⟨0, _⟩ => have hi : (i 0).val < 1 := (i 0).isLt; have hj : (j 0).val < 1 := (j 0).isLt; show (i 0).val = (j 0).val; omega

/-- What the kernel scales by is their product. -/
theorem scale_eq (c : Dev nD) : V27 (xstg0 m c) (xstg1 m c)
    = sx m c (ix1 0) * sw m c (ix1 0) := by
  have h0 (p : S1.Idx) : xstg0 m c p = sx m c (ix1 0) := by
    unfold xstg0; rw [View.read_apply]; exact congrArg (sx m c) (idx1_eq _ _)
  have h1 (p : S1.Idx) : xstg1 m c p = sw m c (ix1 0) := by
    unfold xstg1; rw [View.read_apply]; exact congrArg (sw m c) (idx1_eq _ _)
  unfold V27 k0_pay1
  rw [h0, h1]
  rfl

/-- What a good result holds at an element: the sum of products of its row of the device that owns it with the device's
    own column, times the scales, and the larger of that and zero. -/
theorem good_apply (c : Dev nD) (Z : S4096x1024.Idx → Ideal .f32) (h : Good m c Z) (d : Dev nD) (r : Fin 512) (l : Fin 1024)
    (hq : 512 * d.val + r.val < 4096) : Z (ix2 ⟨512 * d.val + r.val, hq⟩ l)
      = max ((∑ k : Fin 4096, xv m d (ix2 r k) * wv m c (ix2 k l))
          * (sx m c (ix1 0) * sw m c (ix1 0))) (0 : EReal) := by
  obtain ⟨t, rfl⟩ : ∃ t : Fin 8, xo c t.val = d := ⟨xo c d.val, xo_self c d⟩
  rw [good_row m c Z h t r l hq]
  unfold res
  rw [em_apply, fin_apply, scale_eq]

/-- A good result is the device's columns of the reference's, when its arguments are its parts of the reference's. -/
theorem good_block (c : Dev nD) (Z : S4096x1024.Idx → Ideal .f32) (h : Good m c Z)
    (A : FVec Ideal ReferenceIdeal.S4096x4096 .f32) (B : FVec Ideal ReferenceIdeal.S4096x8192 .f32) (s t : FVec Ideal ReferenceIdeal.S1 .f32)
    (hA : ∀ d : Dev nD, xv m d = Layout.block ⟨2, ![512, 4096]⟩ ⟨2, ![4096, 4096]⟩ 0 8 d A)
    (hB : wv m c = Layout.block ⟨2, ![4096, 1024]⟩ ⟨2, ![4096, 8192]⟩ 1 8 c B)
    (hs : sx m c = s) (ht : sw m c = t) :
    Z = Layout.block ⟨2, ![4096, 1024]⟩ ⟨2, ![4096, 8192]⟩ 1 8 c (refOut A B s t) := by
  funext i
  obtain ⟨a, l, rfl⟩ : ∃ (a : Fin 4096) (l : Fin 1024), i = ix2 a l := ⟨i 0, i 1, ValueIdx.eq_ix2 i⟩
  have ha := a.isLt
  have hl := l.isLt
  have hc : c.val < 8 := c.isLt
  obtain ⟨d, r, hq, rfl⟩ : ∃ (d : Dev nD) (r : Fin 512) (hq : 512 * d.val + r.val < 4096), a = ⟨512 * d.val + r.val, hq⟩ :=
    ⟨⟨a.val / 512, by show _ < 8; omega⟩, ⟨a.val % 512, by omega⟩, by show 512 * (a.val / 512) + a.val % 512 < 4096; omega,
      Fin.ext (by show a.val = 512 * (a.val / 512) + a.val % 512; omega)⟩
  rw [good_apply m c Z h d r l hq, hs, ht, Layout.block_apply]
  have e {hT : Layout.Tiles ⟨2, ![4096, 1024]⟩ ⟨2, ![4096, 8192]⟩ 1 8} : hT.idx c (ix2 ⟨512 * d.val + r.val, hq⟩ l) = ix2 ⟨512 * d.val + r.val, hq⟩ ⟨c.val * 1024 + l.val, by omega⟩ := by
    funext b; apply Fin.ext
    match b with
    | ⟨0, _⟩ => rfl
    | ⟨1, _⟩ => rfl
  rw [e, refOut_apply]
  refine congrArg (fun z : EReal => max (z * (s (ix1 0) * t (ix1 0))) (0 : EReal)) (Finset.sum_congr rfl fun k _ => ?_)
  rw [hA, hB, Layout.block_apply, Layout.block_apply]
  congr 2
  · funext b; apply Fin.ext
    match b with
    | ⟨0, _⟩ => show d.val * 512 + r.val = 512 * d.val + r.val; omega
    | ⟨1, _⟩ => rfl
  · funext b; apply Fin.ext
    match b with
    | ⟨0, _⟩ => rfl
    | ⟨1, _⟩ => rfl

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.KProof

open Idealize.ShloMosaic Idealize.SL.Sem

variable {F : FTy → Type} [FloatOps F]

/-- The two programs' kernel bodies are one text: at the one label there is, both tables give the same program. -/
theorem same_defs₀ : Cert.Kernel.defs₀ (F := F) = Cert.KernelIdeal.defs₀ (F := F) :=
  congrArg (Defs.onTc (nD := Cert.Kernel.nD) (τ := Cert.Kernel.τ) (sig := Cert.Kernel.sig) (Val := Elt F) (Λ := Cert.Kernel.Λ₀))
    (funext fun l => funext fun _ => by
      obtain ⟨l, hl⟩ := l
      cases l with
      | zero => exact rfl
      | succ n => exact absurd hl (Nat.not_lt.2 (Nat.le_add_left _ _)))

/-- So are the programs' body tables. -/
theorem same_defs : Cert.Kernel.defs (F := F) = Cert.KernelIdeal.defs (F := F) :=
  congrArg (Pipeline.defs (Cert.Kernel.pcfgs (F := F))) same_defs₀

end Cert.KProof

namespace Cert.Proof

open Idealize.ShloMosaic Idealize.SL.Sem

/-- The kernel as it is printed: it ends, its arguments unchanged, every semaphore at zero. Its text is the idealized
    program's, so the one run proves it. -/
theorem frame_kernel : Cert.quiescent_Kernel := by
  intro m ρ _
  rw [Cert.KProof.same_defs]
  exact (θ_run Cert.KernelIdeal.defs _ _).mono
    (fun _ h => ⟨fun c => ⟨(h.1 c).1, (h.1 c).2.1, (h.1 c).2.2.1, (h.1 c).2.2.2.1⟩, h.2⟩)
    (Cert.KProof.run_main (F := Bits) m ρ)

/-- The same of the kernel at exact arithmetic. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KProof.run_main (F := Ideal) m ρ)

/-- The reference ends, its arguments unchanged; it declares no semaphore, so none is above zero. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- At exact arithmetic every device's result is its columns of the reference's, when its arguments are its parts of
    the reference's. -/
theorem algebraic : Cert.algebraic_KernelIdeal_ReferenceIdeal := by
  intro m g m' g' _ hm
  refine ⟨_, ?_, (θ_run Cert.ReferenceIdeal.defs _ _).mono (fun _ h => h 0) (Cert.ReferenceIdeal.Value.run m' g')⟩
  refine (θ_run Cert.KernelIdeal.defs _ _).mono (fun r h c => ⟨?_, (h.1 c).1, (h.1 c).2.1, (h.1 c).2.2.1, (h.1 c).2.2.2.1⟩)
    (Cert.KProof.run_main (F := Ideal) m g)
  exact Cert.KProof.good_block m c _ (h.1 c).2.2.2.2 _ _ _ _ (fun d => (hm d).1) (hm c).2.1 (hm c).2.2.1 (hm c).2.2.2

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
